-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def preserves_Kernel_KernelIdeal : Prop :=
  IdealRules.named_const.Statement Cert.KernelIdeal.κ "sb_exit" .f32 0xC2D00000#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)) (v1 : (c : Dev Cert.Kernel4Ideal.nD) → Buf (Elt Ideal) ((c.tc : Thread Cert.Kernel4Ideal.nD Cert.Kernel4Ideal.τ).loc Cert.Kernel4Ideal.main_v3)) (v2 : (c : Dev Cert.Kernel4Ideal.nD) → Buf (Elt Ideal) ((c.tc : Thread Cert.Kernel4Ideal.nD Cert.Kernel4Ideal.τ).loc Cert.Kernel4Ideal.main_v4)) (v3 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_v3) = v1 c
          ∧ r.2.mem ((c.tc : Thread Cert.Kernel4Ideal.nD Cert.Kernel4Ideal.τ).loc Cert.Kernel4Ideal.main_v4) = v2 c
          ∧ r.2.mem ((c.tc : Thread Cert.Kernel4Ideal.nD Cert.Kernel4Ideal.τ).loc Cert.Kernel4Ideal.main_v5) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v6) = v1 c
          ∧ r.2.mem ((c.tc : Thread Cert.Reference4Ideal.nD Cert.Reference4Ideal.τ).loc Cert.Reference4Ideal.main_v4) = v2 c
          ∧ r.2.mem ((c.tc : Thread Cert.Reference4Ideal.nD Cert.Reference4Ideal.τ).loc Cert.Reference4Ideal.main_v5) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v9)) (v1 : (c : Dev Cert.Kernel5Ideal.nD) → Buf (Elt Ideal) ((c.tc : Thread Cert.Kernel5Ideal.nD Cert.Kernel5Ideal.τ).loc Cert.Kernel5Ideal.main_v11)) (v2 : (c : Dev Cert.Kernel5Ideal.nD) → Buf (Elt Ideal) ((c.tc : Thread Cert.Kernel5Ideal.nD Cert.Kernel5Ideal.τ).loc Cert.Kernel5Ideal.main_v12)) (v3 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_v11) = v1 c
          ∧ r.2.mem ((c.tc : Thread Cert.Kernel5Ideal.nD Cert.Kernel5Ideal.τ).loc Cert.Kernel5Ideal.main_v12) = v2 c
          ∧ r.2.mem ((c.tc : Thread Cert.Kernel5Ideal.nD Cert.Kernel5Ideal.τ).loc Cert.Kernel5Ideal.main_v13) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v35) = v0 c
          ∧ r.2.mem ((c.tc : Thread Cert.Reference5Ideal.nD Cert.Reference5Ideal.τ).loc Cert.Reference5Ideal.main_v36) = v1 c
          ∧ r.2.mem ((c.tc : Thread Cert.Reference5Ideal.nD Cert.Reference5Ideal.τ).loc Cert.Reference5Ideal.main_v4) = v2 c
          ∧ r.2.mem ((c.tc : Thread Cert.Reference5Ideal.nD Cert.Reference5Ideal.τ).loc Cert.Reference5Ideal.main_v49) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)) (v1 : (c : Dev Cert.Kernel7Ideal.nD) → Buf (Elt Ideal) ((c.tc : Thread Cert.Kernel7Ideal.nD Cert.Kernel7Ideal.τ).loc Cert.Kernel7Ideal.main_v3)) (v2 : (c : Dev Cert.Kernel7Ideal.nD) → Buf (Elt Ideal) ((c.tc : Thread Cert.Kernel7Ideal.nD Cert.Kernel7Ideal.τ).loc Cert.Kernel7Ideal.main_v4)) (v3 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_v3) = v1 c
          ∧ r.2.mem ((c.tc : Thread Cert.Kernel7Ideal.nD Cert.Kernel7Ideal.τ).loc Cert.Kernel7Ideal.main_v4) = v2 c
          ∧ r.2.mem ((c.tc : Thread Cert.Kernel7Ideal.nD Cert.Kernel7Ideal.τ).loc Cert.Kernel7Ideal.main_v5) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v2) = v1 c
          ∧ r.2.mem ((c.tc : Thread Cert.Reference7Ideal.nD Cert.Reference7Ideal.τ).loc Cert.Reference7Ideal.main_v3) = v2 c
          ∧ r.2.mem ((c.tc : Thread Cert.Reference7Ideal.nD Cert.Reference7Ideal.τ).loc Cert.Reference7Ideal.main_v4) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v9)) (v1 : (c : Dev Cert.Kernel8Ideal.nD) → Buf (Elt Ideal) ((c.tc : Thread Cert.Kernel8Ideal.nD Cert.Kernel8Ideal.τ).loc Cert.Kernel8Ideal.main_v11)) (v2 : (c : Dev Cert.Kernel8Ideal.nD) → Buf (Elt Ideal) ((c.tc : Thread Cert.Kernel8Ideal.nD Cert.Kernel8Ideal.τ).loc Cert.Kernel8Ideal.main_v12)) (v3 : (c : Dev Cert.Kernel8Ideal.nD) → Buf (Elt Ideal) ((c.tc : Thread Cert.Kernel8Ideal.nD Cert.Kernel8Ideal.τ).loc Cert.Kernel8Ideal.main_v13)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9) = v0 c
          ∧ r.2.mem ((c.tc : Thread Cert.Kernel8Ideal.nD Cert.Kernel8Ideal.τ).loc Cert.Kernel8Ideal.main_v11) = v1 c
          ∧ r.2.mem ((c.tc : Thread Cert.Kernel8Ideal.nD Cert.Kernel8Ideal.τ).loc Cert.Kernel8Ideal.main_v12) = v2 c
          ∧ r.2.mem ((c.tc : Thread Cert.Kernel8Ideal.nD Cert.Kernel8Ideal.τ).loc Cert.Kernel8Ideal.main_v13) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v33) = v0 c
          ∧ r.2.mem ((c.tc : Thread Cert.Reference8Ideal.nD Cert.Reference8Ideal.τ).loc Cert.Reference8Ideal.main_v34) = v1 c
          ∧ r.2.mem ((c.tc : Thread Cert.Reference8Ideal.nD Cert.Reference8Ideal.τ).loc Cert.Reference8Ideal.main_v3) = v2 c
          ∧ r.2.mem ((c.tc : Thread Cert.Reference8Ideal.nD Cert.Reference8Ideal.τ).loc Cert.Reference8Ideal.main_v47) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v37) = v0 c
          ∧ r.2.mem ((c.tc : Thread Cert.Reference10Ideal.nD Cert.Reference10Ideal.τ).loc Cert.Reference10Ideal.main_v36) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v11_0)) (v1 : (c : Dev Cert.Kernel11Ideal.nD) → Buf (Elt Ideal) ((c.tc : Thread Cert.Kernel11Ideal.nD Cert.Kernel11Ideal.τ).loc Cert.Kernel11Ideal.main_v11_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v11_0) = v0 c
          ∧ r.2.mem ((c.tc : Thread Cert.Kernel11Ideal.nD Cert.Kernel11Ideal.τ).loc Cert.Kernel11Ideal.main_v11_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v37) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite_scores.lean ====
abbrev S8192x2048 : Shape := ⟨2, ![8192, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .bf16) (main_arg1 : FVec F S8192x2048 .f32) (main_arg2 : FVec F S8192x2048 .f32) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8192x2048 .f32 := Host.absf main_arg1
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  let main_c_1 : IVec S_ 1 := constantI S_ 1 1#1
  let main_v8 : IVec S_ 1 := (fun x v => Host.reduce IntOp.andi x v reducesTo_S8192x2048_S_d0_1 h_S_) main_v7 main_c_1
  let main_v9 : IVec S_ 1 := andi main_v4 main_v8
  main_v9
-- ==== Kernel.lean ====
abbrev S8192x2048 : Shape := ⟨2, ![8192, 2048]⟩
abbrev S256x512 : Shape := ⟨2, ![256, 512]⟩
abbrev S2048x512 : Shape := ⟨2, ![2048, 512]⟩
abbrev S4x256x128 : Shape := ⟨3, ![4, 256, 128]⟩
abbrev S256x256 : Shape := ⟨2, ![256, 256]⟩
abbrev S256x128 : Shape := ⟨2, ![256, 128]⟩
abbrev S1x256x128 : Shape := ⟨3, ![1, 256, 128]⟩
abbrev S1 : Shape := ⟨1, ![1]⟩
abbrev S1x1x1 : Shape := ⟨3, ![1, 1, 1]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x2048, .f32⟩
  | .hbm, ⟨3, _⟩ => ⟨S8192x2048, .bf16⟩
  | .local _ .vmem, ⟨0, _⟩ => ⟨S256x512, .bf16⟩
  | .local _ .vmem, ⟨1, _⟩ => ⟨S256x512, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S256x512, .bf16⟩
  | .local _ .vmem, ⟨7, _⟩ => ⟨S256x512, .bf16⟩
  | .local _ .vmem, ⟨8, _⟩ => ⟨S4x256x128, .f32⟩
  | .local _ .vmem, ⟨9, _⟩ => ⟨S4x256x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let arg2 : BitVec 32 := BitVec.ofNat 32 (i 2).val
  let c256_i32 : BitVec 32 := 256#32
  let v23 : BitVec 32 := Scalar.muli arg2 c256_i32
  v23
def k0_off1 (i : grid0.Coords) : Fin 2 → Nat :=
  let arg2 : BitVec 32 := BitVec.ofNat 32 (i 2).val
  let c256_i32 : BitVec 32 := 256#32
  let v23 : BitVec 32 := Scalar.muli arg2 c256_i32
  let v24 : BitVec 32 := v23
  let v25 : Index := Scalar.indexCast v24
  let c0_14 : Index := 0#32
  ![v25.toNat, 0]
def k0_off2 (i : grid0.Coords) : Fin 2 → Nat :=
  let arg2 : BitVec 32 := BitVec.ofNat 32 (i 2).val
  let c256_i32 : BitVec 32 := 256#32
  let v23 : BitVec 32 := Scalar.muli arg2 c256_i32
  let v24 : BitVec 32 := v23
  let v81 : Index := Scalar.indexCast v24
  let c128_41 : Index := 128#32
  ![v81.toNat, 128]
def k0_off3 (i : grid0.Coords) : Fin 2 → Nat :=
  let arg2 : BitVec 32 := BitVec.ofNat 32 (i 2).val
  let c256_i32 : BitVec 32 := 256#32
  let v23 : BitVec 32 := Scalar.muli arg2 c256_i32
  let v24 : BitVec 32 := v23
  let v138 : Index := Scalar.indexCast v24
  let c256_67 : Index := 256#32
  ![v138.toNat, 256]
def k0_off4 (i : grid0.Coords) : Fin 2 → Nat :=
  let arg2 : BitVec 32 := BitVec.ofNat 32 (i 2).val
  let c256_i32 : BitVec 32 := 256#32
  let v23 : BitVec 32 := Scalar.muli arg2 c256_i32
  let v24 : BitVec 32 := v23
  let v195 : Index := Scalar.indexCast v24
  let c384_93 : Index := 384#32
  ![v195.toNat, 384]
def k0_mult2 (arg9 : BitVec 32) : BitVec 32 :=
  let c256_i32_140 : BitVec 32 := 256#32
  let v271 : BitVec 32 := Scalar.muli arg9 c256_i32_140
  v271

def k0_off5 (arg9 : BitVec 32) : Fin 2 → Nat :=
  let c256_i32_140 : BitVec 32 := 256#32
  let v271 : BitVec 32 := Scalar.muli arg9 c256_i32_140
  let v272 : BitVec 32 := v271
  let v273 : Index := Scalar.indexCast v272
  let c0_141 : Index := 0#32
  ![v273.toNat, 0]
def k0_off6 (arg9 : BitVec 32) : Fin 2 → Nat :=
  let c256_i32_140 : BitVec 32 := 256#32
  let v271 : BitVec 32 := Scalar.muli arg9 c256_i32_140
  let v272 : BitVec 32 := v271
  let v325 : Index := Scalar.indexCast v272
  let c128_166 : Index := 128#32
  ![v325.toNat, 128]
def k0_off7 (arg9 : BitVec 32) : Fin 2 → Nat :=
  let c256_i32_140 : BitVec 32 := 256#32
  let v271 : BitVec 32 := Scalar.muli arg9 c256_i32_140
  let v272 : BitVec 32 := v271
  let v378 : Index := Scalar.indexCast v272
  let c256_191 : Index := 256#32
  ![v378.toNat, 256]
def k0_off8 (arg9 : BitVec 32) : Fin 2 → Nat :=
  let c256_i32_140 : BitVec 32 := 256#32
  let v271 : BitVec 32 := Scalar.muli arg9 c256_i32_140
  let v272 : BitVec 32 := v271
  let v431 : Index := Scalar.indexCast v272
  let c384_216 : Index := 384#32
  ![v431.toNat, 384]

def k0_chk1 (arg9 : BitVec 32) : Prop :=
  (256 ∣ (k0_mult2 arg9).toNat) ∧
  (∀ a, (k0_off5 arg9) a + S256x128.size a ≤ S2048x512.size a) ∧
  (∀ a, (k0_off6 arg9) a + S256x128.size a ≤ S2048x512.size a) ∧
  (∀ a, (k0_off7 arg9) a + S256x128.size a ≤ S2048x512.size a) ∧
  (∀ a, (k0_off8 arg9) a + S256x128.size a ≤ S2048x512.size a)
theorem k0_mult2_dvd : ∀ (arg9 : BitVec 32) (k0_hw1 : k0_chk1 arg9), 256 ∣ (k0_mult2 arg9).toNat := fun arg9 k0_hw1 => k0_hw1.1
theorem k0_off5_inb : ∀ (arg9 : BitVec 32) (k0_hw1 : k0_chk1 arg9), ∀ a, (k0_off5 arg9) a + S256x128.size a ≤ S2048x512.size a := fun arg9 k0_hw1 => k0_hw1.2.1
theorem k0_off6_inb : ∀ (arg9 : BitVec 32) (k0_hw1 : k0_chk1 arg9), ∀ a, (k0_off6 arg9) a + S256x128.size a ≤ S2048x512.size a := fun arg9 k0_hw1 => k0_hw1.2.2.1
theorem k0_off7_inb : ∀ (arg9 : BitVec 32) (k0_hw1 : k0_chk1 arg9), ∀ a, (k0_off7 arg9) a + S256x128.size a ≤ S2048x512.size a := fun arg9 k0_hw1 => k0_hw1.2.2.2.1
theorem k0_off8_inb : ∀ (arg9 : BitVec 32) (k0_hw1 : k0_chk1 arg9), ∀ a, (k0_off8 arg9) a + S256x128.size a ≤ S2048x512.size a := fun arg9 k0_hw1 => k0_hw1.2.2.2.2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "sb_exit" => some ⊥
  | _ => none
-- ==== ReferenceIdeal.lean ====
abbrev S8192x2048 : Shape := ⟨2, ![8192, 2048]⟩
abbrev S4x2048x16x128 : Shape := ⟨4, ![4, 2048, 16, 128]⟩
abbrev S2048 : Shape := ⟨1, ![2048]⟩
abbrev S4x16x2048x2048 : Shape := ⟨4, ![4, 16, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S4x16x128x2048 : Shape := ⟨4, ![4, 16, 128, 2048]⟩

abbrev nBuf : Space → Nat
  | .hbm => 70
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S4x2048x16x128, .f32⟩
  | .hbm, ⟨5, _⟩ => ⟨S4x2048x16x128, .f32⟩
  | .hbm, ⟨6, _⟩ => ⟨S4x2048x16x128, .f32⟩
  | .hbm, ⟨7, _⟩ => ⟨S2048, .i32⟩
  | .hbm, ⟨8, _⟩ => ⟨S4x16x2048x2048, .f32⟩
  | .hbm, ⟨9, _⟩ => ⟨S_, .f32⟩
  | .hbm, ⟨10, _⟩ => ⟨S4x16x2048x2048, .f32⟩
  | .hbm, ⟨11, _⟩ => ⟨S4x16x2048x2048, .f32⟩
  | .hbm, ⟨12, _⟩ => ⟨S1x2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S4x16x2048x2048, .f32⟩
  | .hbm, ⟨18, _⟩ => ⟨S4x16x2048x2048, .f32⟩
  | .hbm, ⟨19, _⟩ => ⟨S_, .f32⟩
  | .hbm, ⟨20, _⟩ => ⟨S4x16x2048x2048, .f32⟩
  | .hbm, ⟨21, _⟩ => ⟨S4x16x2048x2048, .f32⟩
  | .hbm, ⟨22, _⟩ => ⟨S4x16x2048x2048, .f32⟩
  | .hbm, ⟨23, _⟩ => ⟨S4x16x2048x2048, .f32⟩
  | .hbm, ⟨24, _⟩ => ⟨S4x16x2048x2048, .i1⟩
  | .hbm, ⟨25, _⟩ => ⟨S4x16x2048x2048, .f32⟩
  | .hbm, ⟨26, _⟩ => ⟨S4x16x2048x2048, .f32⟩
  | .hbm, ⟨27, _⟩ => ⟨S4x16x2048x2048, .f32⟩
  | .hbm, ⟨28, _⟩ => ⟨S4x16x2048x2048, .f32⟩
  | .hbm, ⟨29, _⟩ => ⟨S4x16x2048x2048, .f32⟩
  | .hbm, ⟨30, _⟩ => ⟨S4x16x2048x2048, .f32⟩
  | .hbm, ⟨31, _⟩ => ⟨S4x16x2048x2048, .f32⟩
  | .hbm, ⟨32, _⟩ => ⟨S4x16x2048x2048, .f32⟩
  | .hbm, ⟨33, _⟩ => ⟨S4x16x2048x2048, .f32⟩
  | .hbm, ⟨34, _⟩ => ⟨S_, .f32⟩
  | .hbm, ⟨35, _⟩ => ⟨S_, .f32⟩
  | .hbm, ⟨36, _⟩ => ⟨S4x16x2048x2048, .i1⟩
  | .hbm, ⟨37, _⟩ => ⟨S4x16x2048x2048, .f32⟩
  | .hbm, ⟨38, _⟩ => ⟨S4x16x2048x2048, .f32⟩
  | .hbm, ⟨39, _⟩ => ⟨S_, .f32⟩
  | .hbm, ⟨40, _⟩ => ⟨S_, .f32⟩
  | .hbm, ⟨41, _⟩ => ⟨S4x16x2048x2048, .f32⟩
  | .hbm, ⟨42, _⟩ => ⟨S4x16x2048x2048, .f32⟩
  | .hbm, ⟨43, _⟩ => ⟨S4x16x2048x2048, .f32⟩
  | .hbm, ⟨44, _⟩ => ⟨S_, .f32⟩
  | .hbm, ⟨45, _⟩ => ⟨S4x16x2048x2048, .f32⟩
  | .hbm, ⟨46, _⟩ => ⟨S4x16x2048x2048, .f32⟩
  | .hbm, ⟨47, _⟩ => ⟨S4x16x2048x2048, .f32⟩
  | .hbm, ⟨48, _⟩ => ⟨S4x16x2048x2048, .f32⟩
  | .hbm, ⟨49, _⟩ => ⟨S4x16x2048x2048, .i1⟩
  | .hbm, ⟨50, _⟩ => ⟨S4x16x2048x2048, .f32⟩
  | .hbm, ⟨51, _⟩ => ⟨S4x16x2048x2048, .f32⟩
  | .hbm, ⟨52, _⟩ => ⟨S4x16x2048x2048, .f32⟩
  | .hbm, ⟨53, _⟩ => ⟨S4x16x2048x2048, .f32⟩
  | .hbm, ⟨54, _⟩ => ⟨S4x16x2048x2048, .f32⟩
  | .hbm, ⟨55, _⟩ => ⟨S4x16x2048x2048, .f32⟩
  | .hbm, ⟨56, _⟩ => ⟨S4x16x2048x2048, .f32⟩
  | .hbm, ⟨57, _⟩ => ⟨S4x16x2048x2048, .f32⟩
  | .hbm, ⟨58, _⟩ => ⟨S4x16x2048x2048, .f32⟩
  | .hbm, ⟨59, _⟩ => ⟨S4x16x2048x2048, .f32⟩
  | .hbm, ⟨60, _⟩ => ⟨S4x16x2048x2048, .f32⟩
  | .hbm, ⟨61, _⟩ => ⟨S_, .f32⟩
  | .hbm, ⟨62, _⟩ => ⟨S_, .f32⟩
  | .hbm, ⟨63, _⟩ => ⟨S4x16x2048x2048, .i1⟩
  | .hbm, ⟨64, _⟩ => ⟨S4x16x2048x2048, .f32⟩
  | .hbm, ⟨65, _⟩ => ⟨S4x16x2048x2048, .f32⟩
  | .hbm, ⟨66, _⟩ => ⟨S4x16x128x2048, .f32⟩
  | .hbm, ⟨67, _⟩ => ⟨S4x2048x16x128, .f32⟩
  | .hbm, ⟨68, _⟩ => ⟨S8192x2048, .f32⟩
  | .hbm, ⟨69, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v14 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v15 : Ref sig .tc := ⟨.hbm, 38, rfl⟩
abbrev main_call2_cst : Ref sig .tc := ⟨.hbm, 39, rfl⟩
abbrev main_call2_v0 : Ref sig .tc := ⟨.hbm, 40, rfl⟩
abbrev main_v16 : Ref sig .tc := ⟨.hbm, 41, rfl⟩
abbrev main_v17 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩

abbrev nD : Nat := 1
abbrev τ : Topo := Topo.v7x

variable {F : FTy → Type} [FloatOps F]
-- ==== Kernel2.lean ====
abbrev S8192x4096 : Shape := ⟨2, ![8192, 4096]⟩
abbrev S2x4096x16384 : Shape := ⟨3, ![2, 4096, 16384]⟩
abbrev S8192x16384 : Shape := ⟨2, ![8192, 16384]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x16384, .f32⟩
  | .hbm, ⟨2, _⟩ => ⟨S2x4096x16384, .bf16⟩
  | .hbm, ⟨3, _⟩ => ⟨S8192x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x4096 : Shape := ⟨2, ![8192, 4096]⟩
abbrev S2x4096x16384 : Shape := ⟨3, ![2, 4096, 16384]⟩
abbrev S1x4096x16384 : Shape := ⟨3, ![1, 4096, 16384]⟩
abbrev S4096x16384 : Shape := ⟨2, ![4096, 16384]⟩
abbrev S8192x16384 : Shape := ⟨2, ![8192, 16384]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x16384, .f32⟩
  | .hbm, ⟨2, _⟩ => ⟨S8192x4096, .f32⟩
  | .hbm, ⟨3, _⟩ => ⟨S1x4096x16384, .f32⟩
  | .hbm, ⟨4, _⟩ => ⟨S4096x16384, .f32⟩
  | .hbm, ⟨5, _⟩ => ⟨S8192x16384, .f32⟩
  | .hbm, ⟨6, _⟩ => ⟨S_, .f32⟩
  | .hbm, ⟨7, _⟩ => ⟨S8192x16384, .f32⟩
  | .hbm, ⟨8, _⟩ => ⟨S8192x16384, .f32⟩
  | .hbm, ⟨9, _⟩ => ⟨S8192x16384, .f32⟩
  | .hbm, ⟨10, _⟩ => ⟨S8192x16384, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel3.lean ====
abbrev S8192x16384 : Shape := ⟨2, ![8192, 16384]⟩
abbrev S2x16384x4096 : Shape := ⟨3, ![2, 16384, 4096]⟩
abbrev S4x2048x4096 : Shape := ⟨3, ![4, 2048, 4096]⟩
abbrev S4x4096 : Shape := ⟨2, ![4, 4096]⟩
abbrev S8192x4096 : Shape := ⟨2, ![8192, 4096]⟩
abbrev S4x1x4096 : Shape := ⟨3, ![4, 1, 4096]⟩
abbrev S1024x4096 : Shape := ⟨2, ![1024, 4096]⟩
abbrev S1x4096x512 : Shape := ⟨3, ![1, 4096, 512]⟩
abbrev S1024x512 : Shape := ⟨2, ![1024, 512]⟩
abbrev S1x1x512 : Shape := ⟨3, ![1, 1, 512]⟩
abbrev S4096x512 : Shape := ⟨2, ![4096, 512]⟩
abbrev S1x512 : Shape := ⟨2, ![1, 512]⟩

abbrev nBuf : Space → Nat
  | .hbm => 8
  | .vmem => 11
  | .smem => 0
  | _ => 0

abbrev bufTy : (tb : Table) → Fin (tcTables nBuf tb) → BufTy
  | .hbm, ⟨0, _⟩ => ⟨S8192x16384, .bf16⟩
  | .hbm, ⟨1, _⟩ => ⟨S2x16384x4096, .f32⟩
  | .hbm, ⟨2, _⟩ => ⟨S4x2048x4096, .f32⟩
  | .hbm, ⟨3, _⟩ => ⟨S4x4096, .f32⟩
  | .hbm, ⟨4, _⟩ => ⟨S2x16384x4096, .bf16⟩
  | .hbm, ⟨5, _⟩ => ⟨S8192x4096, .f32⟩
  | .hbm, ⟨6, _⟩ => ⟨S4x1x4096, .f32⟩
  | .hbm, ⟨7, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S8192x16384 : Shape := ⟨2, ![8192, 16384]⟩
abbrev S2x16384x4096 : Shape := ⟨3, ![2, 16384, 4096]⟩
abbrev S4x2048x4096 : Shape := ⟨3, ![4, 2048, 4096]⟩
abbrev S4x4096 : Shape := ⟨2, ![4, 4096]⟩
abbrev S4x1x4096 : Shape := ⟨3, ![4, 1, 4096]⟩
abbrev S4x2048x16384 : Shape := ⟨3, ![4, 2048, 16384]⟩
abbrev S1x16384x4096 : Shape := ⟨3, ![1, 16384, 4096]⟩
abbrev S16384x4096 : Shape := ⟨2, ![16384, 4096]⟩
abbrev S8192x4096 : Shape := ⟨2, ![8192, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S2x16384x4096, .f32⟩
  | .hbm, ⟨2, _⟩ => ⟨S4x2048x4096, .f32⟩
  | .hbm, ⟨3, _⟩ => ⟨S4x4096, .f32⟩
  | .hbm, ⟨4, _⟩ => ⟨S4x1x4096, .f32⟩
  | .hbm, ⟨5, _⟩ => ⟨S8192x16384, .f32⟩
  | .hbm, ⟨6, _⟩ => ⟨S4x2048x16384, .f32⟩
  | .hbm, ⟨7, _⟩ => ⟨S1x16384x4096, .f32⟩
  | .hbm, ⟨8, _⟩ => ⟨S16384x4096, .f32⟩
  | .hbm, ⟨9, _⟩ => ⟨S4x2048x4096, .f32⟩
  | .hbm, ⟨10, _⟩ => ⟨S4x2048x4096, .f32⟩
  | .hbm, ⟨11, _⟩ => ⟨S4x2048x4096, .f32⟩
  | .hbm, ⟨12, _⟩ => ⟨S4x2048x4096, .f32⟩
  | .hbm, ⟨13, _⟩ => ⟨S8192x4096, .f32⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel4.lean ====
abbrev S8192x4096 : Shape := ⟨2, ![8192, 4096]⟩
abbrev S4096x10240 : Shape := ⟨2, ![4096, 10240]⟩
abbrev S1x4096x10240 : Shape := ⟨3, ![1, 4096, 10240]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩
abbrev S8192x2048 : Shape := ⟨2, ![8192, 2048]⟩

abbrev nBuf : Space → Nat
  | .hbm => 8
  | .vmem => 24
  | .smem => 0
  | _ => 0

abbrev bufTy : (tb : Table) → Fin (tcTables nBuf tb) → BufTy
  | .hbm, ⟨0, _⟩ => ⟨S8192x4096, .bf16⟩
  | .hbm, ⟨1, _⟩ => ⟨S4096x10240, .f32⟩
  | .hbm, ⟨2, _⟩ => ⟨S4096x10240, .bf16⟩
  | .hbm, ⟨3, _⟩ => ⟨S1x4096x10240, .bf16⟩
  | .hbm, ⟨4, _⟩ => ⟨S8192x4096, .f32⟩
  | .hbm, ⟨5, _⟩ => ⟨S8192x2048, .bf16⟩
  | .hbm, ⟨6, _⟩ => ⟨S8192x2048, .f32⟩
  | .hbm, ⟨7, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096x1024, .bf16⟩
  | .local _ .vmem, ⟨9, _⟩ => ⟨S1x4096x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x4096, .bf16⟩
  | .local _ .vmem, ⟨13, _⟩ => ⟨S1024x4096, .bf16⟩
  | .local _ .vmem, ⟨14, _⟩ => ⟨S1x4096x1024, .bf16⟩
  | .local _ .vmem, ⟨15, _⟩ => ⟨S1x4096x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x4096, .bf16⟩
  | .local _ .vmem, ⟨19, _⟩ => ⟨S1024x4096, .bf16⟩
  | .local _ .vmem, ⟨20, _⟩ => ⟨S1x4096x1024, .bf16⟩
  | .local _ .vmem, ⟨21, _⟩ => ⟨S1x4096x1024, .bf16⟩
  | .local _ .vmem, ⟨22, _⟩ => ⟨S1024x1024, .f32⟩
  | .local _ .vmem, ⟨23, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  let c0_i32_0 : BitVec 32 := 0#32
  ![c0_i32.toNat, arg2.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg1 c6_i32
  let c0_i32 : BitVec 32 := 0#32
  let c0_i32_0 : BitVec 32 := 0#32
  ![c0_i32.toNat, arg2.toNat, v0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![8, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg1 c8_i32
  let c0_i32 : BitVec 32 := 0#32
  let c0_i32_0 : BitVec 32 := 0#32
  ![c0_i32.toNat, arg2.toNat, v0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1x4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference4Ideal.lean ====
abbrev S8192x4096 : Shape := ⟨2, ![8192, 4096]⟩
abbrev S4096x10240 : Shape := ⟨2, ![4096, 10240]⟩
abbrev S8192x10240 : Shape := ⟨2, ![8192, 10240]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x10240, .f32⟩
  | .hbm, ⟨2, _⟩ => ⟨S8192x4096, .f32⟩
  | .hbm, ⟨3, _⟩ => ⟨S8192x10240, .f32⟩
  | .hbm, ⟨4, _⟩ => ⟨S8192x4096, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel5.lean ====
abbrev S8192x4096 : Shape := ⟨2, ![8192, 4096]⟩
abbrev S4096x10240 : Shape := ⟨2, ![4096, 10240]⟩
abbrev S128 : Shape := ⟨1, ![128]⟩
abbrev S1x4096x10240 : Shape := ⟨3, ![1, 4096, 10240]⟩
abbrev S1x128 : Shape := ⟨2, ![1, 128]⟩
abbrev S16x128 : Shape := ⟨2, ![16, 128]⟩
abbrev S2048 : Shape := ⟨1, ![2048]⟩
abbrev S1x2048 : Shape := ⟨2, ![1, 2048]⟩
abbrev S8192x2048 : Shape := ⟨2, ![8192, 2048]⟩
abbrev S1024x4096 : Shape := ⟨2, ![1024, 4096]⟩
abbrev S1x4096x1024 : Shape := ⟨3, ![1, 4096, 1024]⟩
abbrev S1x1024 : Shape := ⟨2, ![1, 1024]⟩
abbrev S1024x1024 : Shape := ⟨2, ![1024, 1024]⟩
abbrev S4096x1024 : Shape := ⟨2, ![4096, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 18
  | .vmem => 28
  | .smem => 0
  | _ => 0

abbrev bufTy : (tb : Table) → Fin (tcTables nBuf tb) → BufTy
  | .hbm, ⟨0, _⟩ => ⟨S8192x4096, .bf16⟩
  | .hbm, ⟨1, _⟩ => ⟨S4096x10240, .f32⟩
  | .hbm, ⟨2, _⟩ => ⟨S128, .f32⟩
  | .hbm, ⟨3, _⟩ => ⟨S128, .f32⟩
  | .hbm, ⟨4, _⟩ => ⟨S4096x10240, .bf16⟩
  | .hbm, ⟨5, _⟩ => ⟨S1x4096x10240, .bf16⟩
  | .hbm, ⟨6, _⟩ => ⟨S1x128, .f32⟩
  | .hbm, ⟨7, _⟩ => ⟨S16x128, .f32⟩
  | .hbm, ⟨8, _⟩ => ⟨S2048, .f32⟩
  | .hbm, ⟨9, _⟩ => ⟨S1x128, .f32⟩
  | .hbm, ⟨10, _⟩ => ⟨S16x128, .f32⟩
  | .hbm, ⟨11, _⟩ => ⟨S2048, .f32⟩
  | .hbm, ⟨12, _⟩ => ⟨S1x2048, .f32⟩
  | .hbm, ⟨13, _⟩ => ⟨S8192x2048, .bf16⟩
  | .hbm, ⟨14, _⟩ => ⟨S1x2048, .f32⟩
  | .hbm, ⟨15, _⟩ => ⟨S8192x2048, .f32⟩
  | .hbm, ⟨16, _⟩ => ⟨S8192x2048, .f32⟩
  | .hbm, ⟨17, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x4096, .bf16⟩
  | .local _ .vmem, ⟨9, _⟩ => ⟨S1024x4096, .bf16⟩
  | .local _ .vmem, ⟨10, _⟩ => ⟨S1x4096x1024, .bf16⟩
  | .local _ .vmem, ⟨11, _⟩ => ⟨S1x4096x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x4096, .bf16⟩
  | .local _ .vmem, ⟨17, _⟩ => ⟨S1024x4096, .bf16⟩
  | .local _ .vmem, ⟨18, _⟩ => ⟨S1x4096x1024, .bf16⟩
  | .local _ .vmem, ⟨19, _⟩ => ⟨S1x4096x1024, .bf16⟩
  | .local _ .vmem, ⟨20, _⟩ => ⟨S1024x1024, .f32⟩
  | .local _ .vmem, ⟨21, _⟩ => ⟨S1024x1024, .f32⟩
  | .local _ .vmem, ⟨22, _⟩ => ⟨S1024x4096, .bf16⟩
  | .local _ .vmem, ⟨23, _⟩ => ⟨S1024x4096, .bf16⟩
  | .local _ .vmem, ⟨24, _⟩ => ⟨S1x4096x1024, .bf16⟩
  | .local _ .vmem, ⟨25, _⟩ => ⟨S1x4096x1024, .bf16⟩
  | .local _ .vmem, ⟨26, _⟩ => ⟨S1024x1024, .f32⟩
  | .local _ .vmem, ⟨27, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  let c0_i32_0 : BitVec 32 := 0#32
  ![c0_i32.toNat, arg2.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![8, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  let c0_i32_0 : BitVec 32 := 0#32
  ![c0_i32.toNat, arg2.toNat, v0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![8, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg1 c6_i32
  let c0_i32 : BitVec 32 := 0#32
  let c0_i32_0 : BitVec 32 := 0#32
  ![c0_i32.toNat, arg2.toNat, v0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1x4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference5Ideal.lean ====
abbrev S8192x4096 : Shape := ⟨2, ![8192, 4096]⟩
abbrev S4096x10240 : Shape := ⟨2, ![4096, 10240]⟩
abbrev S128 : Shape := ⟨1, ![128]⟩
abbrev S8192x10240 : Shape := ⟨2, ![8192, 10240]⟩
abbrev S8192x2048 : Shape := ⟨2, ![8192, 2048]⟩
abbrev S8192x8x2x128 : Shape := ⟨4, ![8192, 8, 2, 128]⟩
abbrev S_ : Shape := ⟨0, ![]⟩
abbrev S8192x8x2 : Shape := ⟨3, ![8192, 8, 2]⟩
abbrev S8192x8x2x1 : Shape := ⟨4, ![8192, 8, 2, 1]⟩
abbrev S1x1x1x128 : Shape := ⟨4, ![1, 1, 1, 128]⟩

abbrev nBuf : Space → Nat
  | .hbm => 64
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x10240, .f32⟩
  | .hbm, ⟨2, _⟩ => ⟨S128, .f32⟩
  | .hbm, ⟨3, _⟩ => ⟨S128, .f32⟩
  | .hbm, ⟨4, _⟩ => ⟨S8192x4096, .f32⟩
  | .hbm, ⟨5, _⟩ => ⟨S8192x10240, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x4096, .f32⟩
  | .hbm, ⟨10, _⟩ => ⟨S8192x8x2x128, .f32⟩
  | .hbm, ⟨11, _⟩ => ⟨S8192x8x2x128, .f32⟩
  | .hbm, ⟨12, _⟩ => ⟨S_, .f32⟩
  | .hbm, ⟨13, _⟩ => ⟨S8192x8x2, .f32⟩
  | .hbm, ⟨14, _⟩ => ⟨S8192x8x2x1, .f32⟩
  | .hbm, ⟨15, _⟩ => ⟨S_, .f32⟩
  | .hbm, ⟨16, _⟩ => ⟨S8192x8x2x1, .f32⟩
  | .hbm, ⟨17, _⟩ => ⟨S8192x8x2x1, .f32⟩
  | .hbm, ⟨18, _⟩ => ⟨S_, .f32⟩
  | .hbm, ⟨19, _⟩ => ⟨S8192x8x2x1, .f32⟩
  | .hbm, ⟨20, _⟩ => ⟨S8192x8x2x1, .f32⟩
  | .hbm, ⟨21, _⟩ => ⟨S8192x8x2x1, .f32⟩
  | .hbm, ⟨22, _⟩ => ⟨S8192x8x2x128, .f32⟩
  | .hbm, ⟨23, _⟩ => ⟨S8192x8x2x128, .f32⟩
  | .hbm, ⟨24, _⟩ => ⟨S1x1x1x128, .f32⟩
  | .hbm, ⟨25, _⟩ => ⟨S8192x8x2x128, .f32⟩
  | .hbm, ⟨26, _⟩ => ⟨S8192x8x2x128, .f32⟩
  | .hbm, ⟨27, _⟩ => ⟨S8192x8x2x128, .f32⟩
  | .hbm, ⟨28, _⟩ => ⟨S8192x8x2x128, .f32⟩
  | .hbm, ⟨29, _⟩ => ⟨S_, .f32⟩
  | .hbm, ⟨30, _⟩ => ⟨S8192x8x2, .f32⟩
  | .hbm, ⟨31, _⟩ => ⟨S8192x8x2x1, .f32⟩
  | .hbm, ⟨32, _⟩ => ⟨S_, .f32⟩
  | .hbm, ⟨33, _⟩ => ⟨S8192x8x2x1, .f32⟩
  | .hbm, ⟨34, _⟩ => ⟨S8192x8x2x1, .f32⟩
  | .hbm, ⟨35, _⟩ => ⟨S_, .f32⟩
  | .hbm, ⟨36, _⟩ => ⟨S8192x8x2x1, .f32⟩
  | .hbm, ⟨37, _⟩ => ⟨S8192x8x2x1, .f32⟩
  | .hbm, ⟨38, _⟩ => ⟨S8192x8x2x1, .f32⟩
  | .hbm, ⟨39, _⟩ => ⟨S8192x8x2x128, .f32⟩
  | .hbm, ⟨40, _⟩ => ⟨S8192x8x2x128, .f32⟩
  | .hbm, ⟨41, _⟩ => ⟨S1x1x1x128, .f32⟩
  | .hbm, ⟨42, _⟩ => ⟨S8192x8x2x128, .f32⟩
  | .hbm, ⟨43, _⟩ => ⟨S8192x8x2x128, .f32⟩
  | .hbm, ⟨44, _⟩ => ⟨S8192x2048, .f32⟩
  | .hbm, ⟨45, _⟩ => ⟨S8192x2048, .bf16⟩
  | .hbm, ⟨46, _⟩ => ⟨S8192x2048, .f32⟩
  | .hbm, ⟨47, _⟩ => ⟨S8192x4096, .f32⟩
  | .hbm, ⟨48, _⟩ => ⟨S8192x4096, .f32⟩
  | .hbm, ⟨49, _⟩ => ⟨S_, .f32⟩
  | .hbm, ⟨50, _⟩ => ⟨S8192x4096, .f32⟩
  | .hbm, ⟨51, _⟩ => ⟨S8192x4096, .f32⟩
  | .hbm, ⟨52, _⟩ => ⟨S8192x4096, .f32⟩
  | .hbm, ⟨53, _⟩ => ⟨S_, .f32⟩
  | .hbm, ⟨54, _⟩ => ⟨S8192x4096, .f32⟩
  | .hbm, ⟨55, _⟩ => ⟨S8192x4096, .f32⟩
  | .hbm, ⟨56, _⟩ => ⟨S8192x4096, .f32⟩
  | .hbm, ⟨57, _⟩ => ⟨S_, .f32⟩
  | .hbm, ⟨58, _⟩ => ⟨S8192x4096, .f32⟩
  | .hbm, ⟨59, _⟩ => ⟨S8192x4096, .f32⟩
  | .hbm, ⟨60, _⟩ => ⟨S_, .f32⟩
  | .hbm, ⟨61, _⟩ => ⟨S8192x4096, .f32⟩
  | .hbm, ⟨62, _⟩ => ⟨S8192x4096, .f32⟩
  | .hbm, ⟨63, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_cst_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== Kernel6.lean ====
abbrev S8192x2048 : Shape := ⟨2, ![8192, 2048]⟩
abbrev S4096x4096 : Shape := ⟨2, ![4096, 4096]⟩
abbrev S4x2048x4096 : Shape := ⟨3, ![4, 2048, 4096]⟩
abbrev S4x4096 : Shape := ⟨2, ![4, 4096]⟩
abbrev S1x4096x4096 : Shape := ⟨3, ![1, 4096, 4096]⟩
abbrev S8192x4096 : Shape := ⟨2, ![8192, 4096]⟩
abbrev S4x1x4096 : Shape := ⟨3, ![4, 1, 4096]⟩
abbrev S1024x2048 : Shape := ⟨2, ![1024, 2048]⟩
abbrev S1x4096x512 : Shape := ⟨3, ![1, 4096, 512]⟩
abbrev S1024x512 : Shape := ⟨2, ![1024, 512]⟩
abbrev S1x1x512 : Shape := ⟨3, ![1, 1, 512]⟩
abbrev S4096x512 : Shape := ⟨2, ![4096, 512]⟩
abbrev S2048x512 : Shape := ⟨2, ![2048, 512]⟩
abbrev S1x512 : Shape := ⟨2, ![1, 512]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .f32⟩
  | .hbm, ⟨3, _⟩ => ⟨S4x2048x4096, .f32⟩
  | .hbm, ⟨4, _⟩ => ⟨S4x4096, .f32⟩
  | .hbm, ⟨5, _⟩ => ⟨S4096x4096, .bf16⟩
  | .hbm, ⟨6, _⟩ => ⟨S1x4096x4096, .bf16⟩
  | .hbm, ⟨7, _⟩ => ⟨S8192x4096, .f32⟩
  | .hbm, ⟨8, _⟩ => ⟨S4x1x4096, .f32⟩
  | .hbm, ⟨9, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x4096x512, .bf16⟩
  | .local _ .vmem, ⟨5, _⟩ => ⟨S1x4096x512, .bf16⟩
  | .local _ .vmem, ⟨6, _⟩ => ⟨S1024x512, .f32⟩
  | .local _ .vmem, ⟨7, _⟩ => ⟨S1024x512, .f32⟩
  | .local _ .vmem, ⟨8, _⟩ => ⟨S1x1x512, .f32⟩
  | .local _ .vmem, ⟨9, _⟩ => ⟨S1x1x512, .f32⟩
  | .local _ .vmem, ⟨10, _⟩ => ⟨S1024x512, .f32⟩
  | .local _ .vmem, ⟨11, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference6Ideal.lean ====
abbrev S8192x2048 : Shape := ⟨2, ![8192, 2048]⟩
abbrev S4096x4096 : Shape := ⟨2, ![4096, 4096]⟩
abbrev S4x2048x4096 : Shape := ⟨3, ![4, 2048, 4096]⟩
abbrev S4x4096 : Shape := ⟨2, ![4, 4096]⟩
abbrev S8192x4096 : Shape := ⟨2, ![8192, 4096]⟩
abbrev S4x1x4096 : Shape := ⟨3, ![4, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .f32⟩
  | .hbm, ⟨3, _⟩ => ⟨S4x2048x4096, .f32⟩
  | .hbm, ⟨4, _⟩ => ⟨S4x4096, .f32⟩
  | .hbm, ⟨5, _⟩ => ⟨S8192x4096, .bf16⟩
  | .hbm, ⟨6, _⟩ => ⟨S8192x4096, .f32⟩
  | .hbm, ⟨7, _⟩ => ⟨S4x2048x4096, .f32⟩
  | .hbm, ⟨8, _⟩ => ⟨S4x2048x4096, .f32⟩
  | .hbm, ⟨9, _⟩ => ⟨S4x1x4096, .f32⟩
  | .hbm, ⟨10, _⟩ => ⟨S4x2048x4096, .f32⟩
  | .hbm, ⟨11, _⟩ => ⟨S4x2048x4096, .f32⟩
  | .hbm, ⟨12, _⟩ => ⟨S4x2048x4096, .f32⟩
  | .hbm, ⟨13, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel7.lean ====
abbrev S64x4096 : Shape := ⟨2, ![64, 4096]⟩
abbrev S4096x10240 : Shape := ⟨2, ![4096, 10240]⟩
abbrev S1x4096x10240 : Shape := ⟨3, ![1, 4096, 10240]⟩
abbrev S1x4096x1024 : Shape := ⟨3, ![1, 4096, 1024]⟩
abbrev S64x1024 : Shape := ⟨2, ![64, 1024]⟩
abbrev S4096x1024 : Shape := ⟨2, ![4096, 1024]⟩
abbrev S64x2048 : Shape := ⟨2, ![64, 2048]⟩

abbrev nBuf : Space → Nat
  | .hbm => 8
  | .vmem => 20
  | .smem => 0
  | _ => 0

abbrev bufTy : (tb : Table) → Fin (tcTables nBuf tb) → BufTy
  | .hbm, ⟨0, _⟩ => ⟨S64x4096, .f32⟩
  | .hbm, ⟨1, _⟩ => ⟨S4096x10240, .f32⟩
  | .hbm, ⟨2, _⟩ => ⟨S4096x10240, .bf16⟩
  | .hbm, ⟨3, _⟩ => ⟨S1x4096x10240, .bf16⟩
  | .hbm, ⟨4, _⟩ => ⟨S64x4096, .f32⟩
  | .hbm, ⟨5, _⟩ => ⟨S64x2048, .f32⟩
  | .hbm, ⟨6, _⟩ => ⟨S64x2048, .f32⟩
  | .hbm, ⟨7, _⟩ => ⟨S64x2048, .f32⟩
  | .local _ .vmem, ⟨0, _⟩ => ⟨S64x4096, .f32⟩
  | .local _ .vmem, ⟨1, _⟩ => ⟨S1x4096x1024, .bf16⟩
  | .local _ .vmem, ⟨2, _⟩ => ⟨S1x4096x1024, .bf16⟩
  | .local _ .vmem, ⟨3, _⟩ => ⟨S64x1024, .f32⟩
  | .local _ .vmem, ⟨4, _⟩ => ⟨S64x1024, .f32⟩
  | .local _ .vmem, ⟨5, _⟩ => ⟨S64x4096, .f32⟩
  | .local _ .vmem, ⟨6, _⟩ => ⟨S1x4096x1024, .bf16⟩
  | .local _ .vmem, ⟨7, _⟩ => ⟨S1x4096x1024, .bf16⟩
  | .local _ .vmem, ⟨8, _⟩ => ⟨S64x1024, .f32⟩
  | .local _ .vmem, ⟨9, _⟩ => ⟨S64x1024, .f32⟩
  | .local _ .vmem, ⟨10, _⟩ => ⟨S64x4096, .f32⟩
  | .local _ .vmem, ⟨11, _⟩ => ⟨S1x4096x1024, .bf16⟩
  | .local _ .vmem, ⟨12, _⟩ => ⟨S1x4096x1024, .bf16⟩
  | .local _ .vmem, ⟨13, _⟩ => ⟨S64x1024, .f32⟩
  | .local _ .vmem, ⟨14, _⟩ => ⟨S64x1024, .f32⟩
  | .local _ .vmem, ⟨15, _⟩ => ⟨S64x4096, .f32⟩
  | .local _ .vmem, ⟨16, _⟩ => ⟨S1x4096x1024, .bf16⟩
  | .local _ .vmem, ⟨17, _⟩ => ⟨S1x4096x1024, .bf16⟩
  | .local _ .vmem, ⟨18, _⟩ => ⟨S64x1024, .f32⟩
  | .local _ .vmem, ⟨19, _⟩ => ⟨S64x1024, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  let c0_i32_0 : BitVec 32 := 0#32
  ![c0_i32.toNat, arg2.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S64x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S1x4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg1 c6_i32
  let c0_i32 : BitVec 32 := 0#32
  let c0_i32_0 : BitVec 32 := 0#32
  ![c0_i32.toNat, arg2.toNat, v0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S64x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S1x4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S64x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg1 c8_i32
  let c0_i32 : BitVec 32 := 0#32
  let c0_i32_0 : BitVec 32 := 0#32
  ![c0_i32.toNat, arg2.toNat, v0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S64x4096 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S1x4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S64x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference7Ideal.lean ====
abbrev S64x4096 : Shape := ⟨2, ![64, 4096]⟩
abbrev S4096x10240 : Shape := ⟨2, ![4096, 10240]⟩
abbrev S64x10240 : Shape := ⟨2, ![64, 10240]⟩
abbrev S64x2048 : Shape := ⟨2, ![64, 2048]⟩

abbrev nBuf : Space → Nat
  | .hbm => 7
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096x10240, .f32⟩
  | .hbm, ⟨2, _⟩ => ⟨S64x10240, .f32⟩
  | .hbm, ⟨3, _⟩ => ⟨S64x4096, .f32⟩
  | .hbm, ⟨4, _⟩ => ⟨S64x2048, .f32⟩
  | .hbm, ⟨5, _⟩ => ⟨S64x2048, .f32⟩
  | .hbm, ⟨6, _⟩ => ⟨S64x2048, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S64x4096 : Shape := ⟨2, ![64, 4096]⟩
abbrev S4096x10240 : Shape := ⟨2, ![4096, 10240]⟩
abbrev S128 : Shape := ⟨1, ![128]⟩
abbrev S1x4096x10240 : Shape := ⟨3, ![1, 4096, 10240]⟩
abbrev S1x128 : Shape := ⟨2, ![1, 128]⟩
abbrev S16x128 : Shape := ⟨2, ![16, 128]⟩
abbrev S2048 : Shape := ⟨1, ![2048]⟩
abbrev S1x2048 : Shape := ⟨2, ![1, 2048]⟩
abbrev S64x2048 : Shape := ⟨2, ![64, 2048]⟩
abbrev S1x4096x1024 : Shape := ⟨3, ![1, 4096, 1024]⟩
abbrev S1x1024 : Shape := ⟨2, ![1, 1024]⟩
abbrev S64x1024 : Shape := ⟨2, ![64, 1024]⟩
abbrev S4096x1024 : Shape := ⟨2, ![4096, 1024]⟩
abbrev S64x128 : Shape := ⟨2, ![64, 128]⟩
abbrev S64 : Shape := ⟨1, ![64]⟩
abbrev S64x1 : Shape := ⟨2, ![64, 1]⟩

abbrev nBuf : Space → Nat
  | .hbm => 18
  | .vmem => 24
  | .smem => 0
  | _ => 0

abbrev bufTy : (tb : Table) → Fin (tcTables nBuf tb) → BufTy
  | .hbm, ⟨0, _⟩ => ⟨S64x4096, .f32⟩
  | .hbm, ⟨1, _⟩ => ⟨S4096x10240, .f32⟩
  | .hbm, ⟨2, _⟩ => ⟨S128, .f32⟩
  | .hbm, ⟨3, _⟩ => ⟨S128, .f32⟩
  | .hbm, ⟨4, _⟩ => ⟨S4096x10240, .bf16⟩
  | .hbm, ⟨5, _⟩ => ⟨S1x4096x10240, .bf16⟩
  | .hbm, ⟨6, _⟩ => ⟨S1x128, .f32⟩
  | .hbm, ⟨7, _⟩ => ⟨S16x128, .f32⟩
  | .hbm, ⟨8, _⟩ => ⟨S2048, .f32⟩
  | .hbm, ⟨9, _⟩ => ⟨S1x128, .f32⟩
  | .hbm, ⟨10, _⟩ => ⟨S16x128, .f32⟩
  | .hbm, ⟨11, _⟩ => ⟨S2048, .f32⟩
  | .hbm, ⟨12, _⟩ => ⟨S1x2048, .f32⟩
  | .hbm, ⟨13, _⟩ => ⟨S64x2048, .f32⟩
  | .hbm, ⟨14, _⟩ => ⟨S1x2048, .f32⟩
  | .hbm, ⟨15, _⟩ => ⟨S64x2048, .f32⟩
  | .hbm, ⟨16, _⟩ => ⟨S64x2048, .f32⟩
  | .hbm, ⟨17, _⟩ => ⟨S64x4096, .f32⟩
  | .local _ .vmem, ⟨0, _⟩ => ⟨S64x4096, .f32⟩
  | .local _ .vmem, ⟨1, _⟩ => ⟨S1x4096x1024, .bf16⟩
  | .local _ .vmem, ⟨2, _⟩ => ⟨S1x4096x1024, .bf16⟩
  | .local _ .vmem, ⟨3, _⟩ => ⟨S1x1024, .f32⟩
  | .local _ .vmem, ⟨4, _⟩ => ⟨S1x1024, .f32⟩
  | .local _ .vmem, ⟨5, _⟩ => ⟨S64x1024, .f32⟩
  | .local _ .vmem, ⟨6, _⟩ => ⟨S64x1024, .f32⟩
  | .local _ .vmem, ⟨7, _⟩ => ⟨S64x4096, .f32⟩
  | .local _ .vmem, ⟨8, _⟩ => ⟨S1x4096x1024, .bf16⟩
  | .local _ .vmem, ⟨9, _⟩ => ⟨S1x4096x1024, .bf16⟩
  | .local _ .vmem, ⟨10, _⟩ => ⟨S1x1024, .f32⟩
  | .local _ .vmem, ⟨11, _⟩ => ⟨S1x1024, .f32⟩
  | .local _ .vmem, ⟨12, _⟩ => ⟨S64x1024, .f32⟩
  | .local _ .vmem, ⟨13, _⟩ => ⟨S64x1024, .f32⟩
  | .local _ .vmem, ⟨14, _⟩ => ⟨S64x4096, .f32⟩
  | .local _ .vmem, ⟨15, _⟩ => ⟨S1x4096x1024, .bf16⟩
  | .local _ .vmem, ⟨16, _⟩ => ⟨S1x4096x1024, .bf16⟩
  | .local _ .vmem, ⟨17, _⟩ => ⟨S64x1024, .f32⟩
  | .local _ .vmem, ⟨18, _⟩ => ⟨S64x1024, .f32⟩
  | .local _ .vmem, ⟨19, _⟩ => ⟨S64x4096, .f32⟩
  | .local _ .vmem, ⟨20, _⟩ => ⟨S1x4096x1024, .bf16⟩
  | .local _ .vmem, ⟨21, _⟩ => ⟨S1x4096x1024, .bf16⟩
  | .local _ .vmem, ⟨22, _⟩ => ⟨S64x1024, .f32⟩
  | .local _ .vmem, ⟨23, _⟩ => ⟨S64x1024, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![1, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  let c0_i32_0 : BitVec 32 := 0#32
  ![c0_i32.toNat, arg2.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S64x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S1x4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S64x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![1, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  let c0_i32_0 : BitVec 32 := 0#32
  ![c0_i32.toNat, arg2.toNat, v0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S64x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S1x4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S64x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg1 c6_i32
  let c0_i32 : BitVec 32 := 0#32
  let c0_i32_0 : BitVec 32 := 0#32
  ![c0_i32.toNat, arg2.toNat, v0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S64x4096 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S1x4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S64x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference8Ideal.lean ====
abbrev S64x4096 : Shape := ⟨2, ![64, 4096]⟩
abbrev S4096x10240 : Shape := ⟨2, ![4096, 10240]⟩
abbrev S128 : Shape := ⟨1, ![128]⟩
abbrev S64x10240 : Shape := ⟨2, ![64, 10240]⟩
abbrev S64x2048 : Shape := ⟨2, ![64, 2048]⟩
abbrev S64x8x2x128 : Shape := ⟨4, ![64, 8, 2, 128]⟩
abbrev S_ : Shape := ⟨0, ![]⟩
abbrev S64x8x2 : Shape := ⟨3, ![64, 8, 2]⟩
abbrev S64x8x2x1 : Shape := ⟨4, ![64, 8, 2, 1]⟩
abbrev S1x1x1x128 : Shape := ⟨4, ![1, 1, 1, 128]⟩

abbrev nBuf : Space → Nat
  | .hbm => 62
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096x10240, .f32⟩
  | .hbm, ⟨2, _⟩ => ⟨S128, .f32⟩
  | .hbm, ⟨3, _⟩ => ⟨S128, .f32⟩
  | .hbm, ⟨4, _⟩ => ⟨S64x10240, .f32⟩
  | .hbm, ⟨5, _⟩ => ⟨S64x2048, .f32⟩
  | .hbm, ⟨6, _⟩ => ⟨S64x2048, .f32⟩
  | .hbm, ⟨7, _⟩ => ⟨S64x2048, .f32⟩
  | .hbm, ⟨8, _⟩ => ⟨S64x4096, .f32⟩
  | .hbm, ⟨9, _⟩ => ⟨S64x8x2x128, .f32⟩
  | .hbm, ⟨10, _⟩ => ⟨S64x8x2x128, .f32⟩
  | .hbm, ⟨11, _⟩ => ⟨S_, .f32⟩
  | .hbm, ⟨12, _⟩ => ⟨S64x8x2, .f32⟩
  | .hbm, ⟨13, _⟩ => ⟨S64x8x2x1, .f32⟩
  | .hbm, ⟨14, _⟩ => ⟨S_, .f32⟩
  | .hbm, ⟨15, _⟩ => ⟨S64x8x2x1, .f32⟩
  | .hbm, ⟨16, _⟩ => ⟨S64x8x2x1, .f32⟩
  | .hbm, ⟨17, _⟩ => ⟨S_, .f32⟩
  | .hbm, ⟨18, _⟩ => ⟨S64x8x2x1, .f32⟩
  | .hbm, ⟨19, _⟩ => ⟨S64x8x2x1, .f32⟩
  | .hbm, ⟨20, _⟩ => ⟨S64x8x2x1, .f32⟩
  | .hbm, ⟨21, _⟩ => ⟨S64x8x2x128, .f32⟩
  | .hbm, ⟨22, _⟩ => ⟨S64x8x2x128, .f32⟩
  | .hbm, ⟨23, _⟩ => ⟨S1x1x1x128, .f32⟩
  | .hbm, ⟨24, _⟩ => ⟨S64x8x2x128, .f32⟩
  | .hbm, ⟨25, _⟩ => ⟨S64x8x2x128, .f32⟩
  | .hbm, ⟨26, _⟩ => ⟨S64x8x2x128, .f32⟩
  | .hbm, ⟨27, _⟩ => ⟨S64x8x2x128, .f32⟩
  | .hbm, ⟨28, _⟩ => ⟨S_, .f32⟩
  | .hbm, ⟨29, _⟩ => ⟨S64x8x2, .f32⟩
  | .hbm, ⟨30, _⟩ => ⟨S64x8x2x1, .f32⟩
  | .hbm, ⟨31, _⟩ => ⟨S_, .f32⟩
  | .hbm, ⟨32, _⟩ => ⟨S64x8x2x1, .f32⟩
  | .hbm, ⟨33, _⟩ => ⟨S64x8x2x1, .f32⟩
  | .hbm, ⟨34, _⟩ => ⟨S_, .f32⟩
  | .hbm, ⟨35, _⟩ => ⟨S64x8x2x1, .f32⟩
  | .hbm, ⟨36, _⟩ => ⟨S64x8x2x1, .f32⟩
  | .hbm, ⟨37, _⟩ => ⟨S64x8x2x1, .f32⟩
  | .hbm, ⟨38, _⟩ => ⟨S64x8x2x128, .f32⟩
  | .hbm, ⟨39, _⟩ => ⟨S64x8x2x128, .f32⟩
  | .hbm, ⟨40, _⟩ => ⟨S1x1x1x128, .f32⟩
  | .hbm, ⟨41, _⟩ => ⟨S64x8x2x128, .f32⟩
  | .hbm, ⟨42, _⟩ => ⟨S64x8x2x128, .f32⟩
  | .hbm, ⟨43, _⟩ => ⟨S64x2048, .f32⟩
  | .hbm, ⟨44, _⟩ => ⟨S64x2048, .f32⟩
  | .hbm, ⟨45, _⟩ => ⟨S64x4096, .f32⟩
  | .hbm, ⟨46, _⟩ => ⟨S64x4096, .f32⟩
  | .hbm, ⟨47, _⟩ => ⟨S_, .f32⟩
  | .hbm, ⟨48, _⟩ => ⟨S64x4096, .f32⟩
  | .hbm, ⟨49, _⟩ => ⟨S64x4096, .f32⟩
  | .hbm, ⟨50, _⟩ => ⟨S64x4096, .f32⟩
  | .hbm, ⟨51, _⟩ => ⟨S_, .f32⟩
  | .hbm, ⟨52, _⟩ => ⟨S64x4096, .f32⟩
  | .hbm, ⟨53, _⟩ => ⟨S64x4096, .f32⟩
  | .hbm, ⟨54, _⟩ => ⟨S64x4096, .f32⟩
  | .hbm, ⟨55, _⟩ => ⟨S_, .f32⟩
  | .hbm, ⟨56, _⟩ => ⟨S64x4096, .f32⟩
  | .hbm, ⟨57, _⟩ => ⟨S64x4096, .f32⟩
  | .hbm, ⟨58, _⟩ => ⟨S_, .f32⟩
  | .hbm, ⟨59, _⟩ => ⟨S64x4096, .f32⟩
  | .hbm, ⟨60, _⟩ => ⟨S64x4096, .f32⟩
  | .hbm, ⟨61, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_cst_8 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Kernel9.lean ====
abbrev S64x16384 : Shape := ⟨2, ![64, 16384]⟩
abbrev S2x16384x4096 : Shape := ⟨3, ![2, 16384, 4096]⟩
abbrev S8x8x4096 : Shape := ⟨3, ![8, 8, 4096]⟩
abbrev S8x4096 : Shape := ⟨2, ![8, 4096]⟩
abbrev S64x4096 : Shape := ⟨2, ![64, 4096]⟩
abbrev S1x4096x512 : Shape := ⟨3, ![1, 4096, 512]⟩
abbrev S64x512 : Shape := ⟨2, ![64, 512]⟩
abbrev S4096x512 : Shape := ⟨2, ![4096, 512]⟩

abbrev nBuf : Space → Nat
  | .hbm => 9
  | .vmem => 11
  | .smem => 0
  | _ => 0

abbrev bufTy : (tb : Table) → Fin (tcTables nBuf tb) → BufTy
  | .hbm, ⟨0, _⟩ => ⟨S64x16384, .bf16⟩
  | .hbm, ⟨1, _⟩ => ⟨S2x16384x4096, .f32⟩
  | .hbm, ⟨2, _⟩ => ⟨S8x8x4096, .f32⟩
  | .hbm, ⟨3, _⟩ => ⟨S8x4096, .f32⟩
  | .hbm, ⟨4, _⟩ => ⟨S2x16384x4096, .bf16⟩
  | .hbm, ⟨5, _⟩ => ⟨S64x4096, .f32⟩
  | .hbm, ⟨6, _⟩ => ⟨S8x8x4096, .f32⟩
  | .hbm, ⟨7, _⟩ => ⟨S64x4096, .f32⟩
  | .hbm, ⟨8, _⟩ => ⟨S64x4096, .f32⟩
  | .local _ .vmem, ⟨0, _⟩ => ⟨S64x4096, .bf16⟩
  | .local _ .vmem, ⟨1, _⟩ => ⟨S64x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | _, _ => ⟨S64x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let c0_i32_0 : BitVec 32 := 0#32
  ![c1_i32.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference9Ideal.lean ====
abbrev S64x16384 : Shape := ⟨2, ![64, 16384]⟩
abbrev S2x16384x4096 : Shape := ⟨3, ![2, 16384, 4096]⟩
abbrev S8x8x4096 : Shape := ⟨3, ![8, 8, 4096]⟩
abbrev S8x4096 : Shape := ⟨2, ![8, 4096]⟩
abbrev S8x1x4096 : Shape := ⟨3, ![8, 1, 4096]⟩
abbrev S8x8x16384 : Shape := ⟨3, ![8, 8, 16384]⟩
abbrev S1x16384x4096 : Shape := ⟨3, ![1, 16384, 4096]⟩
abbrev S16384x4096 : Shape := ⟨2, ![16384, 4096]⟩
abbrev S64x4096 : Shape := ⟨2, ![64, 4096]⟩

abbrev nBuf : Space → Nat
  | .hbm => 14
  | .vmem => 0
  | .smem => 0
  | _ => 0

abbrev bufTy : (tb : Table) → Fin (tcTables nBuf tb) → BufTy
  | .hbm, ⟨0, _⟩ => ⟨S64x16384, .bf16⟩
  | .hbm, ⟨1, _⟩ => ⟨S2x16384x4096, .f32⟩
  | .hbm, ⟨2, _⟩ => ⟨S8x8x4096, .f32⟩
  | .hbm, ⟨3, _⟩ => ⟨S8x4096, .f32⟩
  | .hbm, ⟨4, _⟩ => ⟨S8x1x4096, .f32⟩
  | .hbm, ⟨5, _⟩ => ⟨S64x16384, .f32⟩
  | .hbm, ⟨6, _⟩ => ⟨S8x8x16384, .f32⟩
  | .hbm, ⟨7, _⟩ => ⟨S1x16384x4096, .f32⟩
  | .hbm, ⟨8, _⟩ => ⟨S16384x4096, .f32⟩
  | .hbm, ⟨9, _⟩ => ⟨S8x8x4096, .f32⟩
  | .hbm, ⟨10, _⟩ => ⟨S8x8x4096, .f32⟩
  | .hbm, ⟨11, _⟩ => ⟨S8x8x4096, .f32⟩
  | .hbm, ⟨12, _⟩ => ⟨S8x8x4096, .f32⟩
  | .hbm, ⟨13, _⟩ => ⟨S64x4096, .f32⟩
  | _, _ => ⟨S64x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel10.lean ====
abbrev S8192x4096 : Shape := ⟨2, ![8192, 4096]⟩
abbrev S2048 : Shape := ⟨1, ![2048]⟩
abbrev S16x128x128 : Shape := ⟨3, ![16, 128, 128]⟩
abbrev S16x128 : Shape := ⟨2, ![16, 128]⟩
abbrev S1x2048 : Shape := ⟨2, ![1, 2048]⟩
abbrev S128x16 : Shape := ⟨2, ![128, 16]⟩
abbrev S8192x2048 : Shape := ⟨2, ![8192, 2048]⟩
abbrev S4x128x2048 : Shape := ⟨3, ![4, 128, 2048]⟩
abbrev S128x2048 : Shape := ⟨2, ![128, 2048]⟩
abbrev S1x128x2048 : Shape := ⟨3, ![1, 128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 10
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S2048, .f32⟩
  | .hbm, ⟨2, _⟩ => ⟨S2048, .f32⟩
  | .hbm, ⟨3, _⟩ => ⟨S16x128x128, .f32⟩
  | .hbm, ⟨4, _⟩ => ⟨S16x128, .f32⟩
  | .hbm, ⟨5, _⟩ => ⟨S1x2048, .f32⟩
  | .hbm, ⟨6, _⟩ => ⟨S1x2048, .f32⟩
  | .hbm, ⟨7, _⟩ => ⟨S128x16, .f32⟩
  | .hbm, ⟨8, _⟩ => ⟨S8192x2048, .bf16⟩
  | .hbm, ⟨9, _⟩ => ⟨S4x128x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S16x128x128, .f32⟩
  | .local _ .vmem, ⟨7, _⟩ => ⟨S128x16, .f32⟩
  | .local _ .vmem, ⟨8, _⟩ => ⟨S128x2048, .bf16⟩
  | .local _ .vmem, ⟨9, _⟩ => ⟨S128x2048, .bf16⟩
  | .local _ .vmem, ⟨10, _⟩ => ⟨S1x128x2048, .f32⟩
  | .local _ .vmem, ⟨11, _⟩ => ⟨S1x128x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference10Ideal.lean ====
abbrev S8192x4096 : Shape := ⟨2, ![8192, 4096]⟩
abbrev S2048 : Shape := ⟨1, ![2048]⟩
abbrev S16x128x128 : Shape := ⟨3, ![16, 128, 128]⟩
abbrev S16x128 : Shape := ⟨2, ![16, 128]⟩
abbrev S4x2048x4096 : Shape := ⟨3, ![4, 2048, 4096]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S128x128 : Shape := ⟨2, ![128, 128]⟩
abbrev S4x16x128x16x128 : Shape := ⟨5, ![4, 16, 128, 16, 128]⟩
abbrev S16x4x16x128x128 : Shape := ⟨5, ![16, 4, 16, 128, 128]⟩
abbrev S128x16 : Shape := ⟨2, ![128, 16]⟩
abbrev S1x1x128x16x1 : Shape := ⟨5, ![1, 1, 128, 16, 1]⟩
abbrev S8192x2048 : Shape := ⟨2, ![8192, 2048]⟩
abbrev S4x128x2048 : Shape := ⟨3, ![4, 128, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2048, .f32⟩
  | .hbm, ⟨2, _⟩ => ⟨S2048, .f32⟩
  | .hbm, ⟨3, _⟩ => ⟨S16x128x128, .f32⟩
  | .hbm, ⟨4, _⟩ => ⟨S16x128, .f32⟩
  | .hbm, ⟨5, _⟩ => ⟨S4x2048x4096, .f32⟩
  | .hbm, ⟨6, _⟩ => ⟨S4x2048x2048, .f32⟩
  | .hbm, ⟨7, _⟩ => ⟨S4x2048x2048, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x1, .f32⟩
  | .hbm, ⟨27, _⟩ => ⟨S4x2048x2048, .f32⟩
  | .hbm, ⟨28, _⟩ => ⟨S4x2048x2048, .f32⟩
  | .hbm, ⟨29, _⟩ => ⟨S1x1x2048, .f32⟩
  | .hbm, ⟨30, _⟩ => ⟨S4x2048x2048, .f32⟩
  | .hbm, ⟨31, _⟩ => ⟨S4x2048x2048, .f32⟩
  | .hbm, ⟨32, _⟩ => ⟨S1x1x2048, .f32⟩
  | .hbm, ⟨33, _⟩ => ⟨S4x2048x2048, .f32⟩
  | .hbm, ⟨34, _⟩ => ⟨S4x2048x2048, .f32⟩
  | .hbm, ⟨35, _⟩ => ⟨S128x128, .i32⟩
  | .hbm, ⟨36, _⟩ => ⟨S_, .i32⟩
  | .hbm, ⟨37, _⟩ => ⟨S128x128, .i32⟩
  | .hbm, ⟨38, _⟩ => ⟨S128x128, .i32⟩
  | .hbm, ⟨39, _⟩ => ⟨S128x128, .i32⟩
  | .hbm, ⟨40, _⟩ => ⟨S128x128, .i1⟩
  | .hbm, ⟨41, _⟩ => ⟨S16x128x128, .i1⟩
  | .hbm, ⟨42, _⟩ => ⟨S_, .f32⟩
  | .hbm, ⟨43, _⟩ => ⟨S16x128x128, .f32⟩
  | .hbm, ⟨44, _⟩ => ⟨S16x128x128, .f32⟩
  | .hbm, ⟨45, _⟩ => ⟨S4x16x128x16x128, .f32⟩
  | .hbm, ⟨46, _⟩ => ⟨S16x4x16x128x128, .f32⟩
  | .hbm, ⟨47, _⟩ => ⟨S4x16x128x16x128, .f32⟩
  | .hbm, ⟨48, _⟩ => ⟨S128x16, .f32⟩
  | .hbm, ⟨49, _⟩ => ⟨S1x1x128x16x1, .f32⟩
  | .hbm, ⟨50, _⟩ => ⟨S4x16x128x16x128, .f32⟩
  | .hbm, ⟨51, _⟩ => ⟨S4x16x128x16x128, .f32⟩
  | .hbm, ⟨52, _⟩ => ⟨S4x2048x2048, .f32⟩
  | .hbm, ⟨53, _⟩ => ⟨S4x2048x2048, .f32⟩
  | .hbm, ⟨54, _⟩ => ⟨S8192x2048, .f32⟩
  | .hbm, ⟨55, _⟩ => ⟨S4x128x2048, .f32⟩
  | .hbm, ⟨56, _⟩ => ⟨S8192x2048, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_c : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_cst : Ref sig .tc := ⟨.hbm, 42, rfl⟩
abbrev main_call0_v6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]
-- ==== Kernel11.lean ====
abbrev S64x4096 : Shape := ⟨2, ![64, 4096]⟩
abbrev S2048 : Shape := ⟨1, ![2048]⟩
abbrev S16x128x128 : Shape := ⟨3, ![16, 128, 128]⟩
abbrev S16x128 : Shape := ⟨2, ![16, 128]⟩
abbrev S16x8x8 : Shape := ⟨3, ![16, 8, 8]⟩
abbrev S8x8 : Shape := ⟨2, ![8, 8]⟩
abbrev S_ : Shape := ⟨0, ![]⟩
abbrev S8x8x16 : Shape := ⟨3, ![8, 8, 16]⟩
abbrev S8x8x16x128 : Shape := ⟨4, ![8, 8, 16, 128]⟩
abbrev S8x8x2048 : Shape := ⟨3, ![8, 8, 2048]⟩
abbrev S16x8 : Shape := ⟨2, ![16, 8]⟩
abbrev S8x16 : Shape := ⟨2, ![8, 16]⟩
abbrev S8x16x128 : Shape := ⟨3, ![8, 16, 128]⟩
abbrev S8x2048 : Shape := ⟨2, ![8, 2048]⟩
abbrev S1x2048 : Shape := ⟨2, ![1, 2048]⟩
abbrev S64x2048 : Shape := ⟨2, ![64, 2048]⟩
abbrev S1x8x2048 : Shape := ⟨3, ![1, 8, 2048]⟩
abbrev S8 : Shape := ⟨1, ![8]⟩
abbrev S8x1 : Shape := ⟨2, ![8, 1]⟩

abbrev nBuf : Space → Nat
  | .hbm => 27
  | .vmem => 12
  | .smem => 0
  | _ => 0

abbrev bufTy : (tb : Table) → Fin (tcTables nBuf tb) → BufTy
  | .hbm, ⟨0, _⟩ => ⟨S64x4096, .f32⟩
  | .hbm, ⟨1, _⟩ => ⟨S2048, .f32⟩
  | .hbm, ⟨2, _⟩ => ⟨S2048, .f32⟩
  | .hbm, ⟨3, _⟩ => ⟨S16x128x128, .f32⟩
  | .hbm, ⟨4, _⟩ => ⟨S16x128, .f32⟩
  | .hbm, ⟨5, _⟩ => ⟨S16x8x8, .f32⟩
  | .hbm, ⟨6, _⟩ => ⟨S8x8, .i32⟩
  | .hbm, ⟨7, _⟩ => ⟨S_, .i32⟩
  | .hbm, ⟨8, _⟩ => ⟨S8x8, .i32⟩
  | .hbm, ⟨9, _⟩ => ⟨S8x8, .i32⟩
  | .hbm, ⟨10, _⟩ => ⟨S8x8, .i32⟩
  | .hbm, ⟨11, _⟩ => ⟨S8x8, .i1⟩
  | .hbm, ⟨12, _⟩ => ⟨S16x8x8, .i1⟩
  | .hbm, ⟨13, _⟩ => ⟨S_, .f32⟩
  | .hbm, ⟨14, _⟩ => ⟨S16x8x8, .f32⟩
  | .hbm, ⟨15, _⟩ => ⟨S16x8x8, .f32⟩
  | .hbm, ⟨16, _⟩ => ⟨S8x8x16, .f32⟩
  | .hbm, ⟨17, _⟩ => ⟨S8x8x16x128, .f32⟩
  | .hbm, ⟨18, _⟩ => ⟨S8x8x2048, .f32⟩
  | .hbm, ⟨19, _⟩ => ⟨S16x8, .f32⟩
  | .hbm, ⟨20, _⟩ => ⟨S8x16, .f32⟩
  | .hbm, ⟨21, _⟩ => ⟨S8x16x128, .f32⟩
  | .hbm, ⟨22, _⟩ => ⟨S8x2048, .f32⟩
  | .hbm, ⟨23, _⟩ => ⟨S1x2048, .f32⟩
  | .hbm, ⟨24, _⟩ => ⟨S1x2048, .f32⟩
  | .hbm, ⟨25, _⟩ => ⟨S64x2048, .f32⟩
  | .hbm, ⟨26, _⟩ => ⟨S8x8x2048, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x2048, .f32⟩
  | .local _ .vmem, ⟨4, _⟩ => ⟨S1x2048, .f32⟩
  | .local _ .vmem, ⟨5, _⟩ => ⟨S1x2048, .f32⟩
  | .local _ .vmem, ⟨6, _⟩ => ⟨S8x8x2048, .f32⟩
  | .local _ .vmem, ⟨7, _⟩ => ⟨S8x2048, .f32⟩
  | .local _ .vmem, ⟨8, _⟩ => ⟨S8x2048, .f32⟩
  | .local _ .vmem, ⟨9, _⟩ => ⟨S8x2048, .f32⟩
  | .local _ .vmem, ⟨10, _⟩ => ⟨S1x8x2048, .f32⟩
  | .local _ .vmem, ⟨11, _⟩ => ⟨S1x8x2048, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_cst : Ref sig .tc := ⟨.hbm, 13, rfl⟩
abbrev main_call0_v6 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S64x4096 : Shape := ⟨2, ![64, 4096]⟩
abbrev S2048 : Shape := ⟨1, ![2048]⟩
abbrev S16x128x128 : Shape := ⟨3, ![16, 128, 128]⟩
abbrev S16x128 : Shape := ⟨2, ![16, 128]⟩
abbrev S8x8x4096 : Shape := ⟨3, ![8, 8, 4096]⟩
abbrev S8x8x2048 : Shape := ⟨3, ![8, 8, 2048]⟩
abbrev S_ : Shape := ⟨0, ![]⟩
abbrev S8x8 : Shape := ⟨2, ![8, 8]⟩
abbrev S8x8x1 : Shape := ⟨3, ![8, 8, 1]⟩
abbrev S1x1x2048 : Shape := ⟨3, ![1, 1, 2048]⟩
abbrev S16x8x8 : Shape := ⟨3, ![16, 8, 8]⟩
abbrev S8x1x8x16x128 : Shape := ⟨5, ![8, 1, 8, 16, 128]⟩
abbrev S16x8x1x128x8 : Shape := ⟨5, ![16, 8, 1, 128, 8]⟩
abbrev S16x8 : Shape := ⟨2, ![16, 8]⟩
abbrev S8x16 : Shape := ⟨2, ![8, 16]⟩
abbrev S1x1x8x16x1 : Shape := ⟨5, ![1, 1, 8, 16, 1]⟩
abbrev S64x2048 : Shape := ⟨2, ![64, 2048]⟩

abbrev nBuf : Space → Nat
  | .hbm => 57
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S2048, .f32⟩
  | .hbm, ⟨2, _⟩ => ⟨S2048, .f32⟩
  | .hbm, ⟨3, _⟩ => ⟨S16x128x128, .f32⟩
  | .hbm, ⟨4, _⟩ => ⟨S16x128, .f32⟩
  | .hbm, ⟨5, _⟩ => ⟨S8x8x4096, .f32⟩
  | .hbm, ⟨6, _⟩ => ⟨S8x8x2048, .f32⟩
  | .hbm, ⟨7, _⟩ => ⟨S8x8x2048, .f32⟩
  | .hbm, ⟨8, _⟩ => ⟨S_, .f32⟩
  | .hbm, ⟨9, _⟩ => ⟨S8x8, .f32⟩
  | .hbm, ⟨10, _⟩ => ⟨S8x8x1, .f32⟩
  | .hbm, ⟨11, _⟩ => ⟨S_, .f32⟩
  | .hbm, ⟨12, _⟩ => ⟨S8x8x1, .f32⟩
  | .hbm, ⟨13, _⟩ => ⟨S8x8x1, .f32⟩
  | .hbm, ⟨14, _⟩ => ⟨S8x8x2048, .f32⟩
  | .hbm, ⟨15, _⟩ => ⟨S8x8x2048, .f32⟩
  | .hbm, ⟨16, _⟩ => ⟨S8x8x2048, .f32⟩
  | .hbm, ⟨17, _⟩ => ⟨S_, .f32⟩
  | .hbm, ⟨18, _⟩ => ⟨S8x8, .f32⟩
  | .hbm, ⟨19, _⟩ => ⟨S8x8x1, .f32⟩
  | .hbm, ⟨20, _⟩ => ⟨S_, .f32⟩
  | .hbm, ⟨21, _⟩ => ⟨S8x8x1, .f32⟩
  | .hbm, ⟨22, _⟩ => ⟨S8x8x1, .f32⟩
  | .hbm, ⟨23, _⟩ => ⟨S_, .f32⟩
  | .hbm, ⟨24, _⟩ => ⟨S8x8x1, .f32⟩
  | .hbm, ⟨25, _⟩ => ⟨S8x8x1, .f32⟩
  | .hbm, ⟨26, _⟩ => ⟨S8x8x1, .f32⟩
  | .hbm, ⟨27, _⟩ => ⟨S8x8x2048, .f32⟩
  | .hbm, ⟨28, _⟩ => ⟨S8x8x2048, .f32⟩
  | .hbm, ⟨29, _⟩ => ⟨S1x1x2048, .f32⟩
  | .hbm, ⟨30, _⟩ => ⟨S8x8x2048, .f32⟩
  | .hbm, ⟨31, _⟩ => ⟨S8x8x2048, .f32⟩
  | .hbm, ⟨32, _⟩ => ⟨S1x1x2048, .f32⟩
  | .hbm, ⟨33, _⟩ => ⟨S8x8x2048, .f32⟩
  | .hbm, ⟨34, _⟩ => ⟨S8x8x2048, .f32⟩
  | .hbm, ⟨35, _⟩ => ⟨S16x8x8, .f32⟩
  | .hbm, ⟨36, _⟩ => ⟨S8x8, .i32⟩
  | .hbm, ⟨37, _⟩ => ⟨S_, .i32⟩
  | .hbm, ⟨38, _⟩ => ⟨S8x8, .i32⟩
  | .hbm, ⟨39, _⟩ => ⟨S8x8, .i32⟩
  | .hbm, ⟨40, _⟩ => ⟨S8x8, .i32⟩
  | .hbm, ⟨41, _⟩ => ⟨S8x8, .i1⟩
  | .hbm, ⟨42, _⟩ => ⟨S16x8x8, .i1⟩
  | .hbm, ⟨43, _⟩ => ⟨S_, .f32⟩
  | .hbm, ⟨44, _⟩ => ⟨S16x8x8, .f32⟩
  | .hbm, ⟨45, _⟩ => ⟨S16x8x8, .f32⟩
  | .hbm, ⟨46, _⟩ => ⟨S8x1x8x16x128, .f32⟩
  | .hbm, ⟨47, _⟩ => ⟨S16x8x1x128x8, .f32⟩
  | .hbm, ⟨48, _⟩ => ⟨S8x1x8x16x128, .f32⟩
  | .hbm, ⟨49, _⟩ => ⟨S16x8, .f32⟩
  | .hbm, ⟨50, _⟩ => ⟨S8x16, .f32⟩
  | .hbm, ⟨51, _⟩ => ⟨S1x1x8x16x1, .f32⟩
  | .hbm, ⟨52, _⟩ => ⟨S8x1x8x16x128, .f32⟩
  | .hbm, ⟨53, _⟩ => ⟨S8x1x8x16x128, .f32⟩
  | .hbm, ⟨54, _⟩ => ⟨S8x8x2048, .f32⟩
  | .hbm, ⟨55, _⟩ => ⟨S8x8x2048, .f32⟩
  | .hbm, ⟨56, _⟩ => ⟨S64x2048, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_c : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_cst : Ref sig .tc := ⟨.hbm, 43, rfl⟩
abbrev main_call0_v6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]
-- ==== Proof.Stick.Loop.lean ====
/-
  The stick-breaking attention kernel's inner loop: what one trip does to the two scratch buffers, and the specification
  of the loop, met by its body by induction on the trips still to run.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.ValueIdxCore

@[expose] public section

set_option maxRecDepth 16384

noncomputable section

namespace Cert.Proof.Stick

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## One head of one key block -/

/-- Head `h`'s rectangle of a scratch buffer. -/
abbrev headRect (h : Fin 4) : Rect S4x256x128 :=
  Rect.unit (s := S4x256x128) ![h.val, 0, 0] S1x256x128.size (by revert h; decide)

/-- Head `h` of key block `n` of the staged keys (or values): its 256 rows and 128 columns. -/
def keyBlock (x : Vec F S2048x512 .f32) (n : ℕ) (h : Fin 4) : Vec F S256x128 .f32 :=
  fun p => x (ix2 (⟨(256 * n + (p 0).val) % 2048, Nat.mod_lt _ (by decide)⟩ : Fin 2048)
    (⟨128 * h.val + (p 1).val, by have := h.isLt; have : (p 1).val < 128 := (p 1).isLt; omega⟩ : Fin 512))

/-- The carried log mass of a head after an unmasked key block. -/
def stepC (q : Vec F S256x128 .bf16) (k : Vec F S256x128 .f32) (c : Vec F S1x256x128 .f32) : Vec F S1x256x128 .f32 :=
  k0_pay73 (k0_pay72 q k0_pay7 k c)

/-- The accumulator of a head after an unmasked key block. -/
def stepA (q : Vec F S256x128 .bf16) (k v : Vec F S256x128 .f32) (c a : Vec F S1x256x128 .f32) : Vec F S1x256x128 .f32 :=
  k0_pay74 (k0_pay64 v) (k0_pay71 q k0_pay6 k c) a

/-- The four heads' log masses after one trip over key block `n`. -/
def tripC (q : Fin 4 → Vec F S256x128 .bf16) (xk : Vec F S2048x512 .f32) (n : ℕ) (C : Vec F S4x256x128 .f32) : Vec F S4x256x128 .f32 :=
  View.canon [⟨headRect 3, stepC (q 3) (keyBlock xk n 3) (View.ld C (headRect 3))⟩,
    ⟨headRect 2, stepC (q 2) (keyBlock xk n 2) (View.ld C (headRect 2))⟩,
    ⟨headRect 1, stepC (q 1) (keyBlock xk n 1) (View.ld C (headRect 1))⟩,
    ⟨headRect 0, stepC (q 0) (keyBlock xk n 0) (View.ld C (headRect 0))⟩]

/-- The four heads' accumulators after one trip over key block `n`. -/
def tripA (q : Fin 4 → Vec F S256x128 .bf16) (xk xv : Vec F S2048x512 .f32) (n : ℕ) (C A : Vec F S4x256x128 .f32) : Vec F S4x256x128 .f32 :=
  View.canon [⟨headRect 3, stepA (q 3) (keyBlock xk n 3) (keyBlock xv n 3) (View.ld C (headRect 3)) (View.ld A (headRect 3))⟩,
    ⟨headRect 2, stepA (q 2) (keyBlock xk n 2) (keyBlock xv n 2) (View.ld C (headRect 2)) (View.ld A (headRect 2))⟩,
    ⟨headRect 1, stepA (q 1) (keyBlock xk n 1) (keyBlock xv n 1) (View.ld C (headRect 1)) (View.ld A (headRect 1))⟩,
    ⟨headRect 0, stepA (q 0) (keyBlock xk n 0) (keyBlock xv n 0) (View.ld C (headRect 0)) (View.ld A (headRect 0))⟩]

/-- The largest entry of one head's log mass. -/
def headMax (c : Vec F S1x256x128 .f32) : F .f32 :=
  extractAt ![0, 0, 0] (shapeCast S1x1x1 (multiReduction .maximumf [1, 2] S1 c 0xFF800000#32 reduces_S1x256x128_S1 (.inl rfl) rfl)
    shapeCasts_S1_S1x1x1) inpos_S1x1x1_p0_0_0

/-- The largest log mass of the four heads after a trip: what the loop's exit test compares. -/
def tripTop (q : Fin 4 → Vec F S256x128 .bf16) (xk : Vec F S2048x512 .f32) (n : ℕ) (C : Vec F S4x256x128 .f32) : F .f32 :=
  Scalar.maximumf (Scalar.maximumf (Scalar.maximumf
    (headMax (stepC (q 0) (keyBlock xk n 0) (View.ld C (headRect 0))))
    (headMax (stepC (q 1) (keyBlock xk n 1) (View.ld C (headRect 1)))))
    (headMax (stepC (q 2) (keyBlock xk n 2) (View.ld C (headRect 2)))))
    (headMax (stepC (q 3) (keyBlock xk n 3) (View.ld C (headRect 3))))

/-- The exit threshold as the program names it. -/
def exitAt : F .f32 := Named.named κ "sb_exit" 0xC2D00000#32

/-- The two scratch buffers after the loop, `k` key blocks (numbers `k - 1` down to `0`) still to visit and `top` the
    largest log mass on entry: the loop stops at block `0` or when `top` has fallen below the threshold. -/
def loop (q : Fin 4 → Vec F S256x128 .bf16) (xk xv : Vec F S2048x512 .f32) :
    ℕ → F .f32 → Vec F S4x256x128 .f32 → Vec F S4x256x128 .f32 → Vec F S4x256x128 .f32 × Vec F S4x256x128 .f32
  | 0, _, C, A => (C, A)
  | n + 1, top, C, A =>
    if Scalar.cmpf .oge top exitAt = 1#1 then loop q xk xv n (tripTop q xk n C) (tripC q xk n C) (tripA q xk xv n C A)
    else (C, A)

/-! ## The loop's words -/

/-- The loop's check of a key block's number holds. -/
theorem chk_of_lt (n : ℕ) (h : n < 8) : k0_chk1 (BitVec.ofNat 32 n) := by
  unfold k0_chk1; interval_cases n <;> decide

/-- The counter of `k` blocks still to visit. -/
def counter (k : ℕ) : BitVec 32 := BitVec.ofNat 32 k - 1#32

theorem counter_succ (n : ℕ) (h : n < 8) : counter (n + 1) = BitVec.ofNat 32 n := by
  unfold counter; interval_cases n <;> decide

theorem counter_test_zero : Scalar.cmpi .sge (counter 0) 0#32 = 0#1 := by decide

theorem counter_test_succ (n : ℕ) (h : n < 8) : Scalar.cmpi .sge (BitVec.ofNat 32 n) 0#32 = 1#1 := by
  interval_cases n <;> decide

theorem andi_one (b : BitVec 1) : Scalar.andi 1#1 b = b := by revert b; decide
theorem andi_zero (b : BitVec 1) : Scalar.andi 0#1 b = 0#1 := by revert b; decide

theorem counter_next (n : ℕ) (h : n < 8) : Scalar.subi (BitVec.ofNat 32 n) 1#32 = counter n := rfl

/-- A load of a 256 by 128 box of the staged keys at literal offsets is the head's key block. -/
theorem ld_keyBlock (x : Vec F S2048x512 .f32) (n : ℕ) (h : Fin 4) (hn : n < 8) (off : Fin 2 → ℕ)
    (hoff : ∀ a, off a + S256x128.size a ≤ S2048x512.size a) (h0 : off 0 = 256 * n) (h1 : off 1 = 128 * h.val) :
    View.ld x (Rect.unit (s := S2048x512) off S256x128.size hoff) = keyBlock x n h := by
  funext p
  have hp : (p 0).val < 256 := (p 0).isLt
  refine congrArg x (funext fun a => Fin.ext ?_)
  fin_cases a
  · show off 0 + 1 * (p 0).val = (256 * n + (p 0).val) % 2048
    rw [h0, Nat.mod_eq_of_lt (by omega)]; omega
  · show off 1 + 1 * (p 1).val = 128 * h.val + (p 1).val
    rw [h1]; omega

theorem off5_zero (n : ℕ) (h : n < 8) : k0_off5 (BitVec.ofNat 32 n) 0 = 256 * n := by interval_cases n <;> decide
theorem off6_zero (n : ℕ) (h : n < 8) : k0_off6 (BitVec.ofNat 32 n) 0 = 256 * n := by interval_cases n <;> decide
theorem off7_zero (n : ℕ) (h : n < 8) : k0_off7 (BitVec.ofNat 32 n) 0 = 256 * n := by interval_cases n <;> decide
theorem off8_zero (n : ℕ) (h : n < 8) : k0_off8 (BitVec.ofNat 32 n) 0 = 256 * n := by interval_cases n <;> decide

/-- Four pieces, one for each head, cover a scratch buffer. -/
theorem heads_cover (p0 p1 p2 p3 : Vec F S1x256x128 .f32) (y : S4x256x128.Idx) :
    ∃ pc ∈ ([⟨headRect 3, p3⟩, ⟨headRect 2, p2⟩, ⟨headRect 1, p1⟩, ⟨headRect 0, p0⟩] :
      List (View.Piece (Elt F) S4x256x128 .f32)), y ∈ pc.1.set :=
  View.cover_of_tiled [⟨headRect 3, p3⟩, ⟨headRect 2, p2⟩, ⟨headRect 1, p1⟩, ⟨headRect 0, p0⟩] S1x256x128.size (by rfl) y

/-! ## The loop's specification -/

/-- The buffers the loop reads and writes: the staged keys and values, the log masses and the accumulators. -/
def held (c : Dev nD) (arg4 arg5 : Memref sig .tc .vmem S2048x512 .f32) (arg7 arg8 : Memref sig .tc .vmem S4x256x128 .f32)
    (xk xv : Vec F S2048x512 .f32) (S : Vec F S4x256x128 .f32 × Vec F S4x256x128 .f32) : sProp 𝕄 :=
  iprop(owns (c : Thread nD τ) arg4 fullShare xk ∗ owns (c : Thread nD τ) arg5 fullShare xv
    ∗ owns (c : Thread nD τ) arg7 fullShare S.1 ∗ owns (c : Thread nD τ) arg8 fullShare S.2)

/-- The loop with `k` key blocks still to visit: it leaves the keys and values as they were and the two scratch buffers
    at `loop`'s. -/
def spec (c : Dev nD) (arg4 arg5 : Memref sig .tc .vmem S2048x512 .f32) (arg7 arg8 : Memref sig .tc .vmem S4x256x128 .f32)
    (q : Fin 4 → Vec F S256x128 .bf16) (xk xv : Vec F S2048x512 .f32) (k : ℕ) (top : F .f32)
    (C A : Vec F S4x256x128 .f32) : sWPT 𝕄 (BitVec 32 × F .f32) := do
  sWPT.consume (held c arg4 arg5 arg7 arg8 xk xv (C, A))
  let r ← sWPT.arbitrary
  sWPT.produce (held c arg4 arg5 arg7 arg8 xk xv (loop q xk xv k top C A))
  pure r

theorem spec_apply (c : Dev nD) (arg4 arg5 : Memref sig .tc .vmem S2048x512 .f32) (arg7 arg8 : Memref sig .tc .vmem S4x256x128 .f32)
    (q : Fin 4 → Vec F S256x128 .bf16) (xk xv : Vec F S2048x512 .f32) (k : ℕ) (top : F .f32)
    (C A : Vec F S4x256x128 .f32) (K : BitVec 32 × F .f32 → sProp 𝕄) :
    spec c arg4 arg5 arg7 arg8 q xk xv k top C A K
      = iprop(held c arg4 arg5 arg7 arg8 xk xv (C, A)
        ∗ ∀ r : BitVec 32 × F .f32, (held c arg4 arg5 arg7 arg8 xk xv (loop q xk xv k top C A) -∗ K r)) := rfl

set_option maxHeartbeats 4000000 in
/-- The loop's body meets the specification at every number of key blocks still to visit. -/
theorem spec_le (c : Dev nD) (E : Set ℕ) (i : grid0.Coords)
    (arg4 : Memref sig .tc .vmem S2048x512 .f32) (harg4 : arg4.IsWhole) (arg5 : Memref sig .tc .vmem S2048x512 .f32) (harg5 : arg5.IsWhole)
    (arg7 : Memref sig .tc .vmem S4x256x128 .f32) (harg7 : arg7.IsWhole) (arg8 : Memref sig .tc .vmem S4x256x128 .f32) (harg8 : arg8.IsWhole)
    (q : Fin 4 → Vec F S256x128 .bf16) (xk xv : Vec F S2048x512 .f32) :
    ∀ k, k ≤ 8 → ∀ (top : F .f32) C A K, spec c arg4 arg5 arg7 arg8 q xk xv k top C A K
      ⊢ wp frame (wpE (defs₀ (F := F)) Variants.nat (c : Thread nD τ) (some k)) E
          (defs₀ (F := F) .tc 1 ⟨i, arg4, harg4, arg5, harg5, q 0, arg7, harg7, k0_pay6, k0_pay7, arg8, harg8, q 1, q 2, q 3, counter k, top⟩) K := by
  intro k
  induction k with
  | zero =>
    intro _ top C A K
    rw [spec_apply]
    show _ ⊢ wp frame (wpE (defs₀ (F := F)) Variants.nat (c : Thread nD τ) (some 0)) E
      (cc0_while1 i arg4 harg4 arg5 harg5 (q 0) arg7 harg7 k0_pay6 k0_pay7 arg8 harg8 (q 1) (q 2) (q 3) (counter 0) top) K
    simp only [cc0_while1_eq_skeleton]; unfold cc0_while1_skel
    simp only [counter_test_zero, andi_zero, show ¬ (0#1 = 1#1) from by decide, ↓reduceIte, Prog.pure_eq_ret]
    iintro ⟨H, Hk⟩
    rw [wp_ret]; imodintro
    iapply Hk
    iexact H
  | succ k ih =>
    intro hk top C A K
    have hk8 : k < 8 := by omega
    rw [spec_apply]
    show _ ⊢ wp frame (wpE (defs₀ (F := F)) Variants.nat (c : Thread nD τ) (some (k + 1))) E
      (cc0_while1 i arg4 harg4 arg5 harg5 (q 0) arg7 harg7 k0_pay6 k0_pay7 arg8 harg8 (q 1) (q 2) (q 3) (counter (k + 1)) top) K
    rw [counter_succ k hk8]
    simp only [cc0_while1_eq_skeleton]; unfold cc0_while1_skel
    simp only [counter_test_succ k hk8, andi_one]
    by_cases htest : Scalar.cmpf .oge top (exitAt (F := F)) = 1#1
    swap
    · unfold exitAt at htest
      simp only [htest, ↓reduceIte, Prog.pure_eq_ret]
      iintro ⟨H, Hk⟩
      rw [wp_ret]; imodintro
      iapply Hk
      rw [loop, if_neg (by unfold exitAt; exact htest)]
      iexact H
    have hloop : loop q xk xv (k + 1) top C A = loop q xk xv k (tripTop q xk k C) (tripC q xk k C) (tripA q xk xv k C A) := by
      rw [loop, if_pos htest]
    rw [hloop]
    unfold exitAt at htest
    simp only [htest, ↓reduceIte]
    have hchk : k0_chk1 (BitVec.ofNat 32 k) := chk_of_lt k hk8
    unfold held owns
    iintro ⟨⟨⟨%f4, %hf4, H4⟩, ⟨%f5, %hf5, H5⟩, ⟨%f7, %hf7, H7⟩, ⟨%f8, %hf8, H8⟩⟩, Hk⟩
    subst hf4 hf5
    sl_exec
    have e0 := fun x : Vec F S2048x512 .f32 =>
      (ld_keyBlock x k 0 hk8 (k0_off5 (BitVec.ofNat 32 k)) (k0_off5_inb _ hchk) (off5_zero k hk8) rfl).symm
    have e1 := fun x : Vec F S2048x512 .f32 =>
      (ld_keyBlock x k 1 hk8 (k0_off6 (BitVec.ofNat 32 k)) (k0_off6_inb _ hchk) (off6_zero k hk8) rfl).symm
    have e2 := fun x : Vec F S2048x512 .f32 =>
      (ld_keyBlock x k 2 hk8 (k0_off7 (BitVec.ofNat 32 k)) (k0_off7_inb _ hchk) (off7_zero k hk8) rfl).symm
    have e3 := fun x : Vec F S2048x512 .f32 =>
      (ld_keyBlock x k 3 hk8 (k0_off8 (BitVec.ofNat 32 k)) (k0_off8_inb _ hchk) (off8_zero k hk8) rfl).symm
    have hf7' : C = arg7.view.read (Elt F) f7 := hf7.symm
    have hf8' : A = arg8.view.read (Elt F) f8 := hf8.symm
    have hT : k0_pay5 (spec_le.sl.v430 c arg4 arg7 q k hchk f4 f7) (spec_le.sl.v467 c arg4 arg7 q k hchk f4 f7)
        = tripTop q (arg4.view.read (Elt F) f4) k C := by
      unfold tripTop; rw [e0, e1, e2, e3, hf7']; rfl
    rw [hT]
    iapply (wp_call_spec Variants.nat (c : Thread nD τ) (some (k + 1)) E
      (spec c arg4 arg5 arg7 arg8 q (arg4.view.read (Elt F) f4) (arg5.view.read (Elt F) f5) k
        (tripTop q (arg4.view.read (Elt F) f4) k C) (tripC q (arg4.view.read (Elt F) f4) k C)
        (tripA q (arg4.view.read (Elt F) f4) (arg5.view.read (Elt F) f5) k C A)) k
      (fun u hu => by cases hu; exact Nat.lt_succ_self k)
      (ih (by omega) _ _ _))
    rw [spec_apply]; unfold held owns
    isplitl [H4 H5 H7 H8]
    · isplitl [H4]
      · iexists f4; isplitr; · ipureintro; rfl
        iexact H4
      isplitl [H5]
      · iexists f5; isplitr; · ipureintro; rfl
        iexact H5
      isplitl [H7]
      · iexists _; isplitr
        swap; · iexact H7
        ipureintro
        refine (View.read_writes_eq_canon _ _ _ (heads_cover _ _ _ _)).trans ?_
        show _ = tripC _ _ _ _
        unfold tripC; rw [e0, e1, e2, e3, hf7']; rfl
      · iexists _; isplitr
        swap; · iexact H8
        ipureintro
        refine (View.read_writes_eq_canon _ _ _ (heads_cover _ _ _ _)).trans ?_
        show _ = tripA _ _ _ _ _ _
        unfold tripA; simp only [e0, e1, e2, e3]; rw [hf7', hf8']; rfl
    iintro %r H
    rw [wp_ret]; imodintro
    iapply Hk
    iexact H

end Cert.Proof.Stick

end
-- ==== Proof.Stick.Body.lean ====
/-
  The stick-breaking attention kernel's body at one grid point: the diagonal key block, the loop over the earlier ones,
  the four heads' results.
-/
module

public import proofs.«01_k».proof.Proof.Stick.Loop
public import Idealize.ShloMosaic.Lib.Pipeline.Value

@[expose] public section

set_option maxRecDepth 16384

noncomputable section

namespace Cert.Proof.Stick

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The body's values -/

/-- Head `h`'s columns of a staged block of queries (or of results). -/
abbrev colRect (h : Fin 4) : Rect S256x512 :=
  Rect.unit (s := S256x512) ![0, 128 * h.val] S256x128.size (by revert h; decide)

/-- The four heads' queries of a staged block. -/
def heads (xq : Vec F S256x512 .bf16) (h : Fin 4) : Vec F S256x128 .bf16 := View.ld xq (colRect h)

/-- A scratch buffer's head before the first block: zeros. -/
def zeroHead : Vec F S1x256x128 .f32 := fun _ => Scalar.ofBits .f32 0x00000000#32

/-- The log mass of a head after the diagonal key block, where a row's query meets the earlier keys only. -/
def diagC (q : Vec F S256x128 .bf16) (k : Vec F S256x128 .f32) (c : Vec F S1x256x128 .f32) : Vec F S1x256x128 .f32 :=
  k0_pay59 (k0_pay51 c) (k0_pay56 k0_pay7 q k0_pay10 k)

/-- The accumulator of a head after the diagonal key block. -/
def diagA (q : Vec F S256x128 .bf16) (k v : Vec F S256x128 .f32) (c a : Vec F S1x256x128 .f32) : Vec F S1x256x128 .f32 :=
  k0_pay60 k0_pay10 (k0_pay49 v) (k0_pay57 k0_pay6 q k0_pay10 k c) a

/-- The four heads' log masses after the diagonal block `n`. -/
def startC (q : Fin 4 → Vec F S256x128 .bf16) (xk : Vec F S2048x512 .f32) (n : ℕ) : Vec F S4x256x128 .f32 :=
  View.canon [⟨headRect 3, diagC (q 3) (keyBlock xk n 3) zeroHead⟩, ⟨headRect 2, diagC (q 2) (keyBlock xk n 2) zeroHead⟩,
    ⟨headRect 1, diagC (q 1) (keyBlock xk n 1) zeroHead⟩, ⟨headRect 0, diagC (q 0) (keyBlock xk n 0) zeroHead⟩]

/-- The four heads' accumulators after the diagonal block `n`. -/
def startA (q : Fin 4 → Vec F S256x128 .bf16) (xk xv : Vec F S2048x512 .f32) (n : ℕ) : Vec F S4x256x128 .f32 :=
  View.canon [⟨headRect 3, diagA (q 3) (keyBlock xk n 3) (keyBlock xv n 3) zeroHead zeroHead⟩, ⟨headRect 2, diagA (q 2) (keyBlock xk n 2) (keyBlock xv n 2) zeroHead zeroHead⟩,
    ⟨headRect 1, diagA (q 1) (keyBlock xk n 1) (keyBlock xv n 1) zeroHead zeroHead⟩, ⟨headRect 0, diagA (q 0) (keyBlock xk n 0) (keyBlock xv n 0) zeroHead zeroHead⟩]

/-- The largest log mass after the diagonal block `n`. -/
def startTop (q : Fin 4 → Vec F S256x128 .bf16) (xk : Vec F S2048x512 .f32) (n : ℕ) : F .f32 :=
  Scalar.maximumf (Scalar.maximumf (Scalar.maximumf
    (headMax (diagC (q 0) (keyBlock xk n 0) zeroHead)) (headMax (diagC (q 1) (keyBlock xk n 1) zeroHead)))
    (headMax (diagC (q 2) (keyBlock xk n 2) zeroHead))) (headMax (diagC (q 3) (keyBlock xk n 3) zeroHead))

/-- The four heads' accumulators at the end of a point whose diagonal block is `n`. -/
def finalA (q : Fin 4 → Vec F S256x128 .bf16) (xk xv : Vec F S2048x512 .f32) (n : ℕ) : Vec F S4x256x128 .f32 :=
  (loop q xk xv n (startTop q xk n) (startC q xk n) (startA q xk xv n)).2

/-- The block of results of a point whose diagonal block is `n`. -/
def result (xq : Vec F S256x512 .bf16) (xk xv : Vec F S2048x512 .f32) (n : ℕ) : Vec F S256x512 .bf16 :=
  View.canon [⟨colRect 3, k0_pay62 (View.ld (finalA (heads xq) xk xv n) (headRect 3))⟩,
    ⟨colRect 2, k0_pay62 (View.ld (finalA (heads xq) xk xv n) (headRect 2))⟩,
    ⟨colRect 1, k0_pay62 (View.ld (finalA (heads xq) xk xv n) (headRect 1))⟩,
    ⟨colRect 0, k0_pay62 (View.ld (finalA (heads xq) xk xv n) (headRect 0))⟩]

theorem cols_cover (p0 p1 p2 p3 : Vec F S256x128 .bf16) (y : S256x512.Idx) :
    ∃ pc ∈ ([⟨colRect 3, p3⟩, ⟨colRect 2, p2⟩, ⟨colRect 1, p1⟩, ⟨colRect 0, p0⟩] :
      List (View.Piece (Elt F) S256x512 .bf16)), y ∈ pc.1.set :=
  View.cover_of_tiled [⟨colRect 3, p3⟩, ⟨colRect 2, p2⟩, ⟨colRect 1, p1⟩, ⟨colRect 0, p0⟩] S256x128.size (by rfl) y

theorem off1_zero (i : grid0.Coords) : k0_off1 i 0 = 256 * (i 2).val := by
  have h : (i 2).val < 8 := (i 2).isLt
  unfold k0_off1; generalize (i 2).val = n at h; interval_cases n <;> decide
theorem off2_zero (i : grid0.Coords) : k0_off2 i 0 = 256 * (i 2).val := by
  have h : (i 2).val < 8 := (i 2).isLt
  unfold k0_off2; generalize (i 2).val = n at h; interval_cases n <;> decide
theorem off3_zero (i : grid0.Coords) : k0_off3 i 0 = 256 * (i 2).val := by
  have h : (i 2).val < 8 := (i 2).isLt
  unfold k0_off3; generalize (i 2).val = n at h; interval_cases n <;> decide
theorem off4_zero (i : grid0.Coords) : k0_off4 i 0 = 256 * (i 2).val := by
  have h : (i 2).val < 8 := (i 2).isLt
  unfold k0_off4; generalize (i 2).val = n at h; interval_cases n <;> decide

/-- A load of a head of a scratch buffer that has been zeroed whole and then written at other heads only reads zeros. -/
theorem zero_load (v : View sig .tc .vmem S4x256x128 .f32) (L : List (View.Piece (Elt F) S4x256x128 .f32)) (B : LoadRect S4x256x128)
    (w : Vec F S4x256x128 .f32) (hw : w = fun _ => Scalar.ofBits .f32 0x00000000#32)
    (inb : ∀ a, (![0, 0, 0] : Fin 3 → ℕ) a + S4x256x128.size a ≤ S4x256x128.size a)
    (hd : ∀ j, ∀ p ∈ L, B.idx j ∉ p.1.set) :
    v.readCov (L ++ [⟨Rect.unit (s := S4x256x128) ![0, 0, 0] S4x256x128.size inb, w⟩]) B = fun _ => Scalar.ofBits .f32 0x00000000#32 := by
  rw [View.readCov_eq_canon']
  funext j
  have h : ∀ (M : List (View.Piece (Elt F) S4x256x128 .f32)), (∀ p ∈ M, B.idx j ∉ p.1.set) →
      View.canon (M ++ [⟨Rect.unit (s := S4x256x128) ![0, 0, 0] S4x256x128.size inb, w⟩]) (B.idx j) = Scalar.ofBits .f32 0x00000000#32 := by
    intro M
    induction M with
    | nil =>
      intro _
      rw [List.nil_append, View.canon_unit_zero (by funext a; fin_cases a <;> rfl), hw]
    | cons p M ih =>
      intro hM
      rw [List.cons_append, View.canon_cons_of_not_mem _ _ (hM p List.mem_cons_self)]
      exact ih fun r hr => hM r (List.mem_cons_of_mem _ hr)
  exact h L (hd j)

set_option maxHeartbeats 4000000 in
/-- The body on whole staging buffers and whole scratch buffers. -/
theorem sound_kernel (c : Dev nD) (E : Set ℕ) (i : grid0.Coords)
    (arg3 : Memref sig .tc .vmem S256x512 .bf16) (harg3 : arg3.IsWhole)
    (arg4 : Memref sig .tc .vmem S2048x512 .f32) (harg4 : arg4.IsWhole) (arg5 : Memref sig .tc .vmem S2048x512 .f32) (harg5 : arg5.IsWhole)
    (arg6 : Memref sig .tc .vmem S256x512 .bf16) (harg6 : arg6.IsWhole)
    (arg7 : Memref sig .tc .vmem S4x256x128 .f32) (harg7 : arg7.IsWhole) (arg8 : Memref sig .tc .vmem S4x256x128 .f32) (harg8 : arg8.IsWhole)
    (xq : Vec F S256x512 .bf16) (xk xv : Vec F S2048x512 .f32) (K : PUnit → sProp 𝕄) :
    iprop(owns (c : Thread nD τ) arg3 fullShare xq ∗ owns (c : Thread nD τ) arg4 fullShare xk ∗ owns (c : Thread nD τ) arg5 fullShare xv
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare xq ∗ owns (c : Thread nD τ) arg4 fullShare xk ∗ owns (c : Thread nD τ) arg5 fullShare xv
          ∗ owns (c : Thread nD τ) arg6 fullShare (result xq xk xv (i 2).val)
          ∗ (∃ d, owns (c : Thread nD τ) arg7 fullShare d) ∗ (∃ d, owns (c : Thread nD τ) arg8 fullShare d)) -∗ K ⟨⟩))
      ⊢ wp frame (wpE (defs₀ (F := F)) Variants.nat c none) E
          (cc0_sb_prompt i arg3 harg3 arg4 harg4 arg5 harg5 arg6 harg6 arg7 harg7 arg8 harg8) K := by
  simp only [cc0_sb_prompt_eq_skeleton]; unfold cc0_sb_prompt_skel
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf3 hf4 hf5
  sl_exec
  have z0 : sound_kernel.sl.v34 c arg7 = zeroHead (F := F) :=
    zero_load _ [] _ _ rfl _ (LoadRect.forall_not_mem_of_disjAll _ _ rfl)
  have z1 : sound_kernel.sl.v90 c i arg3 arg4 arg7 f3 f4 = zeroHead (F := F) :=
    zero_load _ [⟨_, _⟩] _ _ rfl _ (LoadRect.forall_not_mem_of_disjAll _ _ rfl)
  have z2 : sound_kernel.sl.v147 c i arg3 arg4 arg7 f3 f4 = zeroHead (F := F) :=
    zero_load _ [⟨_, _⟩, ⟨_, _⟩] _ _ rfl _ (LoadRect.forall_not_mem_of_disjAll _ _ rfl)
  have z3 : sound_kernel.sl.v204 c i arg3 arg4 arg7 f3 f4 = zeroHead (F := F) :=
    zero_load _ [⟨_, _⟩, ⟨_, _⟩, ⟨_, _⟩] _ _ rfl _ (LoadRect.forall_not_mem_of_disjAll _ _ rfl)
  have y0 : sound_kernel.sl.v69 c arg8 = zeroHead (F := F) :=
    zero_load _ [] _ _ rfl _ (LoadRect.forall_not_mem_of_disjAll _ _ rfl)
  have y1 : sound_kernel.sl.v125 c i arg3 arg4 arg5 arg7 arg8 f3 f4 f5 = zeroHead (F := F) :=
    zero_load _ [⟨_, _⟩] _ _ rfl _ (LoadRect.forall_not_mem_of_disjAll _ _ rfl)
  have y2 : sound_kernel.sl.v182 c i arg3 arg4 arg5 arg7 arg8 f3 f4 f5 = zeroHead (F := F) :=
    zero_load _ [⟨_, _⟩, ⟨_, _⟩] _ _ rfl _ (LoadRect.forall_not_mem_of_disjAll _ _ rfl)
  have y3 : sound_kernel.sl.v239 c i arg3 arg4 arg5 arg7 arg8 f3 f4 f5 = zeroHead (F := F) :=
    zero_load _ [⟨_, _⟩, ⟨_, _⟩, ⟨_, _⟩] _ _ rfl _ (LoadRect.forall_not_mem_of_disjAll _ _ rfl)
  have hn : (i 2).val < 8 := (i 2).isLt
  have e0 := fun x : Vec F S2048x512 .f32 => (ld_keyBlock x _ 0 hn (k0_off1 i) (k0_off1_inb i) (off1_zero i) rfl).symm
  have e1 := fun x : Vec F S2048x512 .f32 => (ld_keyBlock x _ 1 hn (k0_off2 i) (k0_off2_inb i) (off2_zero i) rfl).symm
  have e2 := fun x : Vec F S2048x512 .f32 => (ld_keyBlock x _ 2 hn (k0_off3 i) (k0_off3_inb i) (off3_zero i) rfl).symm
  have e3 := fun x : Vec F S2048x512 .f32 => (ld_keyBlock x _ 3 hn (k0_off4 i) (k0_off4_inb i) (off4_zero i) rfl).symm
  have hT : sound_kernel.sl.v251 c i arg3 arg4 arg7 f3 f4
      = startTop (heads (arg3.view.read (Elt F) f3)) (arg4.view.read (Elt F) f4) (i 2).val := by
    unfold startTop
    rw [e0, e1, e2, e3]
    calc _ = Scalar.maximumf (Scalar.maximumf (Scalar.maximumf
        (headMax (diagC _ _ (sound_kernel.sl.v34 c arg7))) (headMax (diagC _ _ (sound_kernel.sl.v90 c i arg3 arg4 arg7 f3 f4))))
        (headMax (diagC _ _ (sound_kernel.sl.v147 c i arg3 arg4 arg7 f3 f4)))) (headMax (diagC _ _ (sound_kernel.sl.v204 c i arg3 arg4 arg7 f3 f4))) := rfl
      _ = _ := by rw [z0, z1, z2, z3]; rfl
  rw [hT, show sound_kernel.sl.r c arg3 f3 = heads (arg3.view.read (Elt F) f3) 0 from rfl,
    show sound_kernel.sl.r_1 c arg3 f3 = heads (arg3.view.read (Elt F) f3) 1 from rfl,
    show sound_kernel.sl.r_2 c arg3 f3 = heads (arg3.view.read (Elt F) f3) 2 from rfl,
    show sound_kernel.sl.r_3 c arg3 f3 = heads (arg3.view.read (Elt F) f3) 3 from rfl,
    show sound_kernel.sl.v252 i = counter (i 2).val from rfl]
  iapply (wp_call_spec Variants.nat (c : Thread nD τ) none E
    (spec c arg4 arg5 arg7 arg8 (heads (arg3.view.read (Elt F) f3)) (arg4.view.read (Elt F) f4) (arg5.view.read (Elt F) f5) (i 2).val
      (startTop (heads (arg3.view.read (Elt F) f3)) (arg4.view.read (Elt F) f4) (i 2).val)
      (startC (heads (arg3.view.read (Elt F) f3)) (arg4.view.read (Elt F) f4) (i 2).val)
      (startA (heads (arg3.view.read (Elt F) f3)) (arg4.view.read (Elt F) f4) (arg5.view.read (Elt F) f5) (i 2).val)) (i 2).val
    (fun u hu => nomatch hu)
    (spec_le c E i arg4 harg4 arg5 harg5 arg7 harg7 arg8 harg8 _ _ _ _ (by omega) _ _ _))
  rw [spec_apply]; unfold held owns
  isplitl [H4 H5 H7 H8]
  · isplitl [H4]
    · iexists f4; isplitr; · ipureintro; rfl
      iexact H4
    isplitl [H5]
    · iexists f5; isplitr; · ipureintro; rfl
      iexact H5
    isplitl [H7]
    · iexists _; isplitr
      swap; · iexact H7
      ipureintro
      refine (View.read_writes_eq_canon arg7.view (arg7.view.writes (Elt F) f7 [⟨_, _⟩]) [⟨headRect 3, _⟩, ⟨headRect 2, _⟩, ⟨headRect 1, _⟩, ⟨headRect 0, _⟩] (heads_cover _ _ _ _)).trans ?_
      show _ = startC _ _ _
      unfold startC; rw [e0, e1, e2, e3]
      calc _ = View.canon [⟨headRect 3, diagC _ _ (sound_kernel.sl.v204 c i arg3 arg4 arg7 f3 f4)⟩,
            ⟨headRect 2, diagC _ _ (sound_kernel.sl.v147 c i arg3 arg4 arg7 f3 f4)⟩,
            ⟨headRect 1, diagC _ _ (sound_kernel.sl.v90 c i arg3 arg4 arg7 f3 f4)⟩,
            ⟨headRect 0, diagC _ _ (sound_kernel.sl.v34 c arg7)⟩] := rfl
        _ = _ := by rw [z0, z1, z2, z3]; rfl
    · iexists _; isplitr
      swap; · iexact H8
      ipureintro
      refine (View.read_writes_eq_canon arg8.view (arg8.view.writes (Elt F) f8 [⟨_, _⟩]) [⟨headRect 3, _⟩, ⟨headRect 2, _⟩, ⟨headRect 1, _⟩, ⟨headRect 0, _⟩] (heads_cover _ _ _ _)).trans ?_
      show _ = startA _ _ _ _
      unfold startA; simp only [e0, e1, e2, e3]
      calc _ = View.canon [⟨headRect 3, diagA _ _ _ (sound_kernel.sl.v204 c i arg3 arg4 arg7 f3 f4) (sound_kernel.sl.v239 c i arg3 arg4 arg5 arg7 arg8 f3 f4 f5)⟩,
            ⟨headRect 2, diagA _ _ _ (sound_kernel.sl.v147 c i arg3 arg4 arg7 f3 f4) (sound_kernel.sl.v182 c i arg3 arg4 arg5 arg7 arg8 f3 f4 f5)⟩,
            ⟨headRect 1, diagA _ _ _ (sound_kernel.sl.v90 c i arg3 arg4 arg7 f3 f4) (sound_kernel.sl.v125 c i arg3 arg4 arg5 arg7 arg8 f3 f4 f5)⟩,
            ⟨headRect 0, diagA _ _ _ (sound_kernel.sl.v34 c arg7) (sound_kernel.sl.v69 c arg8)⟩] := rfl
        _ = _ := by rw [z0, z1, z2, z3, y0, y1, y2, y3]; rfl
  iintro %r ⟨⟨%g4, %hg4, H4⟩, ⟨%g5, %hg5, H5⟩, ⟨%g7, %hg7, H7⟩, ⟨%g8, %hg8, H8⟩⟩
  obtain ⟨r1, r2⟩ := r
  sl_exec
  sl_step
  iapply Hk
  isplitl [H3]
  · iexists f3; isplitr; · ipureintro; rfl
    iexact H3
  isplitl [H4]
  · iexists g4; isplitr; · ipureintro; exact hg4
    iexact H4
  isplitl [H5]
  · iexists g5; isplitr; · ipureintro; exact hg5
    iexact H5
  isplitl [H6]
  · iexists _; isplitr
    swap; · iexact H6
    ipureintro
    refine (View.read_writes_eq_canon _ _ _ (cols_cover _ _ _ _)).trans ?_
    unfold result finalA
    rw [← hg8]; rfl
  isplitl [H7]
  · iexists _, g7; isplitr; · ipureintro; rfl
    iexact H7
  · iexists _, g8; isplitr; · ipureintro; rfl
    iexact H8

end Cert.Proof.Stick

end
-- ==== Proof.Stick.Run.lean ====
/-
  The stick-breaking attention kernel's run: the pipeline's proof data over the body's triple, the launch, the frame, and
  the result array block by block.
-/
module

public import proofs.«01_k».proof.Proof.Stick.Body
public import Idealize.ShloMosaic.Lib.Pipeline.Value

@[expose] public section

set_option maxRecDepth 16384

noncomputable section

namespace Cert.Proof.Stick

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers as the region finds them: as launched. -/
abbrev start (c : Dev nD) (b : Ref sig .tc) : Buf (Elt F) ((c : Thread nD τ).loc b) := m ((c : Thread nD τ).loc b)

set_option maxHeartbeats 800000 in
theorem reaches (𝒱 : Variants) : Pipeline.HMain (Ix := Unit) (Name := ℕ) (U := UR sig nD τ) (Lvl := ℕ) cfgs 0 defs₀ 𝒱 m (main (F := F)) (start m) :=
  Pipeline.hmain_region cfgs 0 defs₀ 𝒱 m main fun c => (main_chain c).trans rfl

/-- Window `w`'s block at point `t`, read off its array as launched. -/
def blockAt (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (start m c (Pipeline.arrRef spec0 w))

/-- The pipeline's proof data: an input's buffer keeps its block, the output's ends at the body's result; both scratch
    buffers are at anything between points. -/
def pdat (_ : Fin 1) (c : Dev nD) : Dat τ (Elt F) Unit ℕ (UR sig nD τ) ℕ (cfg0 (F := F)) c where
  A w := start m c (Pipeline.arrRef spec0 w)
  after w t := match w with
    | ⟨0, _⟩ => blockAt m c 0 t
    | ⟨1, _⟩ => blockAt m c 1 t
    | ⟨2, _⟩ => blockAt m c 2 t
    | ⟨3, _⟩ => result (blockAt m c 0 t) (blockAt m c 1 t) (blockAt m c 2 t) (grid0.coords t 2).val
  Φ _ := Pipeline.ΦA spec0 c
  q _ := fullShare
  owed _ := 0

theorem pdat_A (c : Dev nD) (w : Fin (cfg0 (F := F)).W) : (pdat m 0 c).A w = start m c (Pipeline.arrRef spec0 w) := by
  dsimp only [pdat]

theorem after_q (c : Dev nD) (t : Fin (cfg0 (F := F)).N) : (pdat m 0 c).after 0 t = blockAt m c 0 t := by dsimp only [pdat]; rfl
theorem after_k (c : Dev nD) (t : Fin (cfg0 (F := F)).N) : (pdat m 0 c).after 1 t = blockAt m c 1 t := by dsimp only [pdat]; rfl
theorem after_v (c : Dev nD) (t : Fin (cfg0 (F := F)).N) : (pdat m 0 c).after 2 t = blockAt m c 2 t := by dsimp only [pdat]; rfl
theorem after_out (c : Dev nD) (t : Fin (cfg0 (F := F)).N) : (pdat m 0 c).after 3 t
    = result (blockAt m c 0 t) (blockAt m c 1 t) (blockAt m c 2 t) (grid0.coords t 2).val := by dsimp only [pdat]; rfl

/-- An input's staging buffer holds its block at every point, whether fetched there or kept from the point before. -/
theorem before_of {c : Dev nD} (w : Fin (cfg0 (F := F)).W) (hw : ((cfg0 (F := F)).win w).isOut = false)
    (hlive : ∀ i, (cfg0 (F := F)).idle w i = false)
    (hclip : ∀ t t' : Fin (cfg0 (F := F)).N, ((cfg0 (F := F)).win w).index t = ((cfg0 (F := F)).win w).index t' →
      ((cfg0 (F := F)).win w).clip ((cfg0 (F := F)).grid.coords t) = ((cfg0 (F := F)).win w).clip ((cfg0 (F := F)).grid.coords t'))
    (hkeep : ∀ t, ((cfg0 (F := F)).win w).cut ((cfg0 (F := F)).grid.coords t) ((pdat m 0 c).after w t) = (pdat m 0 c).blockOf w t)
    (t : Fin (cfg0 (F := F)).N) (d) : (pdat m 0 c).before w t d = (pdat m 0 c).fetched w t d :=
  (pdat m 0 c).before_in_eq_fetched w hw hlive hclip hkeep t d

theorem before_q (c : Dev nD) (t : Fin (cfg0 (F := F)).N) (d) : (pdat m 0 c).before 0 t d = blockAt m c 0 t :=
  (before_of m 0 rfl (fun _ => rfl) (fun _ _ _ => rfl) (fun t => by rw [after_q]; unfold Dat.blockOf blockAt; rw [pdat_A]; rfl) t d).trans
    (by unfold Dat.fetched Dat.blockOf blockAt; rw [pdat_A]; rfl)
theorem before_k (c : Dev nD) (t : Fin (cfg0 (F := F)).N) (d) : (pdat m 0 c).before 1 t d = blockAt m c 1 t :=
  (before_of m 1 rfl (fun _ => rfl) (fun _ _ _ => rfl) (fun t => by rw [after_k]; unfold Dat.blockOf blockAt; rw [pdat_A]; rfl) t d).trans
    (by unfold Dat.fetched Dat.blockOf blockAt; rw [pdat_A]; rfl)
theorem before_v (c : Dev nD) (t : Fin (cfg0 (F := F)).N) (d) : (pdat m 0 c).before 2 t d = blockAt m c 2 t :=
  (before_of m 2 rfl (fun _ => rfl) (fun _ _ _ => rfl) (fun t => by rw [after_v]; unfold Dat.blockOf blockAt; rw [pdat_A]; rfl) t d).trans
    (by unfold Dat.fetched Dat.blockOf blockAt; rw [pdat_A]; rfl)

/-- The invariant between points, opened: the two scratch buffers at anything and the generator's register. -/
theorem rest_eq (c : Dev nD) : (Pipeline.ΦA spec0 c : sProp 𝕄)
    = iprop(((∃ d, owns (c : Thread nD τ) (Memref.whole cc0_scratch0) fullShare d)
      ∗ (∃ d, owns (c : Thread nD τ) (Memref.whole cc0_scratch1) fullShare d)) ∗ (∃ r, prngReg c r)) := by
  unfold Pipeline.ΦA; rw [scopedRest0_eq]; simp only [owns_whole]

/-- What the body finds at point `t`, -/
def bodyFinds (c : Dev nD) (t : Fin (cfg0 (F := F)).N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d)))

/-- and what it leaves. -/
def bodyLeaves (c : Dev nD) (t : Fin (cfg0 (F := F)).N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t))

set_option maxHeartbeats 1000000 in
theorem body_at (c : Dev nD) (t : Fin (cfg0 (F := F)).N) :
    bodyFinds m c t ⊢ wp frame (wpE (defs₀ (F := F)) Variants.nat c none) Set.univ (bodyAt0 t) (fun _ => bodyLeaves m c t) := by
  unfold bodyFinds bodyLeaves bodyAt0
  simp only [before_q, before_k, before_v]
  rw [show (pdat m 0 c).Φ t.succ = Pipeline.ΦA spec0 c from rfl, show (pdat m 0 c).Φ t.castSucc = Pipeline.ΦA spec0 c from rfl,
    show (pdat m 0 c).owesAt () t.succ = (pdat m 0 c).owesAt () t.castSucc from rfl,
    after_q, after_k, after_v, after_out, rest_eq]
  iintro ⟨⟨⟨S0, S1⟩, Hg⟩, Ho, ⟨%d0, H0⟩, ⟨%d1, H1⟩, ⟨%d2, H2⟩, ⟨%d3, H3⟩⟩
  iapply (sound_kernel c Set.univ (grid0.coords t) _ _ _ _ _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  isplitl [S0]; · iexact S0
  isplitl [S1]; · iexact S1
  iintro ⟨H0, H1, H2, H3, S0, S1⟩
  isplitl [S0 S1 Hg]
  · isplitl [S0 S1]
    · isplitl [S0]; · iexact S0
      iexact S1
    iexact Hg
  isplitl [Ho]; · iexact Ho
  isplitl [H0]; · iexact H0
  isplitl [H1]; · iexact H1
  isplitl [H2]; · iexact H2
  iexact H3

theorem body_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_met (c : Dev nD) : BodyObligation (pdat (F := F) m 0 c) (defs₀ (F := F)) Variants.nat () Set.univ := fun t => by
  rw [bigSep_W0, bigSep_W0, body_row]
  exact triple_restated (body_at m c t) rfl .rfl fun _ => .rfl

set_option backward.isDefEq.respectTransparency.types false in
set_option maxHeartbeats 800000 in
/-- The launch: every weakly fair execution ends, with the arrays at what the proof data computes and every semaphore at
    zero. -/
theorem launch : θ_run defs (onTc (τ := τ) (main (F := F))) (s₀ m ρ)
    (fun r => (Pipeline.FramePost cfgs (pdat m) 0 (start m)) r ∧ r.2.sem = fun _ => 0) :=
  Pipeline.θ_run_frame (Q' := _) cfgs (pdat m) (0 : Fin 1) launch0 defs₀ Variants.nat m ρ main
    (hbody := fun c => (body_met m c).loose) (hshare := fun c => (pdat m 0 c).share_full fun _ => rfl)
    (howed := fun _ _ => rfl) (V := start m) (hmain := reaches m Variants.nat) (hA := pdat_A m) (hΦ := fun _ _ => rfl)

/-- The run: the result array at the proof data's, the arguments unchanged, every semaphore at zero. -/
theorem run : θ_run defs (onTc (τ := τ) (main (F := F))) ⟨m, fun _ => 0, ρ⟩ (fun r => (∀ c : Dev nD,
      r.2.mem ((c : Thread nD τ).loc main_v0) = (pdat m 0 c).arrAt 3 (cfg0 (F := F)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun _ h => ⟨fun c => ⟨(h.1 c).1 3,
      ((h.1 c).1 0).trans (((pdat m 0 c).arrAt_in 0 rfl _).trans (pdat_A m c 0)),
      ((h.1 c).1 1).trans (((pdat m 0 c).arrAt_in 1 rfl _).trans (pdat_A m c 1)),
      ((h.1 c).1 2).trans (((pdat m 0 c).arrAt_in 2 rfl _).trans (pdat_A m c 2))⟩, h.2⟩) (launch m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run m ρ)

end Cert.Proof.Stick

end
-- ==== Proof.Stick.Head.lean ====
/-
  One head of one key block on the extended reals: with finite scores every log weight is a real number, so the block's
  two products by the triangle and by the ones are real sums, and the weights are real exponentials.
-/
module

public import proofs.«01_k».proof.Proof.Stick.Body
public import Idealize.ShloMosaic.Lib.MatmulPlain
public import Idealize.ShloMosaic.Lib.ValueLayout
public import Idealize.ShloMosaic.Lib.IdealHost
import Idealize.ShloMosaic.Lib.StackMember
public import Idealize.ShloMosaic.PureOps.Ideal.Laws

@[expose] public section

noncomputable section

open Idealize.ShloMosaic Idealize.ShloMosaic.TcCoe Idealize.ShloMosaic.ValueIdx Idealize.SL.Sem
open scoped BigOperators

namespace Cert.Proof.Stick

open Cert.KernelIdeal Cert.KernelIdeal.Gen

/-- The softplus of a real score, in the form that does not overflow. -/
def sp (x : ℝ) : ℝ := max x 0 + Real.log (1 + Real.exp (-|x|))

/-- The scale of the scores, as the real number its pattern denotes. -/
theorem scale_real : Ideal.ofBits .f32 0x3DB504F3#32 = ((11863283 / 134217728 : ℝ) : EReal) := by
  simp [Ideal.ofBits, Ideal.ieee, -EReal.coe_mul]; norm_num

theorem coe_max (x y : ℝ) : ((max x y : ℝ) : EReal) = max (x : EReal) (y : EReal) := EReal.coe_strictMono.monotone.map_max

/-- A real score's absolute value on the extended reals. -/
theorem abs_coe (x : ℝ) : max (x : EReal) (-(x : EReal)) = ((|x| : ℝ) : EReal) := by
  rw [← EReal.coe_neg, ← coe_max]; rfl

/-- `log (1 + y)` of a real that is not negative is a real. -/
theorem log1p_coe (y : ℝ) (h : 0 ≤ y) : Ideal.log1p (y : EReal) = ((Real.log (1 + y) : ℝ) : EReal) := by
  unfold Ideal.log1p
  rw [← EReal.coe_one, ← EReal.coe_add, Ideal.log_coe, if_neg (by linarith)]

/-- A sum of real numbers, on the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The kernel's softplus of a real score. -/
theorem softplus_coe (x : ℝ) :
    max (x : EReal) 0 + Ideal.log1p (Ideal.exp (0 - max (x : EReal) (-(x : EReal)))) = (sp x : EReal) := by
  rw [abs_coe, zero_sub, ← EReal.coe_neg, Ideal.exp_coe, log1p_coe _ (Real.exp_pos _).le]
  unfold sp
  rw [EReal.coe_add, coe_max]; rfl

/-! ## The scores -/

/-- A block's scores at query row `r` and key row `t`. -/
theorem score_apply (q : Vec Ideal S256x128 .bf16) (k : Vec Ideal S256x128 .f32) (r t : Fin 256) :
    (k0_pay65 q k (ix2 r t) : EReal)
      = (∑ d : Fin 128, (q (ix2 r d) : EReal) * k (ix2 t d)) * Ideal.ofBits .f32 0x3DB504F3#32 := by
  have e : (matmul (F := Ideal) (φ₁ := .bf16) (φ₂ := .bf16) dot_S256x128_S256x128_S256x256_1_1_0_0_n_n none q
      (truncf .bf16 k bitsLt_bf16_f32) (constant (F := Ideal) S256x256 .f32 0x00000000#32) (ix2 r t) : EReal)
      = ∑ d : Fin 128, (q (ix2 r d) : EReal) * k (ix2 t d) := by
    refine (Ideal.matmul_constant_zero_apply (φ₁ := .bf16) (φ₂ := .bf16) dot_S256x128_S256x128_S256x256_1_1_0_0_n_n none q (truncf .bf16 k bitsLt_bf16_f32) (ix2 r t)).trans ?_
    rw [← Equiv.sum_comp (contrEquiv1 dot_S256x128_S256x128_S256x256_1_1_0_0_n_n 128 rfl rfl).symm]
    refine Finset.sum_congr rfl fun d _ => ?_
    have e := contrEquiv1_symm_val dot_S256x128_S256x128_S256x256_1_1_0_0_n_n 128 rfl rfl d
    refine congrArg₂ (fun a b : EReal => a * b) (congrArg q ?_) (congrArg k ?_)
    · funext a; apply Fin.ext
      match a with
      | ⟨0, _⟩ => rfl
      | ⟨1, _⟩ => exact e
    · funext a; apply Fin.ext
      match a with
      | ⟨0, _⟩ => rfl
      | ⟨1, _⟩ => exact e
  exact congrArg (fun a : EReal => a * Ideal.ofBits .f32 0x3DB504F3#32) e

section Scores

variable (q : Vec Ideal S256x128 .bf16) (k : Vec Ideal S256x128 .f32) (z : Fin 256 → Fin 256 → ℝ)
  (hz : ∀ r t, (k0_pay65 q k (ix2 r t) : EReal) = (z r t : EReal))

include hz

/-- The kernel's softplus of a block's scores. -/
theorem sp_apply (r t : Fin 256) : (k0_pay67 q k (ix2 r t) : EReal) = (sp (z r t) : EReal) := by
  refine Eq.trans ?_ (softplus_coe (z r t))
  have e : (k0_pay67 q k (ix2 r t) : EReal) = max (k0_pay65 q k (ix2 r t) : EReal) (Ideal.ofBits .f32 0x00000000#32)
      + Ideal.log1p (Ideal.exp (Ideal.ofBits .f32 0x00000000#32 - max (k0_pay65 q k (ix2 r t) : EReal) (-(k0_pay65 q k (ix2 r t) : EReal)))) := rfl
  rw [e, hz, Ideal.ofBits_zero_f32]

/-- The log weights an unmasked block passes on. -/
theorem ln_apply (r t : Fin 256) : (k0_pay68 q k (ix2 r t) : EReal) = ((-sp (z r t) : ℝ) : EReal) := by
  have e : (k0_pay68 q k (ix2 r t) : EReal) = Ideal.ofBits .f32 0x00000000#32 - (k0_pay67 q k (ix2 r t) : EReal) := rfl
  rw [e, sp_apply q k z hz, Ideal.ofBits_zero_f32, zero_sub, EReal.coe_neg]

theorem hi_apply (r t : Fin 256) : (k0_pay69 q k (ix2 r t) : EReal) = ((-sp (z r t) : ℝ) : EReal) := ln_apply q k z hz r t

theorem lo_apply (r t : Fin 256) : (k0_pay70 q k (ix2 r t) : EReal) = ((0 : ℝ) : EReal) := by
  have e : (k0_pay70 q k (ix2 r t) : EReal) = (k0_pay68 q k (ix2 r t) : EReal) - (k0_pay68 q k (ix2 r t) : EReal) := rfl
  rw [e, ln_apply q k z hz, ← EReal.coe_sub, sub_self]

end Scores

/-! ## The triangle and the ones -/

/-- Comparing two positions of a block as words compares them as numbers. -/
theorem later (u t : Fin 256) : IntOp.cmpi .sgt (BitVec.ofNat 32 u.val) (BitVec.ofNat 32 t.val) = if t < u then 1#1 else 0#1 := by
  have hu := u.isLt
  have ht := t.isLt
  rw [WordCmp.cmpi_sgt_of_lt (by rw [BitVec.toNat_ofNat]; omega) (by rw [BitVec.toNat_ofNat]; omega), BitVec.toNat_ofNat, BitVec.toNat_ofNat,
    Nat.mod_eq_of_lt (by omega), Nat.mod_eq_of_lt (by omega)]
  by_cases h : t < u
  · simp only [h, Fin.lt_def.mp h, ↓reduceIte, decide_true]; rfl
  · have h2 : ¬ t.val < u.val := h
    simp only [h, h2, ↓reduceIte, decide_false]; rfl

/-- The triangle holds one where the row is after the column. -/
theorem tri_apply (u t : Fin 256) : (k0_pay6 (F := Ideal) (ix2 u t) : EReal) = if t < u then 1 else 0 := by
  have e : (k0_pay6 (F := Ideal) (ix2 u t) : EReal)
      = Scalar.select (IntOp.cmpi .sgt (iota .tc S256x256 32 [0] iota_S256x256_d0_w32 (ix2 u t)) (iota .tc S256x256 32 [1] iota_S256x256_d1_w32 (ix2 u t)))
        (Ideal.ofBits .f32 0x3F800000#32) (Ideal.ofBits .f32 0x00000000#32) := rfl
  rw [e, iota_single_apply, iota_single_apply, Ideal.ofBits_zero_f32, Ideal.ofBits_one_f32]
  have h : IntOp.cmpi .sgt (BitVec.ofNat 32 (ix2 u t (0 : Fin 2)).val) (BitVec.ofNat 32 (ix2 u t (1 : Fin 2)).val) = if t < u then 1#1 else 0#1 := later u t
  rw [h]
  by_cases h : t < u
  · simp only [h, ↓reduceIte]; rfl
  · simp only [h, ↓reduceIte]; rfl

theorem ones_apply (u : Fin 256) (l : Fin 128) : (k0_pay7 (F := Ideal) (ix2 u l) : EReal) = 1 := Ideal.ofBits_one_bf16

/-- The mask holds where the key is before the query. -/
theorem mask_apply (r t : Fin 256) : k0_pay10 (ix2 r t) = if t < r then 1#1 else 0#1 := by
  refine Eq.trans ?_ (later r t)
  show IntOp.cmpi .slt (iota .tc S256x256 32 [1] iota_S256x256_d1_w32 (ix2 r t)) (iota .tc S256x256 32 [0] iota_S256x256_d0_w32 (ix2 r t)) = _
  rw [iota_single_apply, iota_single_apply]; rfl

section Scores

variable (q : Vec Ideal S256x128 .bf16) (k : Vec Ideal S256x128 .f32) (z : Fin 256 → Fin 256 → ℝ)
  (hz : ∀ r t, (k0_pay65 q k (ix2 r t) : EReal) = (z r t : EReal))

include hz

/-- The log weights of the block on the diagonal: zero where the key is not before the query. -/
theorem ln_diag_apply (r t : Fin 256) : (k0_pay53 q k0_pay10 k (ix2 r t) : EReal) = ((if t < r then -sp (z r t) else 0 : ℝ) : EReal) := by
  have e : (k0_pay53 q k0_pay10 k (ix2 r t) : EReal) = Scalar.select (k0_pay10 (ix2 r t)) (k0_pay68 q k (ix2 r t) : EReal) (Ideal.ofBits .f32 0x00000000#32) := rfl
  rw [e, mask_apply, ln_apply q k z hz, Ideal.ofBits_zero_f32]
  by_cases h : t < r
  · simp only [h, ↓reduceIte]; rfl
  · simp only [h, ↓reduceIte]; rfl

theorem hi_diag_apply (r t : Fin 256) : (k0_pay54 q k0_pay10 k (ix2 r t) : EReal) = ((if t < r then -sp (z r t) else 0 : ℝ) : EReal) := ln_diag_apply q k z hz r t

theorem lo_diag_apply (r t : Fin 256) : (k0_pay55 q k0_pay10 k (ix2 r t) : EReal) = ((0 : ℝ) : EReal) := by
  have e : (k0_pay55 q k0_pay10 k (ix2 r t) : EReal) = (k0_pay53 q k0_pay10 k (ix2 r t) : EReal) - (k0_pay53 q k0_pay10 k (ix2 r t) : EReal) := rfl
  rw [e, ln_diag_apply q k z hz, ← EReal.coe_sub, sub_self]

end Scores

/-- A product by the triangle of real entries: the sum over the later columns. -/
theorem within_apply (L : FVec Ideal S256x256 .bf16) (l : Fin 256 → Fin 256 → ℝ) (hl : ∀ r t, (L (ix2 r t) : EReal) = (l r t : EReal)) (r t : Fin 256) :
    (matmul (F := Ideal) (φ₁ := .bf16) (φ₂ := .bf16) dot_S256x256_S256x256_S256x256_1_0_0_1_n_n none L k0_pay6 (constant (F := Ideal) S256x256 .f32 0x00000000#32) (ix2 r t) : EReal)
      = ((∑ u : Fin 256, if t < u then l r u else 0 : ℝ) : EReal) := by
  refine (Ideal.matmul_plain_apply (φ₁ := .bf16) (φ₂ := .bf16) (M := 256) (K := 256) (N := 256) none L _ _ r t).trans ?_
  refine (congrArg₂ (· + ·) Ideal.ofBits_zero_f32 (Finset.sum_congr rfl fun u _ => ?_)).trans ((zero_add _).trans (coe_sum _ _).symm)
  refine (congrArg₂ (fun a b : EReal => a * b) (hl r u) (tri_apply u t)).trans ?_
  by_cases h : t < u
  · simp only [h, ↓reduceIte, mul_one]
  · simp only [h, ↓reduceIte, mul_zero, EReal.coe_zero]

/-- A product by the ones of real entries: the row's sum, in every lane. -/
theorem total_apply (L : FVec Ideal S256x256 .bf16) (l : Fin 256 → Fin 256 → ℝ) (hl : ∀ r t, (L (ix2 r t) : EReal) = (l r t : EReal)) (r : Fin 256) (j : Fin 128) :
    (matmul (F := Ideal) (φ₁ := .bf16) (φ₂ := .bf16) dot_S256x256_S256x128_S256x128_1_0_0_1_n_n none L k0_pay7 (constant (F := Ideal) S256x128 .f32 0x00000000#32) (ix2 r j) : EReal)
      = ((∑ u : Fin 256, l r u : ℝ) : EReal) := by
  refine (Ideal.matmul_plain_apply (φ₁ := .bf16) (φ₂ := .bf16) (M := 256) (K := 256) (N := 128) none L _ _ r j).trans ?_
  refine (congrArg₂ (· + ·) Ideal.ofBits_zero_f32 (Finset.sum_congr rfl fun u _ => ?_)).trans ((zero_add _).trans (coe_sum _ _).symm)
  exact (congrArg₂ (fun a b : EReal => a * b) (hl r u) (ones_apply u j)).trans (mul_one _)

/-- A product by the values. -/
theorem values_apply (a : FVec Ideal S256x256 .bf16) (v : FVec Ideal S256x128 .bf16) (r : Fin 256) (j : Fin 128) :
    (matmul (F := Ideal) (φ₁ := .bf16) (φ₂ := .bf16) dot_S256x256_S256x128_S256x128_1_0_0_1_n_n none a v (constant (F := Ideal) S256x128 .f32 0x00000000#32) (ix2 r j) : EReal)
      = ∑ u : Fin 256, (a (ix2 r u) : EReal) * v (ix2 u j) :=
  (Ideal.matmul_plain_apply (φ₁ := .bf16) (φ₂ := .bf16) (M := 256) (K := 256) (N := 128) none a v _ r j).trans
    ((congrArg₂ (· + ·) Ideal.ofBits_zero_f32 rfl).trans (zero_add _))

/-! ## A block without a mask -/

/-- The carried mass of a head, one real for each row in every lane. -/
abbrev Carries (c : Vec Ideal S1x256x128 .f32) (C : Fin 256 → ℝ) : Prop := ∀ r j, (c (ix3 0 r j) : EReal) = (C r : EReal)

/-- The carried mass beside itself: 256 columns of it. -/
theorem twice_apply (c : Vec Ideal S1x256x128 .f32) (C : Fin 256 → ℝ) (hc : Carries c C) (r t : Fin 256) :
    (concatenate S256x256 1 [⟨S256x128, k0_pay66 c⟩, ⟨S256x128, k0_pay66 c⟩] concatenates_S256x128_S256x128_S256x256_d1 (ix2 r t) : EReal) = (C r : EReal) := by
  have e (j : Fin 128) : (k0_pay66 c (ix2 r j) : EReal) = (C r : EReal) := (shapeCast_1ab_ab_apply c shapeCasts_S1x256x128_S256x128 r j).trans (hc r j)
  have ht := t.isLt
  by_cases h : t.val < 128
  · refine (concatenate_pair_apply_left (t := S256x256) 1 _ _ concatenates_S256x128_S256x128_S256x256_d1 (ix2 r t) rfl (ix2 r ⟨t.val, h⟩) fun b => ?_).trans (e ⟨t.val, h⟩)
    fin_cases b <;> rfl
  · refine (concatenate_pair_apply_right (t := S256x256) 1 _ _ concatenates_S256x128_S256x128_S256x256_d1 (ix2 r t) rfl rfl (ix2 r ⟨t.val - 128, by omega⟩) (fun b hb => ?_) ?_).trans (e _)
    · fin_cases b
      · rfl
      · exact absurd rfl hb
    · show t.val - 128 + 128 = t.val
      omega

section Block

variable (q : Vec Ideal S256x128 .bf16) (k v : Vec Ideal S256x128 .f32) (c a : Vec Ideal S1x256x128 .f32) (z : Fin 256 → Fin 256 → ℝ)
  (hz : ∀ r t, (k0_pay65 q k (ix2 r t) : EReal) = (z r t : EReal)) (C : Fin 256 → ℝ) (hc : Carries c C)

include hz hc

/-- The weights of an unmasked block. -/
theorem weight_apply (r t : Fin 256) : (k0_pay71 q k0_pay6 k c (ix2 r t) : EReal)
    = ((Real.exp (z r t - sp (z r t) + (∑ u : Fin 256, if t < u then -sp (z r u) else 0) + C r) : ℝ) : EReal) := by
  have e : (k0_pay71 q k0_pay6 k c (ix2 r t) : EReal) = Ideal.exp ((((k0_pay65 q k (ix2 r t) : EReal) - (k0_pay67 q k (ix2 r t) : EReal))
      + ((matmul (F := Ideal) (φ₁ := .bf16) (φ₂ := .bf16) dot_S256x256_S256x256_S256x256_1_0_0_1_n_n none (k0_pay69 q k) k0_pay6 (constant (F := Ideal) S256x256 .f32 0x00000000#32) (ix2 r t) : EReal)
        + (matmul (F := Ideal) (φ₁ := .bf16) (φ₂ := .bf16) dot_S256x256_S256x256_S256x256_1_0_0_1_n_n none (k0_pay70 q k) k0_pay6 (constant (F := Ideal) S256x256 .f32 0x00000000#32) (ix2 r t) : EReal)))
      + (concatenate S256x256 1 [⟨S256x128, k0_pay66 c⟩, ⟨S256x128, k0_pay66 c⟩] concatenates_S256x128_S256x128_S256x256_d1 (ix2 r t) : EReal)) := rfl
  rw [e, twice_apply c C hc, within_apply _ _ (hi_apply q k z hz), within_apply _ _ (lo_apply q k z hz), hz, sp_apply q k z hz]
  simp only [ite_self, Finset.sum_const_zero, EReal.coe_zero, add_zero]
  rw [← EReal.coe_sub, ← EReal.coe_add, ← EReal.coe_add, Ideal.exp_coe]

/-- The carried mass after an unmasked block. -/
theorem stepC_apply : Carries (stepC q k c) fun r => C r + ∑ u : Fin 256, -sp (z r u) := by
  intro r j
  refine (shapeCast_ab_1ab_apply (k0_pay72 q k0_pay7 k c) shapeCasts_S256x128_S1x256x128 0 r j).trans ?_
  have e : (k0_pay72 q k0_pay7 k c (ix2 r j) : EReal) = (k0_pay66 c (ix2 r j) : EReal)
      + ((matmul (F := Ideal) (φ₁ := .bf16) (φ₂ := .bf16) dot_S256x256_S256x128_S256x128_1_0_0_1_n_n none (k0_pay69 q k) k0_pay7 (constant (F := Ideal) S256x128 .f32 0x00000000#32) (ix2 r j) : EReal)
        + (matmul (F := Ideal) (φ₁ := .bf16) (φ₂ := .bf16) dot_S256x256_S256x128_S256x128_1_0_0_1_n_n none (k0_pay70 q k) k0_pay7 (constant (F := Ideal) S256x128 .f32 0x00000000#32) (ix2 r j) : EReal)) := rfl
  rw [e, total_apply _ _ (hi_apply q k z hz), total_apply _ _ (lo_apply q k z hz)]
  have e2 : (k0_pay66 c (ix2 r j) : EReal) = (C r : EReal) := (shapeCast_1ab_ab_apply c shapeCasts_S1x256x128_S256x128 r j).trans (hc r j)
  rw [e2]
  simp only [Finset.sum_const_zero, EReal.coe_zero, add_zero]
  rw [← EReal.coe_add]

/-- The accumulator after an unmasked block. -/
theorem stepA_apply (r : Fin 256) (j : Fin 128) : (stepA q k v c a (ix3 0 r j) : EReal) = (a (ix3 0 r j) : EReal)
    + ∑ t : Fin 256, ((Real.exp (z r t - sp (z r t) + (∑ u : Fin 256, if t < u then -sp (z r u) else 0) + C r) : ℝ) : EReal) * (v (ix2 t j) : EReal) := by
  refine (shapeCast_ab_1ab_apply (addf (F := Ideal) (shapeCast S256x128 a shapeCasts_S1x256x128_S256x128)
    (matmul (F := Ideal) (φ₁ := .bf16) (φ₂ := .bf16) dot_S256x256_S256x128_S256x128_1_0_0_1_n_n none (truncf .bf16 (k0_pay71 q k0_pay6 k c) bitsLt_bf16_f32)
      (truncf .bf16 v bitsLt_bf16_f32) (constant (F := Ideal) S256x128 .f32 0x00000000#32))) shapeCasts_S256x128_S1x256x128 0 r j).trans ?_
  refine congrArg₂ (fun a b : EReal => a + b) (shapeCast_1ab_ab_apply a shapeCasts_S1x256x128_S256x128 r j) ((values_apply _ _ r j).trans ?_)
  exact Finset.sum_congr rfl fun t _ => congrArg (fun b : EReal => b * (v (ix2 t j) : EReal)) (weight_apply q k c z hz C hc r t)

/-- The carried mass after the block on the diagonal. -/
theorem diagC_apply : Carries (diagC q k c) fun r => C r + ∑ u : Fin 256, if u < r then -sp (z r u) else 0 := by
  intro r j
  refine (shapeCast_ab_1ab_apply (k0_pay58 (k0_pay51 c) (k0_pay56 k0_pay7 q k0_pay10 k)) shapeCasts_S256x128_S1x256x128 0 r j).trans ?_
  have e : (k0_pay58 (k0_pay51 c) (k0_pay56 k0_pay7 q k0_pay10 k) (ix2 r j) : EReal) = (k0_pay51 c (ix2 r j) : EReal)
      + ((matmul (F := Ideal) (φ₁ := .bf16) (φ₂ := .bf16) dot_S256x256_S256x128_S256x128_1_0_0_1_n_n none (k0_pay54 q k0_pay10 k) k0_pay7 (constant (F := Ideal) S256x128 .f32 0x00000000#32) (ix2 r j) : EReal)
        + (matmul (F := Ideal) (φ₁ := .bf16) (φ₂ := .bf16) dot_S256x256_S256x128_S256x128_1_0_0_1_n_n none (k0_pay55 q k0_pay10 k) k0_pay7 (constant (F := Ideal) S256x128 .f32 0x00000000#32) (ix2 r j) : EReal)) := rfl
  rw [e, total_apply _ _ (hi_diag_apply q k z hz), total_apply _ _ (lo_diag_apply q k z hz)]
  have e2 : (k0_pay51 c (ix2 r j) : EReal) = (C r : EReal) := (shapeCast_1ab_ab_apply c shapeCasts_S1x256x128_S256x128 r j).trans (hc r j)
  rw [e2]
  simp only [Finset.sum_const_zero, EReal.coe_zero, add_zero]
  rw [← EReal.coe_add]

/-- The accumulator after the block on the diagonal. -/
theorem diagA_apply (r : Fin 256) (j : Fin 128) : (diagA q k v c a (ix3 0 r j) : EReal) = (a (ix3 0 r j) : EReal)
    + ∑ t : Fin 256, ((if t < r then Real.exp (z r t - sp (z r t) + (∑ u : Fin 256, if t < u then (if u < r then -sp (z r u) else 0) else 0) + C r) else 0 : ℝ) : EReal) * (v (ix2 t j) : EReal) := by
  refine (shapeCast_ab_1ab_apply (addf (F := Ideal) (shapeCast S256x128 a shapeCasts_S1x256x128_S256x128)
    (matmul (F := Ideal) (φ₁ := .bf16) (φ₂ := .bf16) dot_S256x256_S256x128_S256x128_1_0_0_1_n_n none (truncf .bf16 (select k0_pay10 (k0_pay57 k0_pay6 q k0_pay10 k c) (broadcast S256x256 (Scalar.ofBits (F := Ideal) .f32 0x00000000#32))) bitsLt_bf16_f32)
      (truncf .bf16 v bitsLt_bf16_f32) (constant (F := Ideal) S256x128 .f32 0x00000000#32))) shapeCasts_S256x128_S1x256x128 0 r j).trans ?_
  refine congrArg₂ (fun a b : EReal => a + b) (shapeCast_1ab_ab_apply a shapeCasts_S1x256x128_S256x128 r j) ((values_apply _ _ r j).trans ?_)
  refine Finset.sum_congr rfl fun t _ => congrArg (fun b : EReal => b * (v (ix2 t j) : EReal)) ?_
  show Scalar.select (k0_pay10 (ix2 r t)) (k0_pay57 k0_pay6 q k0_pay10 k c (ix2 r t) : EReal) (Ideal.ofBits .f32 0x00000000#32) = _
  rw [mask_apply, Ideal.ofBits_zero_f32]
  by_cases h : t < r
  · simp only [h, ↓reduceIte]
    have e : (k0_pay57 k0_pay6 q k0_pay10 k c (ix2 r t) : EReal) = Ideal.exp ((((k0_pay65 q k (ix2 r t) : EReal) - (k0_pay67 q k (ix2 r t) : EReal))
      + ((matmul (F := Ideal) (φ₁ := .bf16) (φ₂ := .bf16) dot_S256x256_S256x256_S256x256_1_0_0_1_n_n none (k0_pay54 q k0_pay10 k) k0_pay6 (constant (F := Ideal) S256x256 .f32 0x00000000#32) (ix2 r t) : EReal)
        + (matmul (F := Ideal) (φ₁ := .bf16) (φ₂ := .bf16) dot_S256x256_S256x256_S256x256_1_0_0_1_n_n none (k0_pay55 q k0_pay10 k) k0_pay6 (constant (F := Ideal) S256x256 .f32 0x00000000#32) (ix2 r t) : EReal)))
      + (concatenate S256x256 1 [⟨S256x128, k0_pay66 c⟩, ⟨S256x128, k0_pay66 c⟩] concatenates_S256x128_S256x128_S256x256_d1 (ix2 r t) : EReal)) := rfl
    show (k0_pay57 k0_pay6 q k0_pay10 k c (ix2 r t) : EReal) = _
    rw [e, twice_apply c C hc, within_apply _ _ (hi_diag_apply q k z hz), within_apply _ _ (lo_diag_apply q k z hz), hz, sp_apply q k z hz]
    simp only [ite_self, Finset.sum_const_zero, EReal.coe_zero, add_zero]
    rw [← EReal.coe_sub, ← EReal.coe_add, ← EReal.coe_add, Ideal.exp_coe]
  · simp only [h, ↓reduceIte]; rfl

end Block

end Cert.Proof.Stick

end
-- ==== Proof.Stick.Value.lean ====
/-
  The whole of a grid point on the extended reals: with finite scores the loop visits every key block down to block 0,
  and a head's accumulator ends as the sum over the keys of the stick-breaking weights times the values.
-/
module

public import proofs.«01_k».proof.Proof.Stick.Head
public import Idealize.ShloMosaic.Lib.Pipeline.ValueKit.Tiles

@[expose] public section

noncomputable section

open Idealize.ShloMosaic Idealize.ShloMosaic.TcCoe Idealize.ShloMosaic.ValueIdx Idealize.SL.Sem
open scoped BigOperators

namespace Cert.Proof.Stick

open Cert.KernelIdeal Cert.KernelIdeal.Gen

/-! ## Reading the scratch buffers head by head -/

/-- Four pieces, one for each head, read at a head. -/
theorem heads_canon (p : Fin 4 → Vec Ideal S1x256x128 .f32) (h : Fin 4) (r : Fin 256) (d : Fin 128) :
    View.canon (Val := Elt Ideal) (e := .f32) [⟨headRect 3, p 3⟩, ⟨headRect 2, p 2⟩, ⟨headRect 1, p 1⟩, ⟨headRect 0, p 0⟩] (ix3 h r d) = p h (ix3 0 r d) := by
  have one (g : Fin 4) : View.TileAt (Val := Elt Ideal) (e := .f32) (S := S4x256x128) (ix3 h r d) ![g.val, 0, 0] S1x256x128.size (p g) (p h (ix3 0 r d)) := by
    intro x hx
    have h0 : h.val = g.val + (x 0).val := hx 0
    have h1 : r.val = 0 + (x 1).val := hx 1
    have h2 : d.val = 0 + (x 2).val := hx 2
    have hx0 : (x 0).val < 1 := (x 0).isLt
    obtain rfl : h = g := Fin.ext (by omega)
    refine congrArg (p h) (funext fun a => Fin.ext ?_)
    fin_cases a
    · show (x 0).val = 0
      omega
    · show (x 1).val = r.val
      omega
    · show (x 2).val = d.val
      omega
  exact View.canon_eq_of_allAt _ _ _ (heads_cover _ _ _ _ _)
    (View.allAt_cons_unit _ _ _ _ _ (one 3) (View.allAt_cons_unit _ _ _ _ _ (one 2)
      (View.allAt_cons_unit _ _ _ _ _ (one 1) (View.allAt_cons_unit _ _ _ _ _ (one 0) (View.allAt_nil _ _)))))

/-- A load of a head of a scratch buffer. -/
theorem head_ld (C : Vec Ideal S4x256x128 .f32) (h : Fin 4) (r : Fin 256) (d : Fin 128) :
    (View.ld C (headRect h) (ix3 0 r d) : EReal) = C (ix3 h r d) := by
  refine congrArg C (funext fun a => Fin.ext ?_)
  fin_cases a
  · show h.val + 1 * 0 = h.val
    omega
  · show 0 + 1 * r.val = r.val
    omega
  · show 0 + 1 * d.val = d.val
    omega

/-! ## Sums over one block -/

/-- A block's sum, over the positions it stands at. -/
theorem block_sum {M : Type*} [AddCommMonoid M] (f : ℕ → M) (m : ℕ) :
    ∑ u : Fin 256, f (256 * m + u.val) = ∑ x ∈ Finset.Ico (256 * m) (256 * (m + 1)), f x := by
  rw [Finset.sum_Ico_eq_sum_range, show 256 * (m + 1) - 256 * m = 256 by omega, Finset.sum_range]

/-- The sum over a block's later positions. -/
theorem later_sum (f : ℕ → ℝ) (m : ℕ) (t : Fin 256) :
    (∑ u : Fin 256, if t < u then f (256 * m + u.val) else 0) = ∑ x ∈ Finset.Ico (256 * m + t.val + 1) (256 * (m + 1)), f x := by
  have e : (∑ u : Fin 256, if t < u then f (256 * m + u.val) else 0) = ∑ u : Fin 256, (fun x => if 256 * m + t.val < x then f x else 0) (256 * m + u.val) := by
    refine Finset.sum_congr rfl fun u _ => ?_
    have : t < u ↔ 256 * m + t.val < 256 * m + u.val := by rw [Fin.lt_def]; omega
    simp only [this]
  rw [e, block_sum (fun x => if 256 * m + t.val < x then f x else 0), ← Finset.sum_filter]
  refine Finset.sum_congr ?_ fun _ _ => rfl
  ext x
  simp only [Finset.mem_filter, Finset.mem_Ico]
  omega

/-- The exit test always passes: the threshold is below every extended real. -/
theorem always_on (top : Ideal .f32) : Scalar.cmpf .oge top (exitAt (F := Ideal)) = 1#1 := by
  have e : (exitAt (F := Ideal) : EReal) = ⊥ := (IdealRules.named_const.statement Cert.KernelIdeal.κ "sb_exit" .f32 0xC2D00000#32 ⊥ rfl).2.2
  have c : Scalar.cmpf .oge top (exitAt (F := Ideal)) = BitVec.ofBool (decide ((exitAt (F := Ideal) : EReal) ≤ top)) := rfl
  rw [c, e, decide_eq_true bot_le]; rfl

/-! ## The weights -/

section Point

variable (q : Fin 4 → Vec Ideal S256x128 .bf16) (xk xv : Vec Ideal S2048x512 .f32) (n : ℕ) (Z : Fin 4 → Fin 256 → ℕ → ℝ)

/-- A key's log weight for query row `r` of block `n`: zero from the query on. -/
def lnAt (h : Fin 4) (r : Fin 256) (t : ℕ) : ℝ := if t < 256 * n + r.val then -sp (Z h r t) else 0

/-- The stick-breaking weight of key `t` for query row `r` of block `n`. -/
def weightAt (h : Fin 4) (r : Fin 256) (t : ℕ) : ℝ :=
  if t < 256 * n + r.val then Real.exp (Z h r t - sp (Z h r t) + ∑ u ∈ Finset.Ico (t + 1) (256 * (n + 1)), lnAt n Z h r u) else 0

/-- The value of key `t` at dimension `d` of head `h`. -/
def valueAt (h : Fin 4) (t : ℕ) (d : Fin 128) : EReal :=
  xv (ix2 (⟨t % 2048, Nat.mod_lt _ (by decide)⟩ : Fin 2048) (⟨128 * h.val + d.val, by omega⟩ : Fin 512))

/-- The two scratch buffers when the key blocks `m … n` have been visited. -/
def Visited (m : ℕ) (C A : Vec Ideal S4x256x128 .f32) : Prop := ∀ h r d,
  (C (ix3 h r d) : EReal) = ((∑ t ∈ Finset.Ico (256 * m) (256 * (n + 1)), lnAt n Z h r t : ℝ) : EReal)
  ∧ (A (ix3 h r d) : EReal) = ∑ t ∈ Finset.Ico (256 * m) (256 * (n + 1)), (weightAt n Z h r t : EReal) * valueAt xv h t d

variable (hZ : ∀ h m, m < 8 → ∀ r t : Fin 256, (k0_pay65 (q h) (keyBlock xk m h) (ix2 r t) : EReal) = (Z h r (256 * m + t.val) : EReal))

include hZ

/-- The diagonal block starts the sums. -/
theorem start_visited (hn : n < 8) : Visited xv n Z n (startC q xk n) (startA q xk xv n) := by
  intro h r d
  have hc : Carries zeroHead fun _ => 0 := fun _ _ => Ideal.ofBits_zero_f32
  have hln (r u : Fin 256) : (if u < r then -sp (Z h r (256 * n + u.val)) else 0) = lnAt n Z h r (256 * n + u.val) := by
    unfold lnAt
    have : u < r ↔ 256 * n + u.val < 256 * n + r.val := by rw [Fin.lt_def]; omega
    simp only [this]
  constructor
  · refine (heads_canon (fun h => diagC (q h) (keyBlock xk n h) zeroHead) h r d).trans ?_
    refine (diagC_apply (q h) (keyBlock xk n h) zeroHead (fun r t => Z h r (256 * n + t.val)) (hZ h n hn) _ hc r d).trans ?_
    simp only [hln, zero_add]
    rw [block_sum (fun t => lnAt n Z h r t)]
  · refine (heads_canon (fun h => diagA (q h) (keyBlock xk n h) (keyBlock xv n h) zeroHead zeroHead) h r d).trans ?_
    refine (diagA_apply (q h) (keyBlock xk n h) (keyBlock xv n h) zeroHead zeroHead (fun r t => Z h r (256 * n + t.val)) (hZ h n hn) _ hc r d).trans ?_
    refine (congrArg₂ (fun a b : EReal => a + b) Ideal.ofBits_zero_f32 rfl).trans ((zero_add _).trans ?_)
    rw [← block_sum (fun t => (weightAt n Z h r t : EReal) * valueAt xv h t d)]
    refine Finset.sum_congr rfl fun t _ => congrArg₂ (fun a b : EReal => a * b) (congrArg Real.toEReal ?_) rfl
    unfold weightAt
    have e : t < r ↔ 256 * n + t.val < 256 * n + r.val := by rw [Fin.lt_def]; omega
    simp only [hln, ← e, add_zero]
    rw [later_sum (fun t => lnAt n Z h r t)]

/-- A trip over an earlier block extends the sums. -/
theorem trip_visited (m : ℕ) (hm : m < n) (hn : n < 8) (C A : Vec Ideal S4x256x128 .f32) (hV : Visited xv n Z (m + 1) C A) :
    Visited xv n Z m (tripC q xk m C) (tripA q xk xv m C A) := by
  intro h r d
  have hc : Carries (View.ld C (headRect h)) fun r => ∑ t ∈ Finset.Ico (256 * (m + 1)) (256 * (n + 1)), lnAt n Z h r t :=
    fun r d => (head_ld C h r d).trans (hV h r d).1
  have hlt (r u : Fin 256) : 256 * m + u.val < 256 * n + r.val := by have := u.isLt; omega
  have hln (r u : Fin 256) : -sp (Z h r (256 * m + u.val)) = lnAt n Z h r (256 * m + u.val) := by
    unfold lnAt; rw [if_pos (hlt r u)]
  constructor
  · refine (heads_canon (fun h => stepC (q h) (keyBlock xk m h) (View.ld C (headRect h))) h r d).trans ?_
    refine (stepC_apply (q h) (keyBlock xk m h) (View.ld C (headRect h)) (fun r t => Z h r (256 * m + t.val)) (hZ h m (by omega)) _ hc r d).trans ?_
    simp only [hln]
    rw [block_sum (fun t => lnAt n Z h r t), add_comm, Finset.sum_Ico_consecutive _ (by omega) (by omega)]
  · refine (heads_canon (fun h => stepA (q h) (keyBlock xk m h) (keyBlock xv m h) (View.ld C (headRect h)) (View.ld A (headRect h))) h r d).trans ?_
    refine (stepA_apply (q h) (keyBlock xk m h) (keyBlock xv m h) (View.ld C (headRect h)) (View.ld A (headRect h)) (fun r t => Z h r (256 * m + t.val)) (hZ h m (by omega)) _ hc r d).trans ?_
    refine (congrArg₂ (fun a b : EReal => a + b) ((head_ld A h r d).trans (hV h r d).2) rfl).trans ?_
    rw [add_comm, ← Finset.sum_Ico_consecutive _ (show 256 * m ≤ 256 * (m + 1) by omega) (show 256 * (m + 1) ≤ 256 * (n + 1) by omega)]
    refine congrArg₂ (fun a b : EReal => a + b) ?_ rfl
    rw [← block_sum (fun t => (weightAt n Z h r t : EReal) * valueAt xv h t d)]
    refine Finset.sum_congr rfl fun t _ => congrArg₂ (fun a b : EReal => a * b) (congrArg Real.toEReal ?_) rfl
    unfold weightAt
    rw [if_pos (hlt r t)]
    simp only [hln]
    rw [later_sum (fun t => lnAt n Z h r t), add_assoc, Finset.sum_Ico_consecutive _ (by have := t.isLt; omega) (by omega)]

/-- The loop from block `m` down to block 0. -/
theorem loop_visited (hn : n < 8) (m : ℕ) : m ≤ n → ∀ (top : Ideal .f32) (C A : Vec Ideal S4x256x128 .f32), Visited xv n Z m C A →
    Visited xv n Z 0 (loop q xk xv m top C A).1 (loop q xk xv m top C A).2 := by
  induction m with
  | zero => exact fun _ _ _ _ hV => hV
  | succ m ih =>
    intro hm top C A hV
    have e : loop q xk xv (m + 1) top C A = loop q xk xv m (tripTop q xk m C) (tripC q xk m C) (tripA q xk xv m C A) := by
      rw [loop, if_pos (always_on top)]
    rw [e]
    exact ih (by omega) _ _ _ (trip_visited q xk xv n Z hZ m (by omega) hn C A hV)

/-- A head's accumulator at the end of a point. -/
theorem final_apply (hn : n < 8) (h : Fin 4) (r : Fin 256) (d : Fin 128) :
    (finalA q xk xv n (ix3 h r d) : EReal) = ∑ t ∈ Finset.range (256 * (n + 1)), (weightAt n Z h r t : EReal) * valueAt xv h t d := by
  rw [Finset.range_eq_Ico]
  exact (loop_visited q xk xv n Z hZ hn n le_rfl _ _ _ (start_visited q xk xv n Z hZ hn) h r d).2

end Point

/-- Four pieces, one for each head's columns, read at a head. -/
theorem cols_canon (p : Fin 4 → Vec Ideal S256x128 .bf16) (h : Fin 4) (r : Fin 256) (d : Fin 128) :
    View.canon (Val := Elt Ideal) (e := .bf16) [⟨colRect 3, p 3⟩, ⟨colRect 2, p 2⟩, ⟨colRect 1, p 1⟩, ⟨colRect 0, p 0⟩] (ix2 r (⟨128 * h.val + d.val, by omega⟩ : Fin 512)) = p h (ix2 r d) := by
  have one (g : Fin 4) : View.TileAt (Val := Elt Ideal) (e := .bf16) (S := S256x512) (ix2 r (⟨128 * h.val + d.val, by omega⟩ : Fin 512)) ![0, 128 * g.val] S256x128.size (p g) (p h (ix2 r d)) := by
    intro x hx
    have h0 : r.val = 0 + (x 0).val := hx 0
    have h1 : 128 * h.val + d.val = 128 * g.val + (x 1).val := hx 1
    have hx1 : (x 1).val < 128 := (x 1).isLt
    have hd := d.isLt
    obtain rfl : h = g := Fin.ext (by omega)
    refine congrArg (p h) (funext fun a => Fin.ext ?_)
    fin_cases a
    · show (x 0).val = r.val
      omega
    · show (x 1).val = d.val
      omega
  exact View.canon_eq_of_allAt _ _ _ (cols_cover _ _ _ _ _)
    (View.allAt_cons_unit _ _ _ _ _ (one 3) (View.allAt_cons_unit _ _ _ _ _ (one 2)
      (View.allAt_cons_unit _ _ _ _ _ (one 1) (View.allAt_cons_unit _ _ _ _ _ (one 0) (View.allAt_nil _ _)))))

/-- A point's block of results, at row `r` and dimension `d` of head `h`. -/
theorem result_apply (xq : Vec Ideal S256x512 .bf16) (xk xv : Vec Ideal S2048x512 .f32) (n : ℕ) (hn : n < 8) (Z : Fin 4 → Fin 256 → ℕ → ℝ)
    (hZ : ∀ h m, m < 8 → ∀ r t : Fin 256, (k0_pay65 (heads xq h) (keyBlock xk m h) (ix2 r t) : EReal) = (Z h r (256 * m + t.val) : EReal))
    (h : Fin 4) (r : Fin 256) (d : Fin 128) :
    (result xq xk xv n (ix2 r (⟨128 * h.val + d.val, by omega⟩ : Fin 512)) : EReal)
      = ∑ t ∈ Finset.range (256 * (n + 1)), (weightAt n Z h r t : EReal) * valueAt xv h t d := by
  refine (cols_canon (fun h => k0_pay62 (View.ld (finalA (heads xq) xk xv n) (headRect h))) h r d).trans ?_
  refine (shapeCast_1ab_ab_apply (View.ld (finalA (heads xq) xk xv n) (headRect h)) shapeCasts_S1x256x128_S256x128 r d).trans ?_
  exact (head_ld _ h r d).trans (final_apply (heads xq) xk xv n Z hZ hn h r d)

end Cert.Proof.Stick

end
-- ==== Proof.Stick.Reference.lean ====
/-
  The reference's attention on the extended reals: with finite queries and keys its scores are real numbers, and a result
  is the sum over the keys of the stick-breaking weights times the values.
-/
module

public import proofs.«01_k».proof.Proof.Stick.Head
public import proofs.«01_k».proof.Proof.Gen.ReferenceIdeal.Run
public import proofs.«01_k».proof.Pre_finite_scores
public import Idealize.ShloMosaic.Lib.ReduceAll

@[expose] public section

noncomputable section

open Idealize.ShloMosaic Idealize.ShloMosaic.TcCoe Idealize.ShloMosaic.ValueIdx Idealize.SL.Sem
open scoped BigOperators

namespace Cert.Proof.Stick.Ref

open Cert.ReferenceIdeal Cert.ReferenceIdeal.Gen

/-! ## The reference's steps, named -/

/-- The scaled scores of every batch and head. -/
def scores (q : FVec Ideal S8192x2048 .bf16) (k : FVec Ideal S8192x2048 .f32) : FVec Ideal S4x16x2048x2048 .f32 :=
  mulf (Host.dotGeneral dot_S4x2048x16x128_S4x2048x16x128_S4x16x2048x2048_3_3_1_1_02_02 none
    (shapeCast S4x2048x16x128 (extf .f32 q bitsLt_bf16_f32) shapeCasts_S8192x2048_S4x2048x16x128)
    (shapeCast S4x2048x16x128 k shapeCasts_S8192x2048_S4x2048x16x128))
    (broadcastInDim S4x16x2048x2048 ![] bcast_S_S4x16x2048x2048 (constant S_ .f32 0x3DB504F3#32))

/-- The mask: the key is before the query. -/
def mask : IVec S4x16x2048x2048 1 :=
  broadcastInDim S4x16x2048x2048 ![2, 3] bcast_S2048x2048_S4x16x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- Zeros in the scores' shape. -/
def zeros : FVec Ideal S4x16x2048x2048 .f32 := broadcastInDim S4x16x2048x2048 ![] bcast_S_S4x16x2048x2048 (constant S_ .f32 0x00000000#32)

/-- The softplus, `log (eˣ + 1)`. -/
def softplus (x : FVec Ideal S4x16x2048x2048 .f32) : FVec Ideal S4x16x2048x2048 .f32 :=
  select (cmpf .une (subf x zeros) (subf x zeros)) (addf x zeros)
    (addf (maximumf x zeros) (Host.log1p (Host.exp (Host.negf (Host.absf (subf x zeros))))))

/-- The log weights a key leaves to the earlier ones. -/
def logNot (z : FVec Ideal S4x16x2048x2048 .f32) : FVec Ideal S4x16x2048x2048 .f32 :=
  select mask (Host.negf (softplus (Host.negf (Host.negf z)))) zeros

/-- The sums of the log weights from each key on. -/
def fromOn (z : FVec Ideal S4x16x2048x2048 .f32) : FVec Ideal S4x16x2048x2048 .f32 :=
  Host.reduceWindowAdd ![1, 1, 1, 2048] ![1, 1, 1, 1] ![0, 0, 0, 0] ![0, 0, 0, 2047] (logNot z) (broadcastInDim S_ ![] bcast_S_S_ (constant S_ .f32 0x00000000#32))
    reduceWindows_S4x16x2048x2048_S4x16x2048x2048_w1s1p0_0_w1s1p0_0_w1s1p0_0_w2048s1p0_2047 h_S_

/-- The attention weights. -/
def weights (z : FVec Ideal S4x16x2048x2048 .f32) : FVec Ideal S4x16x2048x2048 .f32 :=
  select mask (Host.exp (addf (Host.negf (softplus (Host.negf z))) (subf (fromOn z) (logNot z)))) zeros

/-- The products of the values and the weights. -/
def products (v : FVec Ideal S8192x2048 .f32) (w : FVec Ideal S4x16x2048x2048 .f32) : FVec Ideal S4x16x128x2048 .f32 :=
  Host.dotGeneral dot_S4x2048x16x128_S4x16x2048x2048_S4x16x128x2048_1_3_3_2_02_01 none (shapeCast S4x2048x16x128 v shapeCasts_S8192x2048_S4x2048x16x128) w

/-- The result from the weights. -/
def gathered (v : FVec Ideal S8192x2048 .f32) (w : FVec Ideal S4x16x2048x2048 .f32) : FVec Ideal S8192x2048 .bf16 :=
  truncf .bf16 (shapeCast S8192x2048 (transpose S4x2048x16x128 [0, 3, 1, 2] (products v w)
    transposes_S4x16x128x2048_S4x2048x16x128_0_3_1_2) shapeCasts_S4x2048x16x128_S8192x2048) bitsLt_bf16_f32

theorem res_eq (m : (ℓ : Loc nD τ sig) → Buf (Elt Ideal) ℓ) (c : Dev nD) : Cert.ReferenceIdeal.Value.res_main_v25 m c
    = gathered (m ((c.tc : Thread nD τ).loc main_arg2)) (weights (scores (m ((c.tc : Thread nD τ).loc main_arg0)) (m ((c.tc : Thread nD τ).loc main_arg1)))) := by
  unfold Cert.ReferenceIdeal.Value.res_main_v25; rfl

/-! ## The steps at an index -/

/-- A row's array seen by batch, position, head and dimension. -/
theorem flat_apply {α : Type} (x : S8192x2048.Idx → α) (b : Fin 4) (s : Fin 2048) (h : Fin 16) (d : Fin 128) :
    shapeCast S4x2048x16x128 x shapeCasts_S8192x2048_S4x2048x16x128 (ix4 b s h d)
      = x (ix2 (⟨2048 * b.val + s.val, by omega⟩ : Fin 8192) (⟨128 * h.val + d.val, by omega⟩ : Fin 2048)) := by
  refine shapeCast_apply _ _ _ _ ?_
  refine (Shape.rowMajor_val_two _).trans (Eq.trans ?_ (Shape.rowMajor_val_four _).symm)
  show (2048 * b.val + s.val) * 2048 + (128 * h.val + d.val) = ((b.val * 2048 + s.val) * 16 + h.val) * 128 + d.val
  omega

/-- The scores at an index. -/
theorem scores_apply (q : FVec Ideal S8192x2048 .bf16) (k : FVec Ideal S8192x2048 .f32) (b : Fin 4) (h : Fin 16) (s t : Fin 2048) :
    (scores q k (ix4 b h s t) : EReal) = (∑ d : Fin 128, (q (ix2 (⟨2048 * b.val + s.val, by omega⟩ : Fin 8192) (⟨128 * h.val + d.val, by omega⟩ : Fin 2048)) : EReal)
      * k (ix2 (⟨2048 * b.val + t.val, by omega⟩ : Fin 8192) (⟨128 * h.val + d.val, by omega⟩ : Fin 2048))) * Ideal.ofBits .f32 0x3DB504F3#32 := by
  refine congrArg (fun a : EReal => a * Ideal.ofBits .f32 0x3DB504F3#32) ?_
  show FloatOps.dotGeneral dot_S4x2048x16x128_S4x2048x16x128_S4x16x2048x2048_3_3_1_1_02_02 none _ _ _ (ix4 b h s t) = _
  rw [Ideal.dotGeneral_apply, ← Equiv.sum_comp (contrEquiv1 dot_S4x2048x16x128_S4x2048x16x128_S4x16x2048x2048_3_3_1_1_02_02 128 rfl rfl).symm]
  refine Finset.sum_congr rfl fun d _ => ?_
  have e := contrEquiv1_symm_val dot_S4x2048x16x128_S4x2048x16x128_S4x16x2048x2048_3_3_1_1_02_02 128 rfl rfl d
  refine congrArg₂ (fun a b : EReal => a * b) (Eq.trans (congrArg _ ?_) (flat_apply q b s h d)) (Eq.trans (congrArg _ ?_) (flat_apply k b t h d))
  · funext a; apply Fin.ext
    match a with
    | ⟨0, _⟩ => rfl
    | ⟨1, _⟩ => rfl
    | ⟨2, _⟩ => rfl
    | ⟨3, _⟩ => exact e
  · funext a; apply Fin.ext
    match a with
    | ⟨0, _⟩ => rfl
    | ⟨1, _⟩ => rfl
    | ⟨2, _⟩ => rfl
    | ⟨3, _⟩ => exact e

/-- The mask at an index. -/
theorem mask_apply (b : Fin 4) (h : Fin 16) (s t : Fin 2048) : mask (ix4 b h s t) = if t.val < s.val then 1#1 else 0#1 := by
  have e : mask (ix4 b h s t) = IntOp.cmpi .slt (BitVec.ofNat 32 t.val) (BitVec.ofNat 32 s.val) := rfl
  have hs := s.isLt
  have ht := t.isLt
  rw [e, WordCmp.cmpi_slt_of_lt (by rw [BitVec.toNat_ofNat]; omega) (by rw [BitVec.toNat_ofNat]; omega), BitVec.toNat_ofNat, BitVec.toNat_ofNat,
    Nat.mod_eq_of_lt (by omega), Nat.mod_eq_of_lt (by omega)]
  by_cases h : t.val < s.val
  · simp only [h, ↓reduceIte, decide_true]; rfl
  · simp only [h, ↓reduceIte, decide_false]; rfl

/-- The softplus where its argument is real. -/
theorem softplus_apply (x : FVec Ideal S4x16x2048x2048 .f32) (i : S4x16x2048x2048.Idx) (a : ℝ) (hx : (x i : EReal) = (a : EReal)) :
    (softplus x i : EReal) = (sp a : EReal) := by
  have e : (softplus x i : EReal) = Scalar.select (BitVec.ofBool (decide ((x i : EReal) - Ideal.ofBits .f32 0x00000000#32 ≠ (x i : EReal) - Ideal.ofBits .f32 0x00000000#32)))
      ((x i : EReal) + Ideal.ofBits .f32 0x00000000#32)
      (max (x i : EReal) (Ideal.ofBits .f32 0x00000000#32) + Ideal.log1p (Ideal.exp (-(max ((x i : EReal) - Ideal.ofBits .f32 0x00000000#32) (-((x i : EReal) - Ideal.ofBits .f32 0x00000000#32)))))) := rfl
  rw [e, Ideal.ofBits_zero_f32, hx, sub_zero, ← softplus_coe a, zero_sub, decide_eq_false (fun h => h rfl)]
  rfl

/-- `log σ(x)` by the softplus of `-x`. -/
theorem sp_neg (x : ℝ) : -sp (-x) = x - sp x := by
  unfold sp
  rw [abs_neg]
  rcases le_total 0 x with h | h
  · rw [max_eq_left h, max_eq_right (by linarith)]; ring
  · rw [max_eq_right h, max_eq_left (by linarith)]; ring

section Row

variable (z : FVec Ideal S4x16x2048x2048 .f32) (b : Fin 4) (h : Fin 16) (s : Fin 2048) (Z : ℕ → ℝ) (hz : ∀ t : Fin 2048, (z (ix4 b h s t) : EReal) = (Z t.val : EReal))

/-- The log weight key `t` leaves for query `s`. -/
def lnOf (s t : ℕ) : ℝ := if t < s then -sp (Z t) else 0

/-- The stick-breaking weight of key `t` for query `s`. -/
def weightOf (s t : ℕ) : ℝ := if t < s then Real.exp (Z t - sp (Z t) + ∑ u ∈ Finset.Ico (t + 1) 2048, lnOf Z s u) else 0

include hz

theorem logNot_apply (t : Fin 2048) : (logNot z (ix4 b h s t) : EReal) = (lnOf Z s.val t.val : EReal) := by
  have e : (logNot z (ix4 b h s t) : EReal) = Scalar.select (mask (ix4 b h s t)) (-(softplus (Host.negf (Host.negf z)) (ix4 b h s t) : EReal)) (Ideal.ofBits .f32 0x00000000#32) := rfl
  have en : (Host.negf (Host.negf z) (ix4 b h s t) : EReal) = (Z t.val : EReal) := (neg_neg (z (ix4 b h s t) : EReal)).trans (hz t)
  rw [e, mask_apply, softplus_apply _ _ _ en, Ideal.ofBits_zero_f32]
  unfold lnOf
  by_cases h : t.val < s.val
  · simp only [h, ↓reduceIte]; rfl
  · simp only [h, ↓reduceIte]; rfl

end Row

/-- A fold by addition is a sum. -/
theorem foldl_add {ι : Type} (l : List ι) (g : ι → EReal) (a : EReal) : l.foldl (fun r n => r + g n) a = a + (l.map g).sum := by
  induction l generalizing a with
  | nil => simp
  | cons x l ih => rw [List.foldl_cons, ih, List.map_cons, List.sum_cons, add_assoc]

/-- A window of 2048 along the keys, padded at the end: the sum from a key on. -/
theorem window_apply (x : FVec Ideal S4x16x2048x2048 .f32) (b : Fin 4) (h : Fin 16) (s t : Fin 2048) (l : ℕ → ℝ)
    (hx : ∀ t : Fin 2048, (x (ix4 b h s t) : EReal) = (l t.val : EReal)) :
    (Host.reduceWindowAdd ![1, 1, 1, 2048] ![1, 1, 1, 1] ![0, 0, 0, 0] ![0, 0, 0, 2047] x (broadcastInDim S_ ![] bcast_S_S_ (constant S_ .f32 0x00000000#32))
      reduceWindows_S4x16x2048x2048_S4x16x2048x2048_w1s1p0_0_w1s1p0_0_w1s1p0_0_w2048s1p0_2047 h_S_ (ix4 b h s t) : EReal)
      = ((∑ u ∈ Finset.Ico t.val 2048, l u : ℝ) : EReal) := by
  unfold Host.reduceWindowAdd
  rw [Ideal.hostReduceWindowAdd_def]
  unfold Ideal.hostReduceWindowAdd Host.reduceWindow
  dsimp only
  refine (foldl_add _ _ _).trans ?_
  have i0 : (broadcastInDim S_ ![] bcast_S_S_ (constant (F := Ideal) S_ .f32 0x00000000#32) (Shape.Idx.first h_S_) : EReal) = 0 := Ideal.ofBits_zero_f32
  refine (congrArg₂ (fun a b : EReal => a + b) i0 (Fin.sum_univ_def _).symm).trans ((zero_add _).trans ?_)
  let W : Shape := ⟨4, ![1, 1, 1, 2048]⟩
  let part (w : W.Idx) : ℝ := if t.val + (w 3).val < 2048 then l (t.val + (w 3).val) else 0
  refine (Finset.sum_congr rfl (g := fun n => (part (W.rowMajor.symm n) : EReal)) fun n _ => ?_).trans ?_
  · have w0 : (W.rowMajor.symm n 0).val < 1 := (W.rowMajor.symm n 0).isLt
    have w1 : (W.rowMajor.symm n 1).val < 1 := (W.rowMajor.symm n 1).isLt
    have w2 : (W.rowMajor.symm n 2).val < 1 := (W.rowMajor.symm n 2).isLt
    by_cases hk : t.val + (W.rowMajor.symm n 3).val < 2048
    · refine (dif_pos ?_).trans ?_
      · intro a
        have hb := b.isLt
        have hh := h.isLt
        have hs := s.isLt
        match a with
        | ⟨0, _⟩ => show 0 ≤ b.val * 1 + (W.rowMajor.symm n 0).val ∧ b.val * 1 + (W.rowMajor.symm n 0).val - 0 < 4; omega
        | ⟨1, _⟩ => show 0 ≤ h.val * 1 + (W.rowMajor.symm n 1).val ∧ h.val * 1 + (W.rowMajor.symm n 1).val - 0 < 16; omega
        | ⟨2, _⟩ => show 0 ≤ s.val * 1 + (W.rowMajor.symm n 2).val ∧ s.val * 1 + (W.rowMajor.symm n 2).val - 0 < 2048; omega
        | ⟨3, _⟩ => show 0 ≤ t.val * 1 + (W.rowMajor.symm n 3).val ∧ t.val * 1 + (W.rowMajor.symm n 3).val - 0 < 2048; omega
      · refine Eq.trans (congrArg x ?_) ((hx ⟨t.val + (W.rowMajor.symm n 3).val, hk⟩).trans (congrArg Real.toEReal (if_pos hk).symm))
        funext a; apply Fin.ext
        match a with
        | ⟨0, _⟩ => show b.val * 1 + (W.rowMajor.symm n 0).val - 0 = b.val; omega
        | ⟨1, _⟩ => show h.val * 1 + (W.rowMajor.symm n 1).val - 0 = h.val; omega
        | ⟨2, _⟩ => show s.val * 1 + (W.rowMajor.symm n 2).val - 0 = s.val; omega
        | ⟨3, _⟩ => show t.val * 1 + (W.rowMajor.symm n 3).val - 0 = t.val + (W.rowMajor.symm n 3).val; omega
    · refine (dif_neg ?_).trans ?_
      · intro hin
        have h3 : t.val * 1 + (W.rowMajor.symm n 3).val - 0 < 2048 := (hin 3).2
        omega
      · refine i0.trans ?_
        show _ = ((if t.val + (W.rowMajor.symm n 3).val < 2048 then l (t.val + (W.rowMajor.symm n 3).val) else 0 : ℝ) : EReal)
        rw [if_neg hk, EReal.coe_zero]
  · rw [← coe_sum, Equiv.sum_comp W.rowMajor.symm part]
    refine congrArg Real.toEReal ?_
    have e : ∑ w : W.Idx, part w = ∑ k : Fin 2048, if t.val + k.val < 2048 then l (t.val + k.val) else 0 := by
      refine Finset.sum_nbij' (fun w => w 3) (fun k => ix4 0 0 0 k) (fun _ _ => Finset.mem_univ _) (fun _ _ => Finset.mem_univ _) (fun w _ => ?_) (fun _ _ => rfl) (fun _ _ => rfl)
      have w0 : (w 0).val < 1 := (w 0).isLt
      have w1 : (w 1).val < 1 := (w 1).isLt
      have w2 : (w 2).val < 1 := (w 2).isLt
      funext a; apply Fin.ext
      match a with
      | ⟨0, _⟩ => show 0 = (w 0).val; omega
      | ⟨1, _⟩ => show 0 = (w 1).val; omega
      | ⟨2, _⟩ => show 0 = (w 2).val; omega
      | ⟨3, _⟩ => rfl
    have ht := t.isLt
    rw [e, Finset.sum_Ico_eq_sum_range, ← Finset.sum_range (fun k => if t.val + k < 2048 then l (t.val + k) else 0), ← Finset.sum_filter]
    refine Finset.sum_congr ?_ fun _ _ => rfl
    ext k
    simp only [Finset.mem_filter, Finset.mem_range]
    omega

section Row

variable (z : FVec Ideal S4x16x2048x2048 .f32) (b : Fin 4) (h : Fin 16) (s : Fin 2048) (Z : ℕ → ℝ) (hz : ∀ t : Fin 2048, (z (ix4 b h s t) : EReal) = (Z t.val : EReal))

include hz

/-- The reference's weights where a row's scores are real. -/
theorem weights_apply (t : Fin 2048) : (weights z (ix4 b h s t) : EReal) = (weightOf Z s.val t.val : EReal) := by
  have e : (weights z (ix4 b h s t) : EReal) = Scalar.select (mask (ix4 b h s t))
      (Ideal.exp (-(softplus (Host.negf z) (ix4 b h s t) : EReal) + ((fromOn z (ix4 b h s t) : EReal) - (logNot z (ix4 b h s t) : EReal)))) (Ideal.ofBits .f32 0x00000000#32) := rfl
  have en : (Host.negf z (ix4 b h s t) : EReal) = ((-Z t.val : ℝ) : EReal) := (congrArg (fun a : EReal => -a) (hz t)).trans (EReal.coe_neg _).symm
  have ef : (fromOn z (ix4 b h s t) : EReal) = ((∑ u ∈ Finset.Ico t.val 2048, lnOf Z s.val u : ℝ) : EReal) :=
    window_apply (logNot z) b h s t (lnOf Z s.val) (logNot_apply z b h s Z hz)
  rw [e, mask_apply, softplus_apply _ _ _ en, ef, logNot_apply z b h s Z hz, Ideal.ofBits_zero_f32]
  unfold weightOf
  by_cases hts : t.val < s.val
  · rw [if_pos hts, if_pos hts, ← EReal.coe_neg, ← EReal.coe_sub, ← EReal.coe_add, Ideal.exp_coe, sp_neg,
      Finset.sum_eq_sum_Ico_succ_bot t.isLt, add_sub_cancel_left]
    rfl
  · rw [if_neg hts, if_neg hts]; rfl

end Row

/-- The values gathered by the weights, at row `r`, head `h` and dimension `d`. -/
theorem gathered_apply (v : FVec Ideal S8192x2048 .f32) (w : FVec Ideal S4x16x2048x2048 .f32) (r : Fin 8192) (h : Fin 16) (d : Fin 128) :
    (gathered v w (ix2 r (⟨128 * h.val + d.val, by omega⟩ : Fin 2048)) : EReal)
      = ∑ t : Fin 2048, (v (ix2 (⟨2048 * (r.val / 2048) + t.val, by omega⟩ : Fin 8192) (⟨128 * h.val + d.val, by omega⟩ : Fin 2048)) : EReal)
        * w (ix4 (⟨r.val / 2048, by omega⟩ : Fin 4) h (⟨r.val % 2048, by omega⟩ : Fin 2048) t) := by
  refine (shapeCast_apply (transpose S4x2048x16x128 [0, 3, 1, 2] (products v w) transposes_S4x16x128x2048_S4x2048x16x128_0_3_1_2) shapeCasts_S4x2048x16x128_S8192x2048 _ (ix4 (⟨r.val / 2048, by omega⟩ : Fin 4) (⟨r.val % 2048, by omega⟩ : Fin 2048) h d) ?_).trans ?_
  · refine (Shape.rowMajor_val_four _).trans (Eq.trans ?_ (Shape.rowMajor_val_two _).symm)
    show ((r.val / 2048 * 2048 + r.val % 2048) * 16 + h.val) * 128 + d.val = r.val * 2048 + (128 * h.val + d.val)
    omega
  refine (transpose_apply _ (products v w) transposes_S4x16x128x2048_S4x2048x16x128_0_3_1_2 _ (ix4 (⟨r.val / 2048, by omega⟩ : Fin 4) h d (⟨r.val % 2048, by omega⟩ : Fin 2048)) fun a => ?_).trans ?_
  · fin_cases a <;> rfl
  show FloatOps.dotGeneral dot_S4x2048x16x128_S4x16x2048x2048_S4x16x128x2048_1_3_3_2_02_01 none _ _ _ _ = _
  rw [Ideal.dotGeneral_apply, ← Equiv.sum_comp (contrEquiv1 dot_S4x2048x16x128_S4x16x2048x2048_S4x16x128x2048_1_3_3_2_02_01 2048 rfl rfl).symm]
  refine Finset.sum_congr rfl fun t _ => ?_
  have e := contrEquiv1_symm_val dot_S4x2048x16x128_S4x16x2048x2048_S4x16x128x2048_1_3_3_2_02_01 2048 rfl rfl t
  refine congrArg₂ (fun a b : EReal => a * b) (Eq.trans (congrArg _ ?_) (flat_apply v ⟨r.val / 2048, by omega⟩ t h d)) (congrArg w ?_)
  · funext a; apply Fin.ext
    match a with
    | ⟨0, _⟩ => rfl
    | ⟨1, _⟩ => exact e
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => exact e

/-! ## Finite queries and keys -/

/-- Every element is a real number. -/
def Finite {s : Shape} {φ : FTy} (x : FVec Ideal s φ) : Prop := ∀ i, (x i : EReal) ≠ ⊤ ∧ (x i : EReal) ≠ ⊥

theorem inf_top : Ideal.ofBits .f32 0x7F800000#32 = ⊤ := by
  simp [Ideal.ofBits, Ideal.ieee]

/-- An element whose absolute value is below infinity is real. -/
theorem finite_of_lt (x : EReal) (h : BitVec.ofBool (decide (max x (-x) < Ideal.ofBits .f32 0x7F800000#32)) = 1#1) : x ≠ ⊤ ∧ x ≠ ⊥ := by
  rw [inf_top] at h
  have h2 : max x (-x) < ⊤ := by
    by_contra hn
    rw [decide_eq_false hn] at h
    exact absurd h (by decide)
  constructor
  · rintro rfl; simp at h2
  · rintro rfl; simp at h2

/-- The precondition's side conditions. -/
theorem pre_facts : Cert.Pre_finite_scores.Facts where
  bitsLt_bf16_f32 := by decide
  bcast_S_S8192x2048 := by decide
  reducesTo_S8192x2048_S_d0_1 := by decide
  h_S_ := by decide

/-- The precondition: queries and keys are finite. -/
theorem finite_of_pre [Cert.Pre_finite_scores.Facts] (q : FVec Ideal S8192x2048 .bf16) (k v : FVec Ideal S8192x2048 .f32)
    (h : Cert.Pre_finite_scores.fn (F := Ideal) q k v = fun _ => 1#1) : Finite q ∧ Finite k := by
  have h0 := congrFun h (fun a => a.elim0)
  have both (a b : BitVec 1) (e : IntOp.andi a b = 1#1) : a = 1#1 ∧ b = 1#1 := by revert a b; decide
  haveI : Subsingleton Cert.Pre_finite_scores.S_.Idx := ⟨fun a b => funext fun i => i.elim0⟩
  obtain ⟨hq, hk⟩ := both _ _ h0
  exact ⟨fun i => finite_of_lt _ (Host.reduce_andi_all _ _ _ _ _ hq i), fun i => finite_of_lt _ (Host.reduce_andi_all _ _ _ _ _ hk i)⟩

/-! ## The scores as real numbers -/

/-- The real score of key `t` for row `r` and head `h`. -/
def scoreAt (q : FVec Ideal S8192x2048 .bf16) (k : FVec Ideal S8192x2048 .f32) (r : Fin 8192) (h : Fin 16) (t : ℕ) : ℝ :=
  (∑ d : Fin 128, (q (ix2 r (⟨128 * h.val + d.val, by omega⟩ : Fin 2048)) : EReal).toReal
    * (k (ix2 (⟨2048 * (r.val / 2048) + t % 2048, by omega⟩ : Fin 8192) (⟨128 * h.val + d.val, by omega⟩ : Fin 2048)) : EReal).toReal) * (11863283 / 134217728)

/-- With finite queries and keys a score is its real number. -/
theorem score_real (q : FVec Ideal S8192x2048 .bf16) (k : FVec Ideal S8192x2048 .f32) (hq : Finite q) (hk : Finite k) (r : Fin 8192) (h : Fin 16) (t : ℕ) :
    (∑ d : Fin 128, (q (ix2 r (⟨128 * h.val + d.val, by omega⟩ : Fin 2048)) : EReal)
      * k (ix2 (⟨2048 * (r.val / 2048) + t % 2048, by omega⟩ : Fin 8192) (⟨128 * h.val + d.val, by omega⟩ : Fin 2048))) * Ideal.ofBits .f32 0x3DB504F3#32
      = (scoreAt q k r h t : EReal) := by
  unfold scoreAt
  rw [EReal.coe_mul, coe_sum, scale_real]
  refine congrArg (fun a : EReal => a * _) (Finset.sum_congr rfl fun d _ => ?_)
  rw [EReal.coe_mul]
  exact congrArg₂ (fun a b : EReal => a * b) (EReal.coe_toReal (hq _).1 (hq _).2).symm (EReal.coe_toReal (hk _).1 (hk _).2).symm

/-- The reference's result at row `r`, head `h` and dimension `d`. -/
theorem ref_apply (q : FVec Ideal S8192x2048 .bf16) (k v : FVec Ideal S8192x2048 .f32) (hq : Finite q) (hk : Finite k) (r : Fin 8192) (h : Fin 16) (d : Fin 128) :
    (gathered v (weights (scores q k)) (ix2 r (⟨128 * h.val + d.val, by omega⟩ : Fin 2048)) : EReal)
      = ∑ t : Fin 2048, (weightOf (scoreAt q k r h) (r.val % 2048) t.val : EReal)
        * v (ix2 (⟨2048 * (r.val / 2048) + t.val, by omega⟩ : Fin 8192) (⟨128 * h.val + d.val, by omega⟩ : Fin 2048)) := by
  refine (gathered_apply _ _ r h d).trans (Finset.sum_congr rfl fun t _ => ?_)
  rw [mul_comm]
  refine congrArg (fun a : EReal => a * _) (weights_apply (scores q k) ⟨r.val / 2048, by omega⟩ h ⟨r.val % 2048, by omega⟩ (scoreAt q k r h) (fun t => ?_) t)
  refine (scores_apply q k _ h _ t).trans (Eq.trans ?_ (score_real q k hq hk r h t.val))
  refine congrArg (fun a : EReal => a * _) (Finset.sum_congr rfl fun d _ => congrArg₂ (fun a b : EReal => a * b) (congrArg q ?_) (congrArg k ?_))
  · funext a; apply Fin.ext
    match a with
    | ⟨0, _⟩ => show 2048 * (r.val / 2048) + r.val % 2048 = r.val; omega
    | ⟨1, _⟩ => rfl
  · funext a; apply Fin.ext
    match a with
    | ⟨0, _⟩ => show 2048 * (r.val / 2048) + t.val = 2048 * (r.val / 2048) + t.val % 2048; omega
    | ⟨1, _⟩ => rfl

end Cert.Proof.Stick.Ref

end
-- ==== Proof.Stick.Algebraic.lean ====
/-
  The attention's kernel against its reference on the extended reals, for finite queries and keys: both end at the sum over
  the keys of the stick-breaking weights times the values, index by index.
-/
module

public import proofs.«01_k».proof.Proof.Stick.Value
public import proofs.«01_k».proof.Proof.Stick.Reference
public import proofs.«01_k».proof.Proof.Stick.Run
public import proofs.«01_k».proof.Defs
public import Idealize.ShloMosaic.Lib.Pipeline.ValueKit.Geometry

@[expose] public section

noncomputable section

open Idealize.ShloMosaic Idealize.ShloMosaic.TcCoe Idealize.ShloMosaic.ValueIdx Idealize.SL.Sem
open Idealize.ShloMosaic.Pipeline (Dat)
open scoped BigOperators

namespace Cert.Proof.Stick

open Cert.KernelIdeal Cert.KernelIdeal.Gen

/-- The attention's result at row `r` and column `j`. -/
def attention (q : FVec Ideal S8192x2048 .bf16) (k v : FVec Ideal S8192x2048 .f32) (r : Fin 8192) (j : Fin 2048) : EReal :=
  ∑ t : Fin 2048, (Ref.weightOf (Ref.scoreAt q k r (⟨j.val / 128, by omega⟩ : Fin 16)) (r.val % 2048) t.val : EReal)
    * v (ix2 (⟨2048 * (r.val / 2048) + t.val, by omega⟩ : Fin 8192) j)

/-- The kernel's weights are the reference's: beyond the diagonal block every log weight is zero. -/
theorem weight_eq (n : ℕ) (hn : n < 8) (Z : Fin 4 → Fin 256 → ℕ → ℝ) (h : Fin 4) (r : Fin 256) (t : ℕ) :
    weightAt n Z h r t = Ref.weightOf (Z h r) (256 * n + r.val) t := by
  unfold weightAt Ref.weightOf
  by_cases ht : t < 256 * n + r.val
  · rw [if_pos ht, if_pos ht]
    refine congrArg (fun x => Real.exp (Z h r t - sp (Z h r t) + x)) ?_
    refine Finset.sum_subset (Finset.Ico_subset_Ico le_rfl (by omega)) fun u hu hnu => ?_
    rw [Finset.mem_Ico] at hu hnu
    have := r.isLt
    exact if_neg (by omega)
  · rw [if_neg ht, if_neg ht]

/-! ## The kernel's result array -/

section Kernel

variable (m : (ℓ : Loc nD τ sig) → Buf (Elt Ideal) ℓ)

/-- The windows' blocks at point `t`: batch `t / 32`, head block `t / 8 % 4`, query block `t % 8`. -/
theorem points : ∀ t : Fin (cfg0 (F := Ideal)).N, (win0_0.index t 0 = 8 * (t.val / 32) + t.val % 8 ∧ win0_0.index t 1 = t.val / 8 % 4)
    ∧ (win0_1.index t 0 = t.val / 32 ∧ win0_1.index t 1 = t.val / 8 % 4)
    ∧ (win0_2.index t 0 = t.val / 32 ∧ win0_2.index t 1 = t.val / 8 % 4)
    ∧ (win0_3.index t 0 = 8 * (t.val / 32) + t.val % 8 ∧ win0_3.index t 1 = t.val / 8 % 4)
    ∧ (grid0.coords t 2).val = t.val % 8 :=
  (by decide +kernel : ∀ t : Fin grid0.N, _)

variable (c : Dev nD) (t : Fin (cfg0 (F := Ideal)).N)

/-- Point `t`'s queries. -/
theorem q_apply (ht : t.val < 128) (r : Fin 256) (j : Fin 512) : (blockAt m c 0 t (ix2 r j) : EReal)
    = (m ((c : Thread nD τ).loc main_arg0)) (ix2 (⟨256 * (8 * (t.val / 32) + t.val % 8) + r.val, by omega⟩ : Fin 8192) (⟨512 * (t.val / 8 % 4) + j.val, by omega⟩ : Fin 2048)) := by
  obtain ⟨⟨a0, a1⟩, -⟩ := points t
  refine congrArg (m ((c : Thread nD τ).loc main_arg0)) (funext fun a => Fin.ext ?_)
  fin_cases a
  · show win0_0.index t 0 * 256 + 1 * r.val = 256 * (8 * (t.val / 32) + t.val % 8) + r.val
    rw [a0]; omega
  · show win0_0.index t 1 * 512 + 1 * j.val = 512 * (t.val / 8 % 4) + j.val
    rw [a1]; omega

/-- Point `t`'s keys. -/
theorem k_apply (ht : t.val < 128) (r : Fin 2048) (j : Fin 512) : (blockAt m c 1 t (ix2 r j) : EReal)
    = (m ((c : Thread nD τ).loc main_arg1)) (ix2 (⟨2048 * (t.val / 32) + r.val, by omega⟩ : Fin 8192) (⟨512 * (t.val / 8 % 4) + j.val, by omega⟩ : Fin 2048)) := by
  obtain ⟨-, ⟨a0, a1⟩, -⟩ := points t
  refine congrArg (m ((c : Thread nD τ).loc main_arg1)) (funext fun a => Fin.ext ?_)
  fin_cases a
  · show win0_1.index t 0 * 2048 + 1 * r.val = 2048 * (t.val / 32) + r.val
    rw [a0]; omega
  · show win0_1.index t 1 * 512 + 1 * j.val = 512 * (t.val / 8 % 4) + j.val
    rw [a1]; omega

/-- Point `t`'s values. -/
theorem v_apply (ht : t.val < 128) (r : Fin 2048) (j : Fin 512) : (blockAt m c 2 t (ix2 r j) : EReal)
    = (m ((c : Thread nD τ).loc main_arg2)) (ix2 (⟨2048 * (t.val / 32) + r.val, by omega⟩ : Fin 8192) (⟨512 * (t.val / 8 % 4) + j.val, by omega⟩ : Fin 2048)) := by
  obtain ⟨-, -, ⟨a0, a1⟩, -⟩ := points t
  refine congrArg (m ((c : Thread nD τ).loc main_arg2)) (funext fun a => Fin.ext ?_)
  fin_cases a
  · show win0_2.index t 0 * 2048 + 1 * r.val = 2048 * (t.val / 32) + r.val
    rw [a0]; omega
  · show win0_2.index t 1 * 512 + 1 * j.val = 512 * (t.val / 8 % 4) + j.val
    rw [a1]; omega

/-- Head `h` of a staged block of queries. -/
theorem heads_apply (xq : Vec Ideal S256x512 .bf16) (h : Fin 4) (r : Fin 256) (d : Fin 128) :
    (heads xq h (ix2 r d) : EReal) = xq (ix2 r (⟨128 * h.val + d.val, by omega⟩ : Fin 512)) := by
  refine congrArg xq (funext fun a => Fin.ext ?_)
  fin_cases a
  · show 0 + 1 * r.val = r.val
    omega
  · show 128 * h.val + 1 * d.val = 128 * h.val + d.val
    omega

/-- A point's result at a row, a head and a dimension. -/
theorem point_apply (ht : t.val < 128) (hq : Ref.Finite (s := S8192x2048) (φ := .bf16) (m ((c : Thread nD τ).loc main_arg0)))
    (hk : Ref.Finite (s := S8192x2048) (φ := .f32) (m ((c : Thread nD τ).loc main_arg1))) (r : Fin 256) (h : Fin 4) (d : Fin 128) :
    (result (blockAt m c 0 t) (blockAt m c 1 t) (blockAt m c 2 t) (t.val % 8) (ix2 r (⟨128 * h.val + d.val, by omega⟩ : Fin 512)) : EReal)
      = attention (m ((c : Thread nD τ).loc main_arg0)) (m ((c : Thread nD τ).loc main_arg1)) (m ((c : Thread nD τ).loc main_arg2))
        (⟨256 * (8 * (t.val / 32) + t.val % 8) + r.val, by omega⟩ : Fin 8192) (⟨512 * (t.val / 8 % 4) + (128 * h.val + d.val), by omega⟩ : Fin 2048) := by
  have hn : t.val % 8 < 8 := by omega
  have hr := r.isLt
  have hR (r : Fin 256) : (256 * (8 * (t.val / 32) + t.val % 8) + r.val) / 2048 = t.val / 32 := by have := r.isLt; omega
  let Z : Fin 4 → Fin 256 → ℕ → ℝ := fun h r u => Ref.scoreAt (m ((c : Thread nD τ).loc main_arg0)) (m ((c : Thread nD τ).loc main_arg1))
    (⟨256 * (8 * (t.val / 32) + t.val % 8) + r.val, by omega⟩ : Fin 8192) (⟨4 * (t.val / 8 % 4) + h.val, by omega⟩ : Fin 16) u
  have hZ : ∀ h b, b < 8 → ∀ r u : Fin 256, (k0_pay65 (heads (blockAt m c 0 t) h) (keyBlock (blockAt m c 1 t) b h) (ix2 r u) : EReal) = (Z h r (256 * b + u.val) : EReal) := by
    intro h b hb r u
    refine (score_apply _ _ r u).trans (Eq.trans ?_ (Ref.score_real _ _ hq hk _ _ _))
    refine congrArg (fun a : EReal => a * _) (Finset.sum_congr rfl fun d _ => congrArg₂ (fun a b : EReal => a * b) ?_ ?_)
    · refine (heads_apply _ h r d).trans ((q_apply m c t ht r _).trans (congrArg (m ((c : Thread nD τ).loc main_arg0)) (funext fun a => Fin.ext ?_)))
      fin_cases a
      · rfl
      · show 512 * (t.val / 8 % 4) + (128 * h.val + d.val) = 128 * (4 * (t.val / 8 % 4) + h.val) + d.val
        omega
    · refine (k_apply m c t ht _ _).trans (congrArg (m ((c : Thread nD τ).loc main_arg1)) (funext fun a => Fin.ext ?_))
      fin_cases a
      · show 2048 * (t.val / 32) + (256 * b + u.val) % 2048 = 2048 * ((256 * (8 * (t.val / 32) + t.val % 8) + r.val) / 2048) + (256 * b + u.val) % 2048
        rw [hR r]
      · show 512 * (t.val / 8 % 4) + (128 * h.val + d.val) = 128 * (4 * (t.val / 8 % 4) + h.val) + d.val
        omega
  refine (result_apply _ _ _ _ hn Z hZ h r d).trans ?_
  have e : ∀ u : ℕ, (weightAt (t.val % 8) Z h r u : EReal) * valueAt (blockAt m c 2 t) h u d
      = (Ref.weightOf (Ref.scoreAt (m ((c : Thread nD τ).loc main_arg0)) (m ((c : Thread nD τ).loc main_arg1))
          (⟨256 * (8 * (t.val / 32) + t.val % 8) + r.val, by omega⟩ : Fin 8192) (⟨(512 * (t.val / 8 % 4) + (128 * h.val + d.val)) / 128, by omega⟩ : Fin 16))
          ((256 * (8 * (t.val / 32) + t.val % 8) + r.val) % 2048) u : EReal)
        * (m ((c : Thread nD τ).loc main_arg2)) (ix2 (⟨2048 * ((256 * (8 * (t.val / 32) + t.val % 8) + r.val) / 2048) + u % 2048, by omega⟩ : Fin 8192)
          (⟨512 * (t.val / 8 % 4) + (128 * h.val + d.val), by omega⟩ : Fin 2048)) := by
    intro u
    refine congrArg₂ (fun a b : EReal => a * b) (congrArg Real.toEReal ?_) ?_
    · rw [weight_eq _ hn]
      have e1 : (256 * (8 * (t.val / 32) + t.val % 8) + r.val) % 2048 = 256 * (t.val % 8) + r.val := by omega
      have e2 : (⟨(512 * (t.val / 8 % 4) + (128 * h.val + d.val)) / 128, by omega⟩ : Fin 16) = ⟨4 * (t.val / 8 % 4) + h.val, by omega⟩ := Fin.ext (by
        show (512 * (t.val / 8 % 4) + (128 * h.val + d.val)) / 128 = 4 * (t.val / 8 % 4) + h.val
        omega)
      rw [e1, e2]
    · refine (v_apply m c t ht _ _).trans (congrArg (m ((c : Thread nD τ).loc main_arg2)) (funext fun a => Fin.ext ?_))
      fin_cases a
      · show 2048 * (t.val / 32) + u % 2048 = 2048 * ((256 * (8 * (t.val / 32) + t.val % 8) + r.val) / 2048) + u % 2048
        rw [hR r]
      · rfl
  rw [Finset.sum_congr rfl fun u _ => e u]
  unfold attention
  refine (Finset.sum_subset (Finset.range_subset_range.mpr (show 256 * (t.val % 8 + 1) ≤ 2048 by omega)) fun u hu hnu => ?_).trans ?_
  · rw [Finset.mem_range] at hu hnu
    have z : ∀ Z : ℕ → ℝ, Ref.weightOf Z ((256 * (8 * (t.val / 32) + t.val % 8) + r.val) % 2048) u = 0 := fun Z => if_neg (by omega)
    rw [z, EReal.coe_zero, zero_mul]
  · rw [Finset.sum_range]
    refine Finset.sum_congr rfl fun u _ => congrArg (fun b : EReal => _ * b) (congrArg (m ((c : Thread nD τ).loc main_arg2)) (funext fun a => Fin.ext ?_))
    fin_cases a
    · show 2048 * ((256 * (8 * (t.val / 32) + t.val % 8) + r.val) / 2048) + u.val % 2048 = 2048 * ((256 * (8 * (t.val / 32) + t.val % 8) + r.val) / 2048) + u.val
      rw [Nat.mod_eq_of_lt u.isLt]
    · rfl

/-- The result array after the run is the attention of the arguments. -/
theorem final (hq : Ref.Finite (s := S8192x2048) (φ := .bf16) (m ((c : Thread nD τ).loc main_arg0)))
    (hk : Ref.Finite (s := S8192x2048) (φ := .f32) (m ((c : Thread nD τ).loc main_arg1))) : (pdat m 0 c).arrAt 3 (cfg0 (F := Ideal)).N
    = fun i : S8192x2048.Idx => attention (m ((c : Thread nD τ).loc main_arg0)) (m ((c : Thread nD τ).loc main_arg1)) (m ((c : Thread nD τ).loc main_arg2)) (i 0) (i 1) := by
  refine (pdat m 0 c).arrAt_eq_of_covers 3 _ (by decide +kernel) fun t _ (y : S256x512.Idx) => ?_
  have ht : t.val < 128 := t.isLt
  obtain ⟨-, -, -, ⟨a0, a1⟩, a2⟩ := points t
  have hy0 : (y 0).val < 256 := (y 0).isLt
  have hy1 : (y 1).val < 512 := (y 1).isLt
  show (pdat m 0 c).after 3 t y = attention _ _ _ _ _
  rw [after_out, a2]
  have ey : y = ix2 (⟨(y 0).val, hy0⟩ : Fin 256) (⟨128 * ((y 1).val / 128) + (y 1).val % 128, by omega⟩ : Fin 512) := by
    funext a; apply Fin.ext
    match a with
    | ⟨0, _⟩ => rfl
    | ⟨1, _⟩ => show (y 1).val = 128 * ((y 1).val / 128) + (y 1).val % 128; omega
  refine (congrArg (result (blockAt m c 0 t) (blockAt m c 1 t) (blockAt m c 2 t) (t.val % 8)) ey).trans ?_
  refine (point_apply m c t ht hq hk (⟨(y 0).val, hy0⟩ : Fin 256) (⟨(y 1).val / 128, by omega⟩ : Fin 4) (⟨(y 1).val % 128, by omega⟩ : Fin 128)).trans ?_
  refine congrArg₂ (attention _ _ _) (Fin.ext ?_) (Fin.ext ?_)
  · show 256 * (8 * (t.val / 32) + t.val % 8) + (y 0).val = win0_3.index t 0 * 256 + 1 * (y 0).val
    rw [a0]; omega
  · show 512 * (t.val / 8 % 4) + (128 * ((y 1).val / 128) + (y 1).val % 128) = win0_3.index t 1 * 512 + 1 * (y 1).val
    rw [a1]; omega

end Kernel

/-- The attention's kernel and its reference end at equal results on the extended reals, queries and keys being finite. -/
theorem algebraic (hK : Cert.KernelIdeal.Facts) (hR : Cert.ReferenceIdeal.Facts) (hP : Cert.Pre_finite_scores.Facts) :
    Cert.algebraic_KernelIdeal_ReferenceIdeal_pre_finite_scores (hKernelIdeal := hK) (hReferenceIdeal := hR) (hPre_finite_scores := hP) := by
  intro m g m' g' hp hm
  have fin (c : Dev nD) := Ref.finite_of_pre _ _ _ (hp c)
  refine ⟨fun c => fun i : Cert.KernelIdeal.S8192x2048.Idx => attention (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (i 0) (i 1),
    (θ_run _ _ _).mono (fun r h c => ⟨(h.1 c).1.trans (final m c (fin c).1 (fin c).2), (h.1 c).2⟩) (run m g),
    (θ_run _ _ _).mono (fun r h c => ⟨(h c).1.trans ?_, (h c).2⟩) (Cert.ReferenceIdeal.Value.run m' g')⟩
  refine (Ref.res_eq m' c).trans ?_
  rw [(hm c).1, (hm c).2.1, (hm c).2.2]
  funext i
  have h1 : (i 1).val < 2048 := (i 1).isLt
  have ei : i = ix2 (i 0) (⟨128 * ((i 1).val / 128) + (i 1).val % 128, by omega⟩ : Fin 2048) := by
    funext a; apply Fin.ext
    match a with
    | ⟨0, _⟩ => rfl
    | ⟨1, _⟩ => show (i 1).val = 128 * ((i 1).val / 128) + (i 1).val % 128; omega
  have e := Ref.ref_apply (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (fin c).1 (fin c).2 (i 0) (⟨(i 1).val / 128, by omega⟩ : Fin 16) (⟨(i 1).val % 128, by omega⟩ : Fin 128)
  refine (congrArg _ ei).trans (e.trans ?_)
  unfold attention
  refine Finset.sum_congr rfl fun t _ => congrArg (fun b : EReal => _ * b) (congrArg (m _) (funext fun a => Fin.ext ?_))
  fin_cases a
  · rfl
  · show 128 * ((i 1).val / 128) + (i 1).val % 128 = (i 1).val
    omega

end Cert.Proof.Stick

end
-- ==== Proof.Mlp.Up.lean ====
/-
  The MLP's up-projection, on the extended reals: the kernel's blocks of 1024 by 1024 results and the reference's whole
  product are both `max (∑ h · w) 0` squared, index by index.
-/
module

public import proofs.«01_k».proof.Defs
public import proofs.«01_k».proof.Proof.Gen.Kernel2Ideal.Value
public import proofs.«01_k».proof.Proof.Gen.Reference2Ideal.Run
public import Idealize.ShloMosaic.Lib.Pipeline.ValueKit.Geometry
public import Idealize.ShloMosaic.Lib.StableHlo.Run
public import Idealize.ShloMosaic.Lib.MatmulPlain
public import Idealize.ShloMosaic.Lib.ValueLayout
public import Idealize.ShloMosaic.Lib.StackMember
public import Idealize.ShloMosaic.PureOps.Ideal.Laws

@[expose] public section

noncomputable section

open Idealize.ShloMosaic Idealize.ShloMosaic.TcCoe Idealize.ShloMosaic.ValueIdx Idealize.ShloMosaic.StackMember Idealize.SL.Sem
open Idealize.ShloMosaic.Pipeline (Dat)
open scoped BigOperators

namespace Cert.Proof.Up

open Cert.Kernel2Ideal Cert.Kernel2Ideal.Gen

variable (m : (ℓ : Loc nD τ sig) → Buf (Elt Ideal) ℓ)

/-- The up-projection of layer 0 at row `r` and column `j`: the rectified product, squared. -/
def up (h : S8192x4096.Idx → EReal) (w : S2x4096x16384.Idx → EReal) (r : Fin 8192) (j : Fin 16384) : EReal :=
  max (∑ k : Fin 4096, h (ix2 r k) * w (ix3 0 k j)) 0 * max (∑ k : Fin 4096, h (ix2 r k) * w (ix3 0 k j)) 0

theorem zeros2 : (![0, 0] : Fin 2 → Nat) = fun _ => 0 := funext fun a => by fin_cases a <;> rfl
theorem zeros3 : (![0, 0, 0] : Fin 3 → Nat) = fun _ => 0 := funext fun a => by fin_cases a <;> rfl

/-- The body's block at row `r` and column `j`. -/
theorem block_apply (x : Vec Ideal S1024x4096 .bf16) (w : Vec Ideal S1x4096x1024 .bf16) (r j : Fin 1024) :
    (out0_2 x w (ix2 r j) : EReal)
      = max (∑ k : Fin 4096, (x (ix2 r k) : EReal) * w (ix3 0 k j)) 0 * max (∑ k : Fin 4096, (x (ix2 r k) : EReal) * w (ix3 0 k j)) 0 := by
  unfold out0_2
  rw [View.canon_unit_zero zeros2, View.ld_unit_zero zeros3, View.ld_unit_zero zeros2]
  have e : (matmul (F := Ideal) (φ₁ := .bf16) (φ₂ := .bf16) dot_S1024x4096_S4096x1024_S1024x1024_1_0_0_1_n_n none x
      (shapeCast S4096x1024 w shapeCasts_S1x4096x1024_S4096x1024)
      (constant (F := Ideal) S1024x1024 .f32 0x00000000#32) (ix2 r j) : EReal) = ∑ k : Fin 4096, (x (ix2 r k) : EReal) * w (ix3 0 k j) := by
    refine (Ideal.matmul_plain_apply (M := 1024) (K := 4096) (N := 1024) none x _ _ r j).trans ?_
    refine (congrArg₂ (· + ·) Ideal.ofBits_zero_f32 (Finset.sum_congr rfl fun k _ => ?_)).trans (zero_add _)
    exact congrArg (x (ix2 r k) * ·) (shapeCast_1ab_ab_apply w shapeCasts_S1x4096x1024_S4096x1024 k j)
  have e0 : (Scalar.ofBits (F := Ideal) .f32 0x00000000#32 : EReal) = 0 := Ideal.ofBits_zero_f32
  have h := congrArg₂ (fun a b : EReal => max a b * max a b) e e0
  exact h

/-- The windows' blocks at point `t`: row block `t / 16`, column block `t % 16`. -/
theorem points : ∀ t : Fin cfg0.N, (win0_0.index t 0 = t.val / 16 ∧ win0_0.index t 1 = 0)
    ∧ (win0_1.index t 0 = 0 ∧ win0_1.index t 1 = 0 ∧ win0_1.index t 2 = t.val % 16)
    ∧ (win0_2.index t 0 = t.val / 16 ∧ win0_2.index t 1 = t.val % 16) :=
  (by decide +kernel : ∀ t : Fin grid0.N, _)

/-- The weight's array as the call reads it: the argument, its rounding to bf16 the identity here. -/
theorem V_weight (c : Dev nD) : V m c main_v0 = truncf (F := Ideal) .bf16 (m ((c : Thread nD τ).loc main_arg1)) bitsLt_bf16_f32 := by
  unfold_abbrev_sides
  after_results

/-- The result array after the run is the up-projection of the arguments. -/
theorem final (c : Dev nD) : (dats m 0 c).arrAt 2 cfg0.N
    = fun i : S8192x16384.Idx => up (m ((c : Thread nD τ).loc main_arg0)) (m ((c : Thread nD τ).loc main_arg1)) (i 0) (i 1) := by
  refine (dats m 0 c).arrAt_eq_of_covers 2 _ (by decide +kernel) fun t _ (y : S1024x1024.Idx) => ?_
  obtain ⟨⟨a0, a1⟩, ⟨b0, b1, b2⟩, c0, c1⟩ := points t
  have hy0 : (y 0).val < 1024 := (y 0).isLt
  have hy1 : (y 1).val < 1024 := (y 1).isLt
  show (dats m 0 c).after 2 t y = up _ _ _ _
  rw [after0_2, eq_ix2 y]
  refine (block_apply _ _ _ _).trans ?_
  unfold up
  rw [← eq_ix2 y]
  have e : (∑ k : Fin 4096, (show EReal from iblk m c 0 t (ix2 (y 0) k)) * (show EReal from iblk m c 1 t (ix3 0 k (y 1))))
      = ∑ k : Fin 4096, (show EReal from (m ((c : Thread nD τ).loc main_arg0)) (ix2 ((((cfg0.win 2).blk t).view.emb y) 0) k))
        * (show EReal from (m ((c : Thread nD τ).loc main_arg1)) (ix3 0 k ((((cfg0.win 2).blk t).view.emb y) 1))) := by
    refine Finset.sum_congr rfl fun k _ => ?_
    refine congrArg₂ (· * ·) ((congrFun (V_main_arg0 m c) _).trans (congrArg (m ((c : Thread nD τ).loc main_arg0)) ?_))
      ((congrFun (V_weight m c) _).trans (congrArg (m ((c : Thread nD τ).loc main_arg1)) ?_))
    · funext a; apply Fin.ext; fin_cases a
      · show win0_0.index t 0 * 1024 + 1 * (y 0).val = win0_2.index t 0 * 1024 + 1 * (y 0).val
        rw [a0, c0]
      · show win0_0.index t 1 * 4096 + 1 * k.val = k.val
        rw [a1]; omega
    · funext a; apply Fin.ext; fin_cases a
      · show win0_1.index t 0 * 1 + 1 * 0 = 0
        rw [b0]
      · show win0_1.index t 1 * 4096 + 1 * k.val = k.val
        rw [b1]; omega
      · show win0_1.index t 2 * 1024 + 1 * (y 1).val = win0_2.index t 1 * 1024 + 1 * (y 1).val
        rw [b2, c1]
  exact congrArg (fun x : EReal => max x 0 * max x 0) e

end Cert.Proof.Up

namespace Cert.Proof.Up

open Cert.Reference2Ideal Cert.Reference2Ideal.Gen

/-- The reference's product at row `r` and column `j`. -/
theorem ref_apply (h : Vec Ideal S8192x4096 .bf16) (w : Vec Ideal S2x4096x16384 .f32) (r : Fin 8192) (j : Fin 16384) :
    (Host.dotGeneral (F := Ideal) (φ₁ := .f32) (φ₂ := .f32) dot_S8192x4096_S4096x16384_S8192x16384_1_0_0_1_n_n none (extf (F := Ideal) (φ := .bf16) .f32 h bitsLt_bf16_f32)
      (shapeCast S4096x16384 (extractStridedSlice S1x4096x16384 ![0, 0, 0] w slices_S2x4096x16384_S1x4096x16384_0_0_0)
        shapeCasts_S1x4096x16384_S4096x16384) (ix2 r j) : EReal)
      = ∑ k : Fin 4096, (h (ix2 r k) : EReal) * w (ix3 0 k j) := by
  refine (dotGeneral_plain_apply (m := 8192) (k := 4096) (n := 16384) none _ _ r j).trans ?_
  refine (Finset.sum_congr rfl fun k _ => congrArg (h (ix2 r k) * ·) ?_)
  refine (shapeCast_1ab_ab_apply _ _ k j).trans ?_
  exact extractStridedSlice_apply _ _ _ _ _ fun a => by fin_cases a <;> simp

end Cert.Proof.Up

namespace Cert.Proof.Up

/-- The two programs compute the same function: from equal arguments both results end at the up-projection. -/
theorem algebraic (hK : Cert.Kernel2Ideal.Facts) (hR : Cert.Reference2Ideal.Facts) :
    Cert.algebraic_Kernel2Ideal_Reference2Ideal (hKernel2Ideal := hK) (hReference2Ideal := hR) := by
  intro m g m' g' _ hm
  refine ⟨fun c => fun i : Cert.Kernel2Ideal.S8192x16384.Idx => up (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (i 0) (i 1),
    (θ_run _ _ _).mono (fun r h c => ⟨(h c).1.trans (final m c), (h c).2⟩) (Cert.Kernel2Ideal.Value.run_blocks m g),
    (θ_run _ _ _).mono (fun r h c => ⟨(h c).1.trans ?_, (h c).2⟩) (Cert.Reference2Ideal.Value.run m' g')⟩
  rw [(hm c).1, (hm c).2]
  funext i
  rw [eq_ix2 i]
  exact congrArg₂ (fun a b : EReal => max a b * max a b) (ref_apply _ _ (i 0) (i 1)) (Ideal.ofBits_zero_f32)

end Cert.Proof.Up

end
-- ==== Proof.Mlp.DownBody.lean ====
/-
  The MLP's down-projection, one grid point: what each of the body's three cases leaves in its scratch and in its result's
  block.  The first quarter of a row's product is stored, the later three are added to it, and after the fourth the block is
  the residual plus the gate times the sum.
-/
module

public import proofs.«01_k».proof.Defs
public import proofs.«01_k».proof.Proof.Gen.Kernel3Ideal.Value
public import Idealize.ShloMosaic.Lib.Pipeline.ValueKit.Geometry
public import Idealize.ShloMosaic.Lib.MatmulPlain
public import Idealize.ShloMosaic.Lib.ValueLayout
public import Idealize.ShloMosaic.PureOps.Ideal.Laws

@[expose] public section

noncomputable section

open Idealize.ShloMosaic Idealize.ShloMosaic.TcCoe Idealize.ShloMosaic.ValueIdx Idealize.SL.Sem
open Idealize.ShloMosaic.Pipeline (Dat)
open scoped BigOperators

namespace Cert.Proof.Down

open Cert.Kernel3Ideal Cert.Kernel3Ideal.Gen

theorem zeros2 : (![0, 0] : Fin 2 → Nat) = fun _ => 0 := funext fun a => by fin_cases a <;> rfl
theorem zeros3 : (![0, 0, 0] : Fin 3 → Nat) = fun _ => 0 := funext fun a => by fin_cases a <;> rfl

section Cases

variable {F : FTy → Type} [FloatOps F]
variable (c : Dev nD) (i : grid0.Coords) (a3 : Memref sig .tc .vmem S1024x4096 .bf16) (h3 : a3.IsWhole)
  (a4 : Memref sig .tc .vmem S1x4096x512 .bf16) (h4 : a4.IsWhole) (a5 : Memref sig .tc .vmem S1024x512 .f32) (h5 : a5.IsWhole)
  (a6 : Memref sig .tc .vmem S1x1x512 .f32) (h6 : a6.IsWhole) (a7 : Memref sig .tc .vmem S1024x512 .f32) (h7 : a7.IsWhole)
  (a8 : Memref sig .tc .vmem S1024x512 .f32) (h8 : a8.IsWhole)
  (x : Vec F S1024x4096 .bf16) (w : Vec F S1x4096x512 .bf16) (res : Vec F S1024x512 .f32) (gate : Vec F S1x1x512 .f32)
  (acc : Vec F S1024x512 .f32)

/-- The first quarter leaves its partial product in the scratch. -/
theorem scratch_A (hc0 : cond0_0 i) (hc1 : ¬cond0_1 i) (hc2 : ¬cond0_2 i) :
    sout0_A_0 c i a3 h3 a4 h4 a5 h5 a6 h6 a7 h7 a8 h8 hc0 hc1 hc2 x w res gate = k0_pay2 w x := by
  unfold sout0_A_0
  rw [View.read_writes_eq_canon _ _ _ (scover0_A_0 c i a3 h3 a4 h4 a5 h5 a6 h6 a7 h7 a8 h8 hc0 hc1 hc2 x w res gate)]
  unfold kernelRun0_A
  dsimp only
  rw [View.canon_unit_zero zeros2]
  simp only [View.readAt_eq_ld, h3.read_unread, h4.read_unread, View.ld_unit_zero (S := S1024x4096) zeros2, View.ld_unit_zero (S := S1024x512) zeros2,
    View.ld_unit_zero (S := S1x4096x512) zeros3, View.ld_unit_zero (S := S1x1x512) zeros3]

/-- A middle quarter adds its partial product to the scratch. -/
theorem scratch_B (hc0 : ¬cond0_0 i) (hc1 : cond0_1 i) (hc2 : ¬cond0_2 i) :
    sout0_B_0 c i a3 h3 a4 h4 a5 h5 a6 h6 a7 h7 a8 h8 hc0 hc1 hc2 x w res gate acc = k0_pay3 w x acc := by
  unfold sout0_B_0
  rw [View.read_writes_eq_canon _ _ _ (scover0_B_0 c i a3 h3 a4 h4 a5 h5 a6 h6 a7 h7 a8 h8 hc0 hc1 hc2 x w res gate acc)]
  unfold kernelRun0_B
  dsimp only
  rw [View.canon_unit_zero zeros2]
  simp only [View.readAt_eq_ld, h3.read_unread, h4.read_unread, h8.read_unread, View.ld_unit_zero (S := S1024x4096) zeros2, View.ld_unit_zero (S := S1024x512) zeros2,
    View.ld_unit_zero (S := S1x4096x512) zeros3, View.ld_unit_zero (S := S1x1x512) zeros3]

/-- The last quarter leaves the residual plus the gate times the finished sum in the result's block. -/
theorem out_C (hc0 : ¬cond0_0 i) (hc1 : cond0_1 i) (hc2 : cond0_2 i) :
    out0_C_4 c i a3 h3 a4 h4 a5 h5 a6 h6 a7 h7 a8 h8 hc0 hc1 hc2 x w res gate acc = k0_pay4 (k0_pay3 w x acc) gate res := by
  unfold out0_C_4
  rw [View.read_writes_eq_canon _ _ _ (cover0_C_4 c i a3 h3 a4 h4 a5 h5 a6 h6 a7 h7 a8 h8 hc0 hc1 hc2 x w res gate acc)]
  unfold kernelRun0_C
  dsimp only
  sl_unfold_words
  rw [View.canon_unit_zero zeros2, View.readCov_unit_zero _ zeros2]
  simp only [View.readAt_eq_ld, h3.read_unread, h4.read_unread, h5.read_unread, h6.read_unread, h8.read_unread, View.ld_unit_zero (S := S1024x4096) zeros2, View.ld_unit_zero (S := S1024x512) zeros2,
    View.ld_unit_zero (S := S1x4096x512) zeros3, View.ld_unit_zero (S := S1x1x512) zeros3]

end Cases

/-- A quarter's partial product at row `r` and column `j`. -/
theorem part_apply (x : Vec Ideal S1024x4096 .bf16) (w : Vec Ideal S1x4096x512 .bf16) (r : Fin 1024) (j : Fin 512) :
    (k0_pay1 w x (ix2 r j) : EReal) = ∑ k : Fin 4096, (x (ix2 r k) : EReal) * w (ix3 0 k j) := by
  refine (Ideal.matmul_plain_apply (φ₁ := .bf16) (φ₂ := .bf16) (M := 1024) (K := 4096) (N := 512) none x _ _ r j).trans ?_
  refine (congrArg₂ (· + ·) Ideal.ofBits_zero_f32 (Finset.sum_congr rfl fun k _ => ?_)).trans (zero_add _)
  exact congrArg (x (ix2 r k) * ·) (shapeCast_1ab_ab_apply w shapeCasts_S1x4096x512_S4096x512 k j)

/-- The first quarter's scratch at row `r` and column `j`. -/
theorem first_apply (x : Vec Ideal S1024x4096 .bf16) (w : Vec Ideal S1x4096x512 .bf16) (r : Fin 1024) (j : Fin 512) :
    (k0_pay2 w x (ix2 r j) : EReal) = ∑ k : Fin 4096, (x (ix2 r k) : EReal) * w (ix3 0 k j) :=
  (congrFun (shapeCast_self (k0_pay1 w x) shapeCasts_S1024x512_S1024x512) (ix2 r j)).trans (part_apply x w r j)

/-- A later quarter's scratch at row `r` and column `j`. -/
theorem next_apply (x : Vec Ideal S1024x4096 .bf16) (w : Vec Ideal S1x4096x512 .bf16) (acc : Vec Ideal S1024x512 .f32) (r : Fin 1024) (j : Fin 512) :
    (k0_pay3 w x acc (ix2 r j) : EReal) = (acc (ix2 r j) : EReal) + ∑ k : Fin 4096, (x (ix2 r k) : EReal) * w (ix3 0 k j) :=
  (congrFun (shapeCast_self (addf acc (k0_pay1 w x)) shapeCasts_S1024x512_S1024x512) (ix2 r j)).trans
    (congrArg ((acc (ix2 r j) : EReal) + ·) (part_apply x w r j))

/-- The result's block at row `r` and column `j`. -/
theorem close_apply (acc : Vec Ideal S1024x512 .f32) (gate : Vec Ideal S1x1x512 .f32) (res : Vec Ideal S1024x512 .f32) (r : Fin 1024) (j : Fin 512) :
    (k0_pay4 acc gate res (ix2 r j) : EReal) = (res (ix2 r j) : EReal) + (gate (ix3 0 0 j) : EReal) * acc (ix2 r j) := by
  have e1 : (shapeCast S1024x512 res shapeCasts_S1024x512_S1024x512 (ix2 r j) : EReal) = res (ix2 r j) :=
    congrFun (shapeCast_self res _) _
  have e2 : (broadcastTo S1024x512 (shapeCast S1x512 gate shapeCasts_S1x1x512_S1x512) broadcasts_S1x512_S1024x512 (ix2 r j) : EReal) = gate (ix3 0 0 j) := by
    refine (broadcastTo_apply _ _ _ (k := ix2 0 j) fun a => by fin_cases a <;> simp).trans ?_
    exact shapeCast_1ab_ab_apply gate shapeCasts_S1x1x512_S1x512 0 j
  exact congrArg₂ (fun a b : EReal => a + b * acc (ix2 r j)) e1 e2

end Cert.Proof.Down

end
-- ==== Proof.Mlp.Down.lean ====
/-
  The MLP's down-projection with its gate and residual, on the extended reals: the kernel sums a row's product in four
  quarters of 4096, the reference in one, and both end at `residual + gate · ∑ x · w`, index by index.
-/
module

public import proofs.«01_k».proof.Proof.Mlp.DownBody
public import proofs.«01_k».proof.Proof.Gen.Reference3Ideal.Run
public import Idealize.ShloMosaic.Lib.StackMember
public import Idealize.ShloMosaic.Lib.StableHlo.Run

@[expose] public section

noncomputable section

open Idealize.ShloMosaic Idealize.ShloMosaic.TcCoe Idealize.ShloMosaic.ValueIdx Idealize.ShloMosaic.StackMember Idealize.SL.Sem
open Idealize.ShloMosaic.Pipeline (Dat)
open scoped BigOperators

namespace Cert.Proof.Down

open Cert.Kernel3Ideal Cert.Kernel3Ideal.Gen

variable (m : (ℓ : Loc nD τ sig) → Buf (Elt Ideal) ℓ)

/-- The batch of flat row `r`. -/
def batch (r : Fin 8192) : Fin 4 := ⟨r.val / 2048, by omega⟩

/-- The token of flat row `r` in its batch. -/
def token (r : Fin 8192) : Fin 2048 := ⟨r.val % 2048, by omega⟩

/-- The down-projection of layer 0 at flat row `r` and column `j`: the residual plus the gate times the product. -/
def down (x : S8192x16384.Idx → EReal) (w : S2x16384x4096.Idx → EReal) (res : S4x2048x4096.Idx → EReal)
    (gate : S4x4096.Idx → EReal) (r : Fin 8192) (j : Fin 4096) : EReal :=
  res (ix3 (batch r) (token r) j) + gate (ix2 (batch r) j) * ∑ k : Fin 16384, x (ix2 r k) * w (ix3 0 k j)

/-- A sum over 16384 indices is the sum of its four quarters, added from the left. -/
theorem quarters (f : Fin 16384 → EReal) : ∑ k, f k
    = ((∑ k : Fin 4096, f ⟨k.val, by omega⟩) + (∑ k : Fin 4096, f ⟨4096 + k.val, by omega⟩)
        + ∑ k : Fin 4096, f ⟨8192 + k.val, by omega⟩) + ∑ k : Fin 4096, f ⟨12288 + k.val, by omega⟩ := by
  refine (Fin.sum_univ_add (a := 12288) (b := 4096) f).trans (congrArg₂ (· + ·) ?_ rfl)
  refine (Fin.sum_univ_add (a := 8192) (b := 4096) fun k : Fin 12288 => f ⟨k.val, by omega⟩).trans (congrArg₂ (· + ·) ?_ rfl)
  exact Fin.sum_univ_add (a := 4096) (b := 4096) fun k : Fin 8192 => f ⟨k.val, by omega⟩

/-- The windows' blocks at point `t`: row block `t / 32`, column block `t / 4 % 8`, quarter `t % 4`. -/
theorem points : ∀ t : Fin cfg0.N, (win0_0.index t 0 = t.val / 32 ∧ win0_0.index t 1 = t.val % 4)
    ∧ (win0_1.index t 0 = 0 ∧ win0_1.index t 1 = t.val % 4 ∧ win0_1.index t 2 = t.val / 4 % 8)
    ∧ (win0_2.index t 0 = t.val / 32 ∧ win0_2.index t 1 = t.val / 4 % 8)
    ∧ (win0_3.index t 0 = t.val / 64 ∧ win0_3.index t 1 = 0 ∧ win0_3.index t 2 = t.val / 4 % 8)
    ∧ (win0_4.index t 0 = t.val / 32 ∧ win0_4.index t 1 = t.val / 4 % 8) :=
  (by decide +kernel : ∀ t : Fin grid0.N, _)

/-- The quarter of the product that point `t` computes, at row `y 0` and column `y 1` of its block. -/
def part (c : Dev nD) (t : Fin cfg0.N) (y : S1024x512.Idx) : EReal :=
  ∑ k : Fin 4096, (show EReal from iblk m c 0 t (ix2 (y 0) k)) * (show EReal from iblk m c 1 t (ix3 0 k (y 1)))

/-- After a block's first point the scratch holds the first quarter. -/
theorem scratch_first (c : Dev nD) (n : ℕ) (hn : n < cfg0.N) (h : n % 4 = 0) (y : S1024x512.Idx) :
    ((outsAt0 m c n hn).2 y : EReal) = part m c ⟨n, hn⟩ y := by
  have e := congrArg Prod.snd (outsAt0_A m c ⟨n, hn⟩ h (by dsimp only; omega) (by dsimp only; omega))
  dsimp only at e
  rw [scratch_A] at e
  rw [e, eq_ix2 y]
  exact first_apply _ _ _ _

/-- After a middle point the scratch holds what the point before left plus this point's quarter. -/
theorem scratch_next (c : Dev nD) (n : ℕ) (hn : n + 1 < cfg0.N) (h1 : 1 ≤ (n + 1) % 4) (h2 : ¬(n + 1) % 4 = 3) (y : S1024x512.Idx) :
    ((outsAt0 m c (n + 1) hn).2 y : EReal)
      = (show EReal from (outsAt0 m c n (Nat.lt_of_succ_lt hn)).2 y) + part m c ⟨n + 1, hn⟩ y := by
  have e := congrArg Prod.snd (outsAt0_B m c ⟨n + 1, hn⟩ (by dsimp only; omega) h1 h2)
  dsimp only at e
  rw [scratch_B] at e
  rw [e, eq_ix2 y]
  exact next_apply _ _ _ _ _

/-- At a block's last point the result's block is the residual plus the gate times the sum of the four quarters. -/
theorem out_last (c : Dev nD) (n : ℕ) (hn : n + 3 < cfg0.N) (h : n % 4 = 0) (y : S1024x512.Idx) :
    ((outsAt0 m c (n + 3) hn).1 y : EReal)
      = (show EReal from iblk m c 2 ⟨n + 3, hn⟩ y) + (show EReal from iblk m c 3 ⟨n + 3, hn⟩ (ix3 0 0 (y 1)))
        * (((part m c ⟨n, by omega⟩ y + part m c ⟨n + 1, by omega⟩ y) + part m c ⟨n + 2, by omega⟩ y) + part m c ⟨n + 3, hn⟩ y) := by
  have e := congrArg Prod.fst (outsAt0_C m c ⟨n + 3, hn⟩ (by dsimp only; omega) (by dsimp only; omega) (by dsimp only; omega))
  dsimp only at e
  rw [out_C] at e
  rw [e]
  have s : ((outsAt0 m c (n + 2) (by omega)).2 y : EReal)
      = (part m c ⟨n, by omega⟩ y + part m c ⟨n + 1, by omega⟩ y) + part m c ⟨n + 2, by omega⟩ y := by
    rw [scratch_next m c (n + 1) (by omega) (by omega) (by omega), scratch_next m c n (by omega) (by omega) (by omega),
      scratch_first m c n (by omega) h]
  rw [← s, eq_ix2 y]
  refine (close_apply _ _ _ _ _).trans ?_
  exact congrArg (fun a : EReal => (show EReal from iblk m c 2 ⟨n + 3, hn⟩ (ix2 (y 0) (y 1))) + (show EReal from iblk m c 3 ⟨n + 3, hn⟩ (ix3 0 0 (y 1))) * a)
    (next_apply _ _ _ _ _)

/-- An array of batches read as flat rows. -/
theorem flat_apply (x : FVec Ideal S4x2048x4096 .f32) (h : S4x2048x4096.ShapeCasts S8192x4096) (r : Fin 8192) (j : Fin 4096) :
    (shapeCast S8192x4096 x h (ix2 r j) : EReal) = x (ix3 (batch r) (token r) j) := by
  refine shapeCast_apply _ _ _ _ ?_
  refine (Shape.rowMajor_val_three _).trans (Eq.trans ?_ (Shape.rowMajor_val_two _).symm)
  show ((r.val / 2048) * 2048 + r.val % 2048) * 4096 + j.val = r.val * 4096 + j.val
  omega

/-- One row per batch, as a middle axis of one. -/
theorem rows_apply (x : FVec Ideal S4x4096 .f32) (h : S4x4096.ShapeCasts S4x1x4096) (b : Fin 4) (j : Fin 4096) :
    (shapeCast S4x1x4096 x h (ix3 b 0 j) : EReal) = x (ix2 b j) := by
  refine shapeCast_apply _ _ _ _ ?_
  refine (Shape.rowMajor_val_two _).trans (Eq.trans ?_ (Shape.rowMajor_val_three _).symm)
  show b.val * 4096 + j.val = (b.val * 1 + 0) * 4096 + j.val
  omega

/-- The weight's array as the call reads it: the argument, its rounding to bf16 the identity here. -/
theorem V_weight (c : Dev nD) : V m c main_v0 = truncf (F := Ideal) .bf16 (m ((c : Thread nD τ).loc main_arg1)) bitsLt_bf16_f32 := by
  unfold_abbrev_sides
  after_results

/-- The residual's array as the call reads it: the batches' rows one after another. -/
theorem V_residual (c : Dev nD) (r : Fin 8192) (j : Fin 4096) :
    (V m c main_v1 (ix2 r j) : EReal) = m ((c : Thread nD τ).loc main_arg2) (ix3 (batch r) (token r) j) := by
  have e : V m c main_v1 = shapeCast S8192x4096 (m ((c : Thread nD τ).loc main_arg2)) shapeCasts_S4x2048x4096_S8192x4096 := by
    unfold_abbrev_sides
    after_results
    rfl
  rw [e]
  exact flat_apply _ _ r j

/-- The gate's array as the call reads it: one row per batch. -/
theorem V_gate (c : Dev nD) (b : Fin 4) (j : Fin 4096) :
    (V m c main_v2 (ix3 b 0 j) : EReal) = m ((c : Thread nD τ).loc main_arg3) (ix2 b j) := by
  have e : V m c main_v2 = shapeCast S4x1x4096 (m ((c : Thread nD τ).loc main_arg3)) shapeCasts_S4x4096_S4x1x4096 := by
    unfold_abbrev_sides
    after_results
    rfl
  rw [e]
  exact rows_apply _ _ b j

/-- Point `t`'s quarter of the product, read off the arguments. -/
theorem part_eq (c : Dev nD) (t : Fin cfg0.N) (y : S1024x512.Idx) (r : Fin 8192) (j : Fin 4096) (q : Fin 4)
    (hr : r.val = t.val / 32 * 1024 + (y 0).val) (hj : j.val = t.val / 4 % 8 * 512 + (y 1).val) (hq : q.val = t.val % 4) :
    part m c t y = ∑ k : Fin 4096, (show EReal from m ((c : Thread nD τ).loc main_arg0) (ix2 r ⟨q.val * 4096 + k.val, by omega⟩))
      * (show EReal from m ((c : Thread nD τ).loc main_arg1) (ix3 0 ⟨q.val * 4096 + k.val, by omega⟩ j)) := by
  obtain ⟨⟨a0, a1⟩, ⟨b0, b1, b2⟩, -⟩ := points t
  refine Finset.sum_congr rfl fun k _ => ?_
  refine congrArg₂ (fun a b : EReal => a * b) ?_ ?_
  · refine (congrFun (V_main_arg0 m c) _).trans (congrArg (m ((c : Thread nD τ).loc main_arg0)) ?_)
    funext a; apply Fin.ext; fin_cases a
    · show win0_0.index t 0 * 1024 + 1 * (y 0).val = r.val
      rw [a0]; omega
    · show win0_0.index t 1 * 4096 + 1 * k.val = q.val * 4096 + k.val
      rw [a1]; omega
  · refine (congrFun (V_weight m c) _).trans (congrArg (m ((c : Thread nD τ).loc main_arg1)) ?_)
    funext a; apply Fin.ext; fin_cases a
    · show win0_1.index t 0 * 1 + 1 * 0 = 0
      rw [b0]
    · show win0_1.index t 1 * 4096 + 1 * k.val = q.val * 4096 + k.val
      rw [b1]; omega
    · show win0_1.index t 2 * 512 + 1 * (y 1).val = j.val
      rw [b2]; omega

/-- The result array after the run is the down-projection of the arguments. -/
theorem final (c : Dev nD) : (dats m 0 c).arrAt 4 cfg0.N
    = fun i : S8192x4096.Idx => down (m ((c : Thread nD τ).loc main_arg0)) (m ((c : Thread nD τ).loc main_arg1))
        (m ((c : Thread nD τ).loc main_arg2)) (m ((c : Thread nD τ).loc main_arg3)) (i 0) (i 1) := by
  refine (dats m 0 c).arrAt_eq_of_covers 4 _ (by decide +kernel) fun t hf (y : S1024x512.Idx) => ?_
  have h3 : t.val % 4 = 3 := (flush0_4 t).mp hf
  obtain ⟨-, -, ⟨c0, c1⟩, ⟨d0, d1, d2⟩, e0, e1⟩ := points t
  have hN : t.val < 256 := t.isLt.trans_eq N_0
  have hy0 : (y 0).val < 1024 := (y 0).isLt
  have hy1 : (y 1).val < 512 := (y 1).isLt
  obtain ⟨t, ht⟩ := t
  obtain ⟨n, hn, rfl⟩ : ∃ n, n % 4 = 0 ∧ t = n + 3 := by
    dsimp only at h3
    exact ⟨t - 3, by omega, by omega⟩
  dsimp only at h3 c0 c1 d0 d1 d2 e0 e1 hN
  replace ht : n + 3 < cfg0.N := ht
  show (dats m 0 c).after 4 ⟨n + 3, ht⟩ y = down _ _ _ _ ((((cfg0.win 4).blk ⟨n + 3, ht⟩).view.emb y) 0) ((((cfg0.win 4).blk ⟨n + 3, ht⟩).view.emb y) 1)
  have r0 : ((((cfg0.win 4).blk ⟨n + 3, ht⟩).view.emb y) 0).val = (n + 3) / 32 * 1024 + (y 0).val := by
    show win0_4.index ⟨n + 3, ht⟩ 0 * 1024 + 1 * (y 0).val = _
    rw [e0]; omega
  have r1 : ((((cfg0.win 4).blk ⟨n + 3, ht⟩).view.emb y) 1).val = (n + 3) / 4 % 8 * 512 + (y 1).val := by
    show win0_4.index ⟨n + 3, ht⟩ 1 * 512 + 1 * (y 1).val = _
    rw [e1]; omega
  generalize (((cfg0.win 4).blk ⟨n + 3, ht⟩).view.emb y) 0 = r at r0 ⊢
  generalize (((cfg0.win 4).blk ⟨n + 3, ht⟩).view.emb y) 1 = j at r1 ⊢
  change Fin 8192 at r
  change Fin 4096 at j
  rw [after0_4]
  refine (out_last m c n ht hn y).trans ?_
  rw [part_eq m c ⟨n, by omega⟩ y r j 0 (by dsimp only; omega) (by dsimp only; omega) (by dsimp only; omega),
    part_eq m c ⟨n + 1, by omega⟩ y r j 1 (by dsimp only; omega) (by dsimp only; omega) (by dsimp only; omega),
    part_eq m c ⟨n + 2, by omega⟩ y r j 2 (by dsimp only; omega) (by dsimp only; omega) (by dsimp only; omega),
    part_eq m c ⟨n + 3, ht⟩ y r j 3 (by dsimp only; omega) (by dsimp only; omega) (by dsimp only; omega)]
  unfold down
  have g2 : (iblk m c 2 ⟨n + 3, ht⟩ y : EReal) = m ((c : Thread nD τ).loc main_arg2) (ix3 (batch r) (token r) j) := by
    refine Eq.trans (congrArg (V m c main_v1) ?_) (V_residual m c r j)
    funext a; apply Fin.ext; fin_cases a
    · show win0_2.index ⟨n + 3, ht⟩ 0 * 1024 + 1 * (y 0).val = r.val
      rw [c0]; omega
    · show win0_2.index ⟨n + 3, ht⟩ 1 * 512 + 1 * (y 1).val = j.val
      rw [c1]; omega
  have g3 : (iblk m c 3 ⟨n + 3, ht⟩ (ix3 0 0 (y 1)) : EReal) = m ((c : Thread nD τ).loc main_arg3) (ix2 (batch r) j) := by
    refine Eq.trans (congrArg (V m c main_v2) ?_) (V_gate m c (batch r) j)
    funext a; apply Fin.ext; fin_cases a
    · show win0_3.index ⟨n + 3, ht⟩ 0 * 1 + 1 * 0 = r.val / 2048
      rw [d0]; omega
    · show win0_3.index ⟨n + 3, ht⟩ 1 * 1 + 1 * 0 = 0
      rw [d1]
    · show win0_3.index ⟨n + 3, ht⟩ 2 * 512 + 1 * (y 1).val = j.val
      rw [d2]; omega
  refine congrArg₂ (fun a b : EReal => a + b) g2 (congrArg₂ (fun a b : EReal => a * b) g3 ?_)
  refine Eq.trans ?_ (quarters _).symm
  refine congrArg₂ (fun a b : EReal => a + b) (congrArg₂ (fun a b : EReal => a + b) (congrArg₂ (fun a b : EReal => a + b) ?_ ?_) ?_) ?_
  all_goals
    refine Finset.sum_congr rfl fun k _ => ?_
    refine congrArg₂ (fun a b : EReal => a * b) (congrArg (m ((c : Thread nD τ).loc main_arg0)) ?_) (congrArg (m ((c : Thread nD τ).loc main_arg1)) ?_)
  · exact congrArg (ix2 r) (Fin.ext (Nat.zero_add _))
  · exact congrArg (fun a => ix3 0 a j) (Fin.ext (Nat.zero_add _))
  all_goals rfl

end Cert.Proof.Down

namespace Cert.Proof.Down

open Cert.Reference3Ideal Cert.Reference3Ideal.Gen

/-- The reference's product of an array of batches by a matrix, at one index. -/
theorem batches_apply (A : FVec Ideal S4x2048x16384 .f32) (B : FVec Ideal S16384x4096 .f32) (b : Fin 4) (s : Fin 2048) (j : Fin 4096) :
    (Host.dotGeneral dot_S4x2048x16384_S16384x4096_S4x2048x4096_2_0_01_1_n_n none A B (ix3 b s j) : EReal)
      = ∑ k : Fin 16384, (A (ix3 b s k) : EReal) * B (ix2 k j) := by
  show FloatOps.dotGeneral _ none _ A B (ix3 b s j) = _
  rw [Ideal.dotGeneral_apply,
    ← Equiv.sum_comp (contrEquiv1 dot_S4x2048x16384_S16384x4096_S4x2048x4096_2_0_01_1_n_n 16384 rfl rfl).symm]
  refine Finset.sum_congr rfl fun k _ => ?_
  have e := contrEquiv1_symm_val dot_S4x2048x16384_S16384x4096_S4x2048x4096_2_0_01_1_n_n 16384 rfl rfl k
  refine congrArg₂ (fun a b : EReal => a * b) (congrArg A ?_) (congrArg B ?_)
  · funext a; apply Fin.ext
    match a with
    | ⟨0, _⟩ => rfl
    | ⟨1, _⟩ => rfl
    | ⟨2, _⟩ => exact e
  · funext a; apply Fin.ext
    match a with
    | ⟨0, _⟩ => exact e
    | ⟨1, _⟩ => rfl

/-- The reference's product at flat row `r` and column `j`. -/
theorem ref_apply (x : Vec Ideal S8192x16384 .bf16) (w : Vec Ideal S2x16384x4096 .f32) (r : Fin 8192) (j : Fin 4096) :
    (Host.dotGeneral (F := Ideal) (φ₁ := .f32) (φ₂ := .f32) dot_S4x2048x16384_S16384x4096_S4x2048x4096_2_0_01_1_n_n none
      (shapeCast S4x2048x16384 (extf (F := Ideal) (φ := .bf16) .f32 x bitsLt_bf16_f32) shapeCasts_S8192x16384_S4x2048x16384)
      (shapeCast S16384x4096 (extractStridedSlice S1x16384x4096 ![0, 0, 0] w slices_S2x16384x4096_S1x16384x4096_0_0_0)
        shapeCasts_S1x16384x4096_S16384x4096) (ix3 (batch r) (token r) j) : EReal)
      = ∑ k : Fin 16384, (x (ix2 r k) : EReal) * w (ix3 0 k j) := by
  refine (batches_apply _ _ _ _ _).trans ?_
  refine Finset.sum_congr rfl fun k _ => congrArg₂ (fun a b : EReal => a * b) ?_ ?_
  · refine shapeCast_apply _ _ _ (ix2 r k) ?_
    refine (Shape.rowMajor_val_two _).trans (Eq.trans ?_ (Shape.rowMajor_val_three _).symm)
    show r.val * 16384 + k.val = ((r.val / 2048) * 2048 + r.val % 2048) * 16384 + k.val
    omega
  · refine (shapeCast_1ab_ab_apply _ _ k j).trans ?_
    exact extractStridedSlice_apply _ _ _ _ _ fun a => by fin_cases a <;> simp

/-- The gate spread over the tokens of its batch, at one index. -/
theorem gate_apply (g : Vec Ideal S4x4096 .f32) (b : Fin 4) (s : Fin 2048) (j : Fin 4096) :
    (broadcastInDim S4x2048x4096 ![0, 1, 2] bcast_S4x1x4096_S4x2048x4096_0_1_2
      (broadcastInDim S4x1x4096 ![0, 2] bcast_S4x4096_S4x1x4096_0_2 g) (ix3 b s j) : EReal) = g (ix2 b j) := by
  refine congrArg g ?_
  funext a; apply Fin.ext
  match a with
  | ⟨0, _⟩ => rfl
  | ⟨1, _⟩ => rfl

end Cert.Proof.Down

namespace Cert.Proof.Down

/-- The two programs compute the same function: from equal arguments both results end at the down-projection. -/
theorem algebraic (hK : Cert.Kernel3Ideal.Facts) (hR : Cert.Reference3Ideal.Facts) :
    Cert.algebraic_Kernel3Ideal_Reference3Ideal (hKernel3Ideal := hK) (hReference3Ideal := hR) := by
  intro m g m' g' _ hm
  refine ⟨fun c => fun i : Cert.Kernel3Ideal.S8192x4096.Idx => down
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3)) (i 0) (i 1),
    (θ_run _ _ _).mono (fun r h c => ⟨(h c).1.trans (final m c), (h c).2⟩) (Cert.Kernel3Ideal.Value.run_blocks m g),
    (θ_run _ _ _).mono (fun r h c => ⟨(h c).1.trans ?_, (h c).2⟩) (Cert.Reference3Ideal.Value.run m' g')⟩
  rw [(hm c).1, (hm c).2.1, (hm c).2.2.1, (hm c).2.2.2]
  funext i
  rw [eq_ix2 i]
  refine (flat_apply _ _ (i 0) (i 1)).trans ?_
  exact congrArg₂ (fun a b : EReal => (show EReal from m ((c.tc : Thread Cert.Kernel3Ideal.nD Cert.Kernel3Ideal.τ).loc Cert.Kernel3Ideal.main_arg2)
    (ix3 (batch (i 0)) (token (i 0)) (i 1))) + a * b) (gate_apply _ _ _ _) (ref_apply _ _ _ _)

end Cert.Proof.Down

end
-- ==== Proof.Proj.Tile.lean ====
/-
  One tile of a projection on the extended reals: the product of a tile's rows by a block of a weight's columns.
-/
module

public import Idealize.ShloMosaic.Lib.MatmulPlain
public import Idealize.ShloMosaic.Lib.ValueLayout
public import Idealize.ShloMosaic.Lib.StackMember
public import Idealize.ShloMosaic.PureOps.Ideal.Laws

@[expose] public section

noncomputable section

open Idealize.ShloMosaic Idealize.ShloMosaic.ValueIdx Idealize.ShloMosaic.StackMember
open scoped BigOperators

namespace Cert.Proof.Proj

theorem zeros2 : (![0, 0] : Fin 2 → Nat) = fun _ => 0 := funext fun a => by fin_cases a <;> rfl
theorem zeros3 : (![0, 0, 0] : Fin 3 → Nat) = fun _ => 0 := funext fun a => by fin_cases a <;> rfl

/-- A row of an array times a column of a weight. -/
def dotAt {M K N : ℕ} (h : FVec Ideal (⟨2, ![M, K]⟩ : Shape) .bf16) (w : FVec Ideal (⟨3, ![1, K, N]⟩ : Shape) .bf16) (r : Fin M) (j : Fin N) : EReal :=
  ∑ k : Fin K, (h (ix2 r k) : EReal) * w (ix3 0 k j)

/-- A row of an array times a column of a matrix in f32. -/
def prodAt {M K N : ℕ} (h : FVec Ideal (⟨2, ![M, K]⟩ : Shape) .bf16) (w : FVec Ideal (⟨2, ![K, N]⟩ : Shape) .f32) (r : Fin M) (j : Fin N) : EReal :=
  ∑ k : Fin K, (h (ix2 r k) : EReal) * w (ix2 k j)

/-- The matrix rounded to bf16 and given a leading axis of one layer: the same sums. -/
theorem dotAt_cast {M K N : ℕ} (h : FVec Ideal (⟨2, ![M, K]⟩ : Shape) .bf16) (w : FVec Ideal (⟨2, ![K, N]⟩ : Shape) .f32)
    (hb : (⟨2, ![K, N]⟩ : Shape).BroadcastsInDim (⟨3, ![1, K, N]⟩ : Shape) ![1, 2]) (ht : FTy.bits .bf16 < FTy.bits .f32) (r : Fin M) (j : Fin N) (hK : 1 < K) (hN : 1 < N) :
    dotAt h (broadcastInDim (⟨3, ![1, K, N]⟩ : Shape) ![1, 2] hb (truncf (F := Ideal) .bf16 w ht)) r j = prodAt h w r j := by
  refine Finset.sum_congr rfl fun k _ => congrArg (fun b : EReal => (h (ix2 r k) : EReal) * b) ?_
  refine broadcastInDim_apply _ hb _ (ix3 0 k j) (ix2 k j) fun a => ?_
  fin_cases a
  · show k.val = if K = 1 then 0 else k.val
    rw [if_neg (by omega)]
  · show j.val = if N = 1 then 0 else j.val
    rw [if_neg (by omega)]

/-- The reference's whole product cut at a column, read at an index. -/
theorem cut_apply {M K N n : ℕ} (D : DotDims (⟨2, ![M, K]⟩ : Shape) (⟨2, ![K, N]⟩ : Shape) (⟨2, ![M, N]⟩ : Shape)) (hD : D = DotDims.plain M K N)
    (h : FVec Ideal (⟨2, ![M, K]⟩ : Shape) .bf16) (w : FVec Ideal (⟨2, ![K, N]⟩ : Shape) .f32) (ht : FTy.bits .bf16 < FTy.bits .f32) (o : ℕ)
    (hs : (⟨2, ![M, N]⟩ : Shape).Slices ![0, o] (⟨2, ![M, n]⟩ : Shape)) (r : Fin M) (j : Fin n) (J : Fin N) (hJ : J.val = o + j.val) :
    (extractStridedSlice (⟨2, ![M, n]⟩ : Shape) ![0, o] (Host.dotGeneral (F := Ideal) D none (extf (F := Ideal) (φ := .bf16) .f32 h ht) w) hs (ix2 r j) : EReal)
      = prodAt h w r J := by
  subst hD
  refine (extractStridedSlice_apply _ _ _ (ix2 r j) (ix2 r J) fun a => ?_).trans (dotGeneral_plain_apply (m := M) (k := K) (n := N) none _ _ r J)
  fin_cases a
  · show r.val = 0 + r.val
    omega
  · exact hJ

/-- Column `j` of the `n` columns that begin at column `o` of `N`. -/
def colFrom {n N : ℕ} (o : ℕ) (h : o + n ≤ N) (j : Fin n) : Fin N := ⟨o + j.val, by omega⟩

/-- A tile's product at row `r` and column `j` of the tile is the arrays' at the row and the column they came from. -/
theorem tile_apply {M K N M' N' : ℕ} (D : DotDims (⟨2, ![M', K]⟩ : Shape) (⟨2, ![K, N']⟩ : Shape) (⟨2, ![M', N']⟩ : Shape)) (hD : D = DotDims.plain M' K N')
    (hc : (⟨3, ![1, K, N']⟩ : Shape).ShapeCasts (⟨2, ![K, N']⟩ : Shape))
    (h : FVec Ideal (⟨2, ![M, K]⟩ : Shape) .bf16) (w : FVec Ideal (⟨3, ![1, K, N]⟩ : Shape) .bf16)
    (x : FVec Ideal (⟨2, ![M', K]⟩ : Shape) .bf16) (b : FVec Ideal (⟨3, ![1, K, N']⟩ : Shape) .bf16)
    (r : Fin M') (j : Fin N') (R : Fin M) (J : Fin N)
    (hx : ∀ k, (x (ix2 r k) : EReal) = h (ix2 R k)) (hb : ∀ k, (b (ix3 0 k j) : EReal) = w (ix3 0 k J)) :
    (matmul D none x (shapeCast (⟨2, ![K, N']⟩ : Shape) b hc) (constant (F := Ideal) (⟨2, ![M', N']⟩ : Shape) .f32 0x00000000#32) (ix2 r j) : EReal)
      = dotAt h w R J := by
  subst hD
  refine (Ideal.matmul_plain_apply (φ₁ := .bf16) (φ₂ := .bf16) (M := M') (K := K) (N := N') none x _ _ r j).trans ?_
  refine (congrArg₂ (fun a b : EReal => a + b) Ideal.ofBits_zero_f32 (Finset.sum_congr rfl fun k _ => ?_)).trans (zero_add _)
  exact congrArg₂ (fun a b : EReal => a * b) (hx k) ((shapeCast_1ab_ab_apply b hc k j).trans (hb k))

/-- The same for blocks: the rows' block `a`, the weight's column block `o + b` and the result's block `(a, b)`. `e0`, `e1`, `e2` place
    a block's element in its array, at block index times block size plus the element's own. -/
theorem tile_of_blocks {M K N P M' N' : ℕ} (D : DotDims (⟨2, ![M', K]⟩ : Shape) (⟨2, ![K, N']⟩ : Shape) (⟨2, ![M', N']⟩ : Shape)) (hD : D = DotDims.plain M' K N')
    (hc : (⟨3, ![1, K, N']⟩ : Shape).ShapeCasts (⟨2, ![K, N']⟩ : Shape))
    (h : FVec Ideal (⟨2, ![M, K]⟩ : Shape) .bf16) (w : FVec Ideal (⟨3, ![1, K, N]⟩ : Shape) .bf16)
    (e0 : (⟨2, ![M', K]⟩ : Shape).Idx → (⟨2, ![M, K]⟩ : Shape).Idx) (e1 : (⟨3, ![1, K, N']⟩ : Shape).Idx → (⟨3, ![1, K, N]⟩ : Shape).Idx)
    (e2 : (⟨2, ![M', N']⟩ : Shape).Idx → (⟨2, ![M, P]⟩ : Shape).Idx) (i0 i2 : Fin 2 → ℕ) (i1 : Fin 3 → ℕ)
    (h0 : ∀ y a, (e0 y a).val = i0 a * (![M', K] : Fin 2 → ℕ) a + 1 * (y a).val) (h1 : ∀ y a, (e1 y a).val = i1 a * (![1, K, N'] : Fin 3 → ℕ) a + 1 * (y a).val)
    (h2 : ∀ y a, (e2 y a).val = i2 a * (![M', N'] : Fin 2 → ℕ) a + 1 * (y a).val) (o : ℕ) (ho : o * N' + P ≤ N)
    (p0 : i0 0 = i2 0 ∧ i0 1 = 0) (p1 : i1 0 = 0 ∧ i1 1 = 0 ∧ i1 2 = o + i2 1) (y : (⟨2, ![M', N']⟩ : Shape).Idx) :
    (matmul D none (fun z => h (e0 z)) (shapeCast (⟨2, ![K, N']⟩ : Shape) (fun z => w (e1 z)) hc) (constant (F := Ideal) (⟨2, ![M', N']⟩ : Shape) .f32 0x00000000#32) y : EReal)
      = dotAt h w (e2 y 0) (colFrom (o * N') ho (e2 y 1 : Fin P)) := by
  obtain ⟨a0, a1⟩ := p0
  obtain ⟨b0, b1, b2⟩ := p1
  have r0 := h2 y 0
  have r1 := h2 y 1
  rw [eq_ix2 y] at r0 r1 ⊢
  refine tile_apply D hD hc h w _ _ _ _ _ _ (fun k => congrArg h ?_) (fun k => congrArg w ?_)
  · funext a; apply Fin.ext; refine (h0 _ a).trans ?_
    fin_cases a
    · refine Eq.trans ?_ r0.symm
      show i0 0 * M' + _ = i2 0 * M' + _
      rw [a0]; rfl
    · show i0 1 * K + 1 * k.val = k.val
      rw [a1]; omega
  · funext a; apply Fin.ext; refine (h1 _ a).trans ?_
    fin_cases a
    · show i1 0 * 1 + 1 * 0 = 0
      rw [b0]
    · show i1 1 * K + 1 * k.val = k.val
      rw [b1]; omega
    · show i1 2 * N' + 1 * (y 1).val = o * N' + (e2 _ 1).val
      rw [r1, b2]
      show (o + i2 1) * N' + 1 * (y 1).val = o * N' + (i2 1 * N' + 1 * (y 1).val)
      rw [Nat.add_mul]; omega

end Cert.Proof.Proj

end
-- ==== Proof.Proj.EvenRun.lean ====
/-
  The even layer's projection program run to its end: every buffer that outlives the regions at the contents of the last boundary.
-/
module

public import proofs.«01_k».proof.Proof.Gen.Kernel4Ideal.Frame

@[expose] public section

noncomputable section

namespace Cert.Proof.Even

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the four regions, the last boundary's contents read against the final state. -/
theorem run : θ_run defs (onTc (τ := τ) (main (F := F))) ⟨m, fun _ => 0, ρ⟩ (fun r =>
      ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

end Cert.Proof.Even

end
-- ==== Proof.Proj.Even.lean ====
/-
  The even layer's input projection, on the extended reals: the four calls' tiles of 1024 by 1024 results and the
  reference's whole product, cut into its columns, are one sum over the features, index by index.
-/
module

public import proofs.«01_k».proof.Defs
public import proofs.«01_k».proof.Proof.Proj.Tile
public import proofs.«01_k».proof.Proof.Proj.EvenRun
public import proofs.«01_k».proof.Proof.Gen.Reference4Ideal.Run
public import Idealize.ShloMosaic.Lib.Pipeline.ValueKit.Geometry
public import Idealize.ShloMosaic.Lib.StableHlo.Run
public import Idealize.ShloMosaic.Lib.Claim

@[expose] public section

noncomputable section

open Idealize.ShloMosaic Idealize.ShloMosaic.TcCoe Idealize.ShloMosaic.ValueIdx Idealize.ShloMosaic.StackMember Idealize.SL.Sem
open Idealize.ShloMosaic.Pipeline (Dat)
open Cert.Proof.Proj
open scoped BigOperators

namespace Cert.Proof.Even

section Kernel

open Cert.Kernel4Ideal Cert.Kernel4Ideal.Gen

/-- A tile of the calls: the product of the rows' block by the weight's. -/
theorem tile (x : Vec Ideal S1024x4096 .bf16) (b : Vec Ideal S1x4096x1024 .bf16) : out0_2 x b
    = matmul (F := Ideal) (φ₁ := .bf16) (φ₂ := .bf16) dot_S1024x4096_S4096x1024_S1024x1024_1_0_0_1_n_n none x (shapeCast S4096x1024 b shapeCasts_S1x4096x1024_S4096x1024)
        (constant (F := Ideal) S1024x1024 .f32 0x00000000#32) := by
  unfold out0_2
  rw [View.canon_unit_zero zeros2, View.ld_unit_zero zeros3, View.ld_unit_zero zeros2]
  rfl

variable (V : (c : Dev nD) → (b : Ref sig .tc) → Buf (Elt Ideal) ((c : Thread nD τ).loc b))

/-- Call 0's blocks at every point: the rows' block is the result's, the weight's column block the result's, 0 further. -/
theorem points0 : ∀ t : Fin cfg0.N, (win0_0.index t 0 = win0_2.index t 0 ∧ win0_0.index t 1 = 0)
    ∧ (win0_1.index t 0 = 0 ∧ win0_1.index t 1 = 0 ∧ win0_1.index t 2 = 0 + win0_2.index t 1) :=
  (by decide +kernel : ∀ t : Fin grid0.N, _)

/-- Call 0's result after the run: the gate and value columns. -/
theorem final0 (c : Dev nD) : (dat0 V c).arrAt 2 cfg0.N
    = fun i : S8192x4096.Idx => dotAt (V c main_arg0) (V c main_v1) (i 0) (colFrom (0 * 1024) (by decide) (i 1 : Fin 4096)) := by
  refine (dat0 V c).arrAt_eq_of_covers 2 _ (by decide +kernel) fun t _ (y : S1024x1024.Idx) => ?_
  show (dat0 V c).after 2 t y = dotAt _ _ _ _
  rw [after0_2]
  refine (congrFun (tile (iblk0 V c 0 t) (iblk0 V c 1 t)) y).trans ?_
  exact tile_of_blocks _ rfl _ (V c main_arg0) (V c main_v1) ((cfg0.win 0).blk t).view.emb ((cfg0.win 1).blk t).view.emb ((cfg0.win 2).blk t).view.emb
    (win0_0.index t) (win0_2.index t) (win0_1.index t) (fun _ a => by fin_cases a <;> rfl) (fun _ a => by fin_cases a <;> rfl) (fun _ a => by fin_cases a <;> rfl) 0 (by decide)
    (points0 t).1 (points0 t).2 y

/-- Call 1's blocks at every point: the rows' block is the result's, the weight's column block the result's, 4 further. -/
theorem points1 : ∀ t : Fin cfg1.N, (win1_0.index t 0 = win1_2.index t 0 ∧ win1_0.index t 1 = 0)
    ∧ (win1_1.index t 0 = 0 ∧ win1_1.index t 1 = 0 ∧ win1_1.index t 2 = 4 + win1_2.index t 1) :=
  (by decide +kernel : ∀ t : Fin grid1.N, _)

/-- Call 1's result after the run: the queries. -/
theorem final1 (c : Dev nD) : (dat1 V c).arrAt 2 cfg1.N
    = fun i : S8192x2048.Idx => dotAt (V c main_arg0) (V c main_v1) (i 0) (colFrom (4 * 1024) (by decide) (i 1 : Fin 2048)) := by
  refine (dat1 V c).arrAt_eq_of_covers 2 _ (by decide +kernel) fun t _ (y : S1024x1024.Idx) => ?_
  show (dat1 V c).after 2 t y = dotAt _ _ _ _
  rw [after1_2]
  refine (congrFun (tile (iblk1 V c 0 t) (iblk1 V c 1 t)) y).trans ?_
  exact tile_of_blocks _ rfl _ (V c main_arg0) (V c main_v1) ((cfg1.win 0).blk t).view.emb ((cfg1.win 1).blk t).view.emb ((cfg1.win 2).blk t).view.emb
    (win1_0.index t) (win1_2.index t) (win1_1.index t) (fun _ a => by fin_cases a <;> rfl) (fun _ a => by fin_cases a <;> rfl) (fun _ a => by fin_cases a <;> rfl) 4 (by decide)
    (points1 t).1 (points1 t).2 y

/-- Call 2's blocks at every point: the rows' block is the result's, the weight's column block the result's, 6 further. -/
theorem points2 : ∀ t : Fin cfg2.N, (win2_0.index t 0 = win2_2.index t 0 ∧ win2_0.index t 1 = 0)
    ∧ (win2_1.index t 0 = 0 ∧ win2_1.index t 1 = 0 ∧ win2_1.index t 2 = 6 + win2_2.index t 1) :=
  (by decide +kernel : ∀ t : Fin grid2.N, _)

/-- Call 2's result after the run: the keys. -/
theorem final2 (c : Dev nD) : (dat2 V c).arrAt 2 cfg2.N
    = fun i : S8192x2048.Idx => dotAt (V c main_arg0) (V c main_v1) (i 0) (colFrom (6 * 1024) (by decide) (i 1 : Fin 2048)) := by
  refine (dat2 V c).arrAt_eq_of_covers 2 _ (by decide +kernel) fun t _ (y : S1024x1024.Idx) => ?_
  show (dat2 V c).after 2 t y = dotAt _ _ _ _
  rw [after2_2]
  refine (congrFun (tile (iblk2 V c 0 t) (iblk2 V c 1 t)) y).trans ?_
  exact tile_of_blocks _ rfl _ (V c main_arg0) (V c main_v1) ((cfg2.win 0).blk t).view.emb ((cfg2.win 1).blk t).view.emb ((cfg2.win 2).blk t).view.emb
    (win2_0.index t) (win2_2.index t) (win2_1.index t) (fun _ a => by fin_cases a <;> rfl) (fun _ a => by fin_cases a <;> rfl) (fun _ a => by fin_cases a <;> rfl) 6 (by decide)
    (points2 t).1 (points2 t).2 y

/-- Call 3's blocks at every point: the rows' block is the result's, the weight's column block the result's, 8 further. -/
theorem points3 : ∀ t : Fin cfg3.N, (win3_0.index t 0 = win3_2.index t 0 ∧ win3_0.index t 1 = 0)
    ∧ (win3_1.index t 0 = 0 ∧ win3_1.index t 1 = 0 ∧ win3_1.index t 2 = 8 + win3_2.index t 1) :=
  (by decide +kernel : ∀ t : Fin grid3.N, _)

/-- Call 3's result after the run: the values. -/
theorem final3 (c : Dev nD) : (dat3 V c).arrAt 2 cfg3.N
    = fun i : S8192x2048.Idx => dotAt (V c main_arg0) (V c main_v1) (i 0) (colFrom (8 * 1024) (by decide) (i 1 : Fin 2048)) := by
  refine (dat3 V c).arrAt_eq_of_covers 2 _ (by decide +kernel) fun t _ (y : S1024x1024.Idx) => ?_
  show (dat3 V c).after 2 t y = dotAt _ _ _ _
  rw [after3_2]
  refine (congrFun (tile (iblk3 V c 0 t) (iblk3 V c 1 t)) y).trans ?_
  exact tile_of_blocks _ rfl _ (V c main_arg0) (V c main_v1) ((cfg3.win 0).blk t).view.emb ((cfg3.win 1).blk t).view.emb ((cfg3.win 2).blk t).view.emb
    (win3_0.index t) (win3_2.index t) (win3_1.index t) (fun _ a => by fin_cases a <;> rfl) (fun _ a => by fin_cases a <;> rfl) (fun _ a => by fin_cases a <;> rfl) 8 (by decide)
    (points3 t).1 (points3 t).2 y

variable (m : (ℓ : Loc nD τ sig) → Buf (Elt Ideal) ℓ) (ρ : Dev nD → PrngReg)

/-- The weight as the calls read it: the argument rounded to bf16, as one layer of one. -/
theorem weight (c : Dev nD) : W1 m ρ c (Proc.devRef .tc main_v1)
    = broadcastInDim S1x4096x10240 ![1, 2] bcast_S4096x10240_S1x4096x10240_1_2 (truncf (F := Ideal) .bf16 (m ((c : Thread nD τ).loc main_arg1)) bitsLt_bf16_f32) := by
  unfold_abbrev_sides
  after_results

/-- One result of the program: the product's columns from `o` on. -/
def columns {n : ℕ} (o : ℕ) (ho : o + n ≤ 10240) (c : Dev nD) (i : (⟨2, ![8192, n]⟩ : Shape).Idx) : EReal :=
  prodAt (m ((c : Thread nD τ).loc main_arg0)) (m ((c : Thread nD τ).loc main_arg1)) (i 0) (colFrom o ho (i 1 : Fin n))

/-- What a call writes, once its two arrays are the launch's rows and the converted weight. -/
theorem columns_eq {n : ℕ} (o : ℕ) (ho : o + n ≤ 10240) (c : Dev nD) (h : Vec Ideal S8192x4096 .bf16) (w : Vec Ideal S1x4096x10240 .bf16)
    (eh : h = m ((c : Thread nD τ).loc main_arg0)) (ew : w = W1 m ρ c (Proc.devRef .tc main_v1)) :
    (fun i : (⟨2, ![8192, n]⟩ : Shape).Idx => dotAt h w (i 0) (colFrom o ho (i 1 : Fin n))) = columns m o ho c := by
  funext i
  rw [eh, ew, weight]
  exact dotAt_cast _ _ _ _ _ _ (by decide) (by decide)

theorem keep2 (c : Dev nD) : W2 m ρ c (Proc.devRef .tc main_v1) = W1 m ρ c (Proc.devRef .tc main_v1) := W2_of m ρ c main_v1 (by decide +kernel)
theorem keep3 (c : Dev nD) : W3 m ρ c (Proc.devRef .tc main_v1) = W1 m ρ c (Proc.devRef .tc main_v1) := (W3_of m ρ c main_v1 (by decide +kernel)).trans (keep2 m ρ c)
theorem keep4 (c : Dev nD) : W4 m ρ c (Proc.devRef .tc main_v1) = W1 m ρ c (Proc.devRef .tc main_v1) := (W4_of m ρ c main_v1 (by decide +kernel)).trans (keep3 m ρ c)

theorem end2 (c : Dev nD) : W5 m ρ c (Proc.devRef .tc main_v2) = columns m (n := 4096) (0 * 1024) (by decide) c :=
  (W5_of m ρ c main_v2 (by decide +kernel)).trans ((W4_of m ρ c main_v2 (by decide +kernel)).trans ((W3_of m ρ c main_v2 (by decide +kernel)).trans
    ((W2_arr m ρ c 2).trans ((final0 (V1 m ρ) c).trans (columns_eq m ρ _ _ c _ _ (W1_args m ρ c main_arg0 (by decide)) rfl)))))
theorem end3 (c : Dev nD) : W5 m ρ c (Proc.devRef .tc main_v3) = columns m (n := 2048) (4 * 1024) (by decide) c :=
  (W5_of m ρ c main_v3 (by decide +kernel)).trans ((W4_of m ρ c main_v3 (by decide +kernel)).trans
    ((W3_arr m ρ c 2).trans ((final1 (V2 m ρ) c).trans (columns_eq m ρ _ _ c _ _ (W2_args m ρ c main_arg0 (by decide)) (keep2 m ρ c)))))
theorem end4 (c : Dev nD) : W5 m ρ c (Proc.devRef .tc main_v4) = columns m (n := 2048) (6 * 1024) (by decide) c :=
  (W5_of m ρ c main_v4 (by decide +kernel)).trans
    ((W4_arr m ρ c 2).trans ((final2 (V3 m ρ) c).trans (columns_eq m ρ _ _ c _ _ (W3_args m ρ c main_arg0 (by decide)) (keep3 m ρ c))))
theorem end5 (c : Dev nD) : W5 m ρ c (Proc.devRef .tc main_v5) = columns m (n := 2048) (8 * 1024) (by decide) c :=
  (W5_arr m ρ c 2).trans ((final3 (V4 m ρ) c).trans (columns_eq m ρ _ _ c _ _ (W4_args m ρ c main_arg0 (by decide)) (keep4 m ρ c)))

end Kernel

/-- The two programs compute the same function: from equal arguments each of the four results is the same columns of one product. -/
theorem algebraic (hK : Cert.Kernel4Ideal.Facts) (hR : Cert.Reference4Ideal.Facts) :
    Cert.algebraic_Kernel4Ideal_Reference4Ideal (hKernel4Ideal := hK) (hReference4Ideal := hR) := by
  intro m g m' g' _ hm
  refine ⟨fun c => columns m (n := 4096) (0 * 1024) (by decide) c, fun c => columns m (n := 2048) (4 * 1024) (by decide) c,
    fun c => columns m (n := 2048) (6 * 1024) (by decide) c, fun c => columns m (n := 2048) (8 * 1024) (by decide) c,
    (θ_run _ _ _).mono (fun r h c => ⟨?_, ?_, ?_, ?_, ?_, ?_⟩) (run m g),
    (θ_run _ _ _).mono (fun r h c => ⟨(h c).1.trans ?_, (h c).2.1.trans ?_, (h c).2.2.1.trans ?_, (h c).2.2.2.1.trans ?_, (h c).2.2.2.2⟩) (Cert.Reference4Ideal.Value.run m' g')⟩
  · exact (h c _ (Cert.Kernel4Ideal.Gen.mem_uc _ (by decide))).trans (end2 m g c)
  · exact (h c _ (Cert.Kernel4Ideal.Gen.mem_uc _ (by decide))).trans (end3 m g c)
  · exact (h c _ (Cert.Kernel4Ideal.Gen.mem_uc _ (by decide))).trans (end4 m g c)
  · exact (h c _ (Cert.Kernel4Ideal.Gen.mem_uc _ (by decide))).trans (end5 m g c)
  · exact (h c _ (Cert.Kernel4Ideal.Gen.mem_uc _ (by decide))).trans (Cert.Kernel4Ideal.Gen.W5_main_arg0 m g c)
  · exact (h c _ (Cert.Kernel4Ideal.Gen.mem_uc _ (by decide))).trans (Cert.Kernel4Ideal.Gen.W5_main_arg1 m g c)
  all_goals
    rw [(hm c).1, (hm c).2]
    funext i
    rw [eq_ix2 i]
  · exact cut_apply _ rfl _ _ _ _ Cert.Reference4Ideal.Gen.slices_S8192x10240_S8192x4096_0_0 (i 0) (i 1) _ rfl
  · exact cut_apply _ rfl _ _ _ _ Cert.Reference4Ideal.Gen.slices_S8192x10240_S8192x2048_0_4096 (i 0) (i 1) _ rfl
  · exact cut_apply _ rfl _ _ _ _ Cert.Reference4Ideal.Gen.slices_S8192x10240_S8192x2048_0_6144 (i 0) (i 1) _ rfl
  · exact cut_apply _ rfl _ _ _ _ Cert.Reference4Ideal.Gen.slices_S8192x10240_S8192x2048_0_8192 (i 0) (i 1) _ rfl

end Cert.Proof.Even

end
-- ==== Proof.Proj.Norm.lean ====
/-
  The normalisation the odd layer's queries and keys go through: each run of 128 columns of a row divided by the root of its
  mean square, times a column's scale. The kernel does it on eight slices of a tile, the reference on the row cut into heads; both for any number
  of rows, which is the prompt's or the sample batch's.
-/
module

public import proofs.«01_k».proof.Proof.Proj.Tile
public import Idealize.ShloMosaic.Lib.IdealHost
public import Idealize.ShloMosaic.Lib.Pipeline.ValueKit.Tiles

@[expose] public section

noncomputable section

open Idealize.ShloMosaic Idealize.ShloMosaic.ValueIdx Idealize.ShloMosaic.StackMember
open scoped BigOperators

namespace Cert.Proof.Proj

/-- One over the root of the mean square of 128 values, with the launch's epsilon under the root. -/
def invRms (f : Fin 128 → EReal) : EReal :=
  Ideal.rsqrt (Ideal.div (∑ u : Fin 128, f u * f u) (FloatOps.ofBits (F := Ideal) .f32 0x43000000#32 : EReal)
    + (FloatOps.ofBits (F := Ideal) .f32 0x358637BD#32 : EReal))

/-- The columns of the run of 128 that column `j` lies in. -/
def runOf (j : Fin 2048) (u : Fin 128) : Fin 2048 := ⟨128 * (j.val / 128) + u.val, by omega⟩

/-- A row `f` normalised by runs of 128 and scaled, at column `j`. -/
def normAt (f s : Fin 2048 → EReal) (j : Fin 2048) : EReal := f j * invRms (fun u => f (runOf j u)) * s j

/-! ## The kernel's eight slices -/

section Kernel

variable {R : ℕ}

/-- `R` rows of `n` columns. -/
abbrev Rows (R n : ℕ) : Shape := ⟨2, ![R, n]⟩

/-- The facts on shapes a slice's normalisation states, with more than one row. -/
structure SliceFacts (R : ℕ) : Prop where
  many : R ≠ 1
  reduces : (Rows R 128).Reduces [1] ⟨1, ![R]⟩
  column : (⟨1, ![R]⟩ : Shape).ShapeCasts (Rows R 1)
  spread : (Rows R 1).Broadcasts (Rows R 128)
  scale : (Rows 1 128).ShapeCasts (Rows 1 128)
  scales : (Rows 1 128).Broadcasts (Rows R 128)

theorem cols_ok (g : Fin 8) : ∀ a, (![0, 128 * g.val] : Fin 2 → Nat) a + (Rows R 128).size a ≤ (Rows R 1024).size a := fun a => by
  fin_cases a
  · show 0 + R ≤ R
    omega
  · show 128 * g.val + 128 ≤ 1024
    omega
theorem slice_ok (g : Fin 8) : (Rows R 1024).Slices ![0, 128 * g.val] (Rows R 128) := ⟨rfl, cols_ok g⟩
theorem scale_ok (g : Fin 8) : ∀ a, (![0, 128 * g.val] : Fin 2 → Nat) a + (Rows 1 128).size a ≤ (Rows 1 1024).size a := by revert g; decide

/-- The columns of slice `g`. -/
abbrev colsRect (g : Fin 8) : Rect (Rows R 1024) := Rect.unit (s := (Rows R 1024)) ![0, 128 * g.val] (Rows R 128).size (cols_ok g)

/-- Slice `g` of a tile normalised and scaled, as the kernel computes it. -/
def normed (hf : SliceFacts R) (P : FVec Ideal (Rows R 1024) .f32) (s : Vec Ideal (Rows 1 1024) .f32) (g : Fin 8) : FVec Ideal (Rows R 128) .f32 :=
  let x : FVec Ideal (Rows R 128) .f32 := extractStridedSlice (Rows R 128) ![0, 128 * g.val] P (slice_ok g)
  let q : FVec Ideal (Rows R 1) .f32 := rsqrt (addf (divf (shapeCast (Rows R 1) (multiReduction .add [1] (⟨1, ![R]⟩ : Shape) (mulf x x) 0x00000000#32 hf.reduces (.inl rfl) rfl)
    hf.column) (broadcast (Rows R 1) (Scalar.ofBits .f32 0x43000000#32))) (broadcast (Rows R 1) (Scalar.ofBits .f32 0x358637BD#32)))
  mulf (mulf x (broadcastTo (Rows R 128) q hf.spread))
    (broadcastTo (Rows R 128) (shapeCast (Rows 1 128) (View.ld s (Rect.unit (s := (Rows 1 1024)) ![0, 128 * g.val] (Rows 1 128).size (scale_ok g)) : Vec Ideal (Rows 1 128) .f32) hf.scale) hf.scales)

/-- Column `d` of slice `g`. -/
def gcol (g : Fin 8) (d : Fin 128) : Fin 1024 := ⟨128 * g.val + d.val, by omega⟩

theorem slice_apply (P : FVec Ideal (Rows R 1024) .f32) (g : Fin 8) (r : Fin R) (d : Fin 128) :
    extractStridedSlice (Rows R 128) ![0, 128 * g.val] P (slice_ok g) (ix2 r d) = P (ix2 r (gcol g d)) :=
  extractStridedSlice_apply _ _ _ (ix2 r d) (ix2 r (gcol g d)) fun a => by
    fin_cases a
    · show r.val = 0 + r.val
      omega
    · rfl

/-- A slice's sum of squares along a row. -/
theorem squares_apply (hf : SliceFacts R) (x : FVec Ideal (Rows R 128) .f32) (r : Fin R) :
    (multiReduction .add [1] (⟨1, ![R]⟩ : Shape) (mulf x x) 0x00000000#32 hf.reduces (.inl rfl) rfl (ix1 r) : EReal)
      = ∑ u : Fin 128, (x (ix2 r u) : EReal) * x (ix2 r u) := by
  refine (Ideal.multiReduction_add_single (a := 1) (mulf x x) _ hf.reduces (.inl rfl) rfl (ix1 r)).trans ?_
  refine Finset.sum_congr rfl fun u _ => ?_
  have e : hf.reduces.lift (ix1 r) u = ix2 r u := by
    funext a; apply Fin.ext; fin_cases a <;> rfl
  exact congrArg (fun i => (x i : EReal) * x i) e

/-- The normalised slice at a row and a column of it. -/
theorem normed_apply (hf : SliceFacts R) (P : FVec Ideal (Rows R 1024) .f32) (s : Vec Ideal (Rows 1 1024) .f32) (g : Fin 8) (r : Fin R) (d : Fin 128) :
    (normed hf P s g (ix2 r d) : EReal)
      = P (ix2 r (gcol g d)) * invRms (fun u => P (ix2 r (gcol g u))) * s (ix2 0 (gcol g d)) := by
  refine congrArg₂ (fun a b : EReal => a * b) (congrArg₂ (fun a b : EReal => a * b) (slice_apply P g r d) ?_) ?_
  · refine (broadcastTo_apply _ _ (ix2 r d) (ix2 r 0) fun a => by
      fin_cases a
      · exact (if_neg hf.many).symm
      · rfl).trans ?_
    refine congrArg (fun z : EReal => Ideal.rsqrt (Ideal.div z (FloatOps.ofBits (F := Ideal) .f32 0x43000000#32 : EReal)
      + (FloatOps.ofBits (F := Ideal) .f32 0x358637BD#32 : EReal))) ?_
    refine (shapeCast_apply _ _ (ix2 r 0) (ix1 r) ?_).trans ((squares_apply hf _ r).trans ?_)
    · rw [Shape.rowMajor_val_two]; rfl
    · exact Finset.sum_congr rfl fun u _ => congrArg (fun z : EReal => z * z) (slice_apply P g r u)
  · refine (broadcastTo_apply _ _ (ix2 r d) (ix2 0 d) fun a => by fin_cases a <;> rfl).trans ?_
    refine (shapeCast_apply _ _ (ix2 0 d) (ix2 0 d) rfl).trans ?_
    exact View.ld_unit_apply_of s _ _ _ (ix2 0 d) (ix2 0 (gcol g d)) fun a => by
      fin_cases a <;> rfl

/-- The normalised slice in terms of the rows and scales of the whole arrays, when the tile holds columns `1024 b` to `1024 b + 1023`. -/
theorem normed_eq (hf : SliceFacts R) (P : FVec Ideal (Rows R 1024) .f32) (s : Vec Ideal (Rows 1 1024) .f32) (f t : Fin 2048 → EReal) (b : ℕ) (r : Fin R)
    (hP : ∀ (c : Fin 1024) (j : Fin 2048), j.val = b * 1024 + c.val → (P (ix2 r c) : EReal) = f j)
    (hs : ∀ (c : Fin 1024) (j : Fin 2048), j.val = b * 1024 + c.val → (s (ix2 0 c) : EReal) = t j)
    (g : Fin 8) (d : Fin 128) (j : Fin 2048) (hj : j.val = b * 1024 + (gcol g d).val) : (normed hf P s g (ix2 r d) : EReal) = normAt f t j := by
  refine (normed_apply hf P s g r d).trans ?_
  refine congrArg₂ (fun a b : EReal => a * b) (congrArg₂ (fun a b : EReal => a * b) (hP _ _ hj) (congrArg invRms (funext fun u => hP _ _ ?_))) (hs _ _ hj)
  show 128 * (j.val / 128) + u.val = b * 1024 + (128 * g.val + u.val)
  have : j.val = b * 1024 + (128 * g.val + d.val) := hj
  omega

/-- The eight slices as a tile's stores, the last first. -/
abbrev pieces {e : EltTy} (p : Fin 8 → Vec Ideal (Rows R 128) e) : List (View.Piece (Elt Ideal) (Rows R 1024) e) :=
  [⟨colsRect 7, p 7⟩, ⟨colsRect 6, p 6⟩, ⟨colsRect 5, p 5⟩, ⟨colsRect 4, p 4⟩, ⟨colsRect 3, p 3⟩, ⟨colsRect 2, p 2⟩, ⟨colsRect 1, p 1⟩, ⟨colsRect 0, p 0⟩]

/-- Eight slices stored into a tile leave what each of them holds, index by index. -/
theorem slices_canon {e : EltTy} (p : Fin 8 → Vec Ideal (Rows R 128) e) (v : Vec Ideal (Rows R 1024) e)
    (h : ∀ g r d, p g (ix2 r d) = v (ix2 r (gcol g d)))
    (hcov : ∀ y : (Rows R 1024).Idx, ∃ q ∈ pieces p, y ∈ q.1.set) :
    View.canon (Val := Elt Ideal) (pieces p)
      = v := by
  have tile : ∀ (y : (Rows R 1024).Idx) (g : Fin 8), View.TileAt y ![0, 128 * g.val] (Rows R 128).size (p g) (v y) := fun y g x hx => by
    have e : y = ix2 (x 0) (gcol g (x 1)) := by
      funext a; apply Fin.ext
      fin_cases a
      · exact (hx 0).trans (Nat.zero_add _)
      · exact hx 1
    rw [e, eq_ix2 x]
    exact h g (x 0) (x 1)
  funext y
  apply View.canon_eq_of_allAt
  · exact hcov y
  exact View.allAt_cons_unit _ _ _ _ _ (tile y 7) <| View.allAt_cons_unit _ _ _ _ _ (tile y 6) <| View.allAt_cons_unit _ _ _ _ _ (tile y 5) <|
    View.allAt_cons_unit _ _ _ _ _ (tile y 4) <| View.allAt_cons_unit _ _ _ _ _ (tile y 3) <| View.allAt_cons_unit _ _ _ _ _ (tile y 2) <|
    View.allAt_cons_unit _ _ _ _ _ (tile y 1) <| View.allAt_cons_unit _ _ _ _ _ (tile y 0) <| View.allAt_nil y _

/-- A tile of the kernel normalised, in terms of the arrays it was cut from: `e0`, `e1`, `es`, `e2` place an element of the rows' block,
    the weight's column block, the scales' block and the result's block in its array. -/
theorem normed_of_blocks {M : ℕ} (hf : SliceFacts R) (D : DotDims (Rows R 4096) (Rows 4096 1024) (Rows R 1024)) (hD : D = DotDims.plain R 4096 1024)
    (hc : (⟨3, ![1, 4096, 1024]⟩ : Shape).ShapeCasts (Rows 4096 1024)) (h : FVec Ideal (Rows M 4096) .bf16) (w : FVec Ideal (⟨3, ![1, 4096, 10240]⟩ : Shape) .bf16) (s : Vec Ideal (Rows 1 2048) .f32)
    (e0 : (Rows R 4096).Idx → (Rows M 4096).Idx) (e1 : (⟨3, ![1, 4096, 1024]⟩ : Shape).Idx → (⟨3, ![1, 4096, 10240]⟩ : Shape).Idx) (es : (Rows 1 1024).Idx → (Rows 1 2048).Idx) (e2 : (Rows R 1024).Idx → (Rows M 2048).Idx)
    (i0 is i2 : Fin 2 → ℕ) (i1 : Fin 3 → ℕ)
    (h0 : ∀ y a, (e0 y a).val = i0 a * (![R, 4096] : Fin 2 → ℕ) a + 1 * (y a).val) (h1 : ∀ y a, (e1 y a).val = i1 a * (![1, 4096, 1024] : Fin 3 → ℕ) a + 1 * (y a).val)
    (hs : ∀ y a, (es y a).val = is a * (![1, 1024] : Fin 2 → ℕ) a + 1 * (y a).val)
    (h2 : ∀ y a, (e2 y a).val = i2 a * (![R, 1024] : Fin 2 → ℕ) a + 1 * (y a).val) (o : ℕ) (ho : o * 1024 + 2048 ≤ 10240)
    (p0 : i0 0 = i2 0 ∧ i0 1 = 0) (p1 : i1 0 = 0 ∧ i1 1 = 0 ∧ i1 2 = o + i2 1) (ps : is 0 = 0 ∧ is 1 = i2 1)
    (g : Fin 8) (r : Fin R) (d : Fin 128) :
    (normed hf (matmul (F := Ideal) (φ₁ := .bf16) (φ₂ := .bf16) D none (fun z => h (e0 z))
        (shapeCast (Rows 4096 1024) (fun z => w (e1 z)) hc) (constant (F := Ideal) (Rows R 1024) .f32 0x00000000#32))
        (fun z => s (es z)) g (ix2 r d) : EReal)
      = normAt (fun j => dotAt h w (e2 (ix2 r (gcol g d)) 0) (colFrom (o * 1024) ho j)) (fun j => s (ix2 0 j)) (e2 (ix2 r (gcol g d)) 1) := by
  have hrow : ∀ c, (e2 (ix2 r c) 0).val = i2 0 * R + 1 * r.val := fun c => h2 (ix2 r c) 0
  have hcol : ∀ c, (e2 (ix2 r c) 1).val = i2 1 * 1024 + 1 * c.val := fun c => h2 (ix2 r c) 1
  refine normed_eq hf _ _ _ (fun j => s (ix2 0 j)) (i2 1) r (fun c j hj => ?_) (fun c j hj => congrArg s ?_) g d _ ((hcol _).trans (by omega))
  · refine (tile_of_blocks D hD hc h w e0 e1 e2 i0 i2 i1 h0 h1 h2 o ho p0 p1 (ix2 r c)).trans ?_
    refine congrArg₂ (dotAt h w) (Fin.ext ((hrow c).trans (hrow _).symm)) (congrArg (colFrom (o * 1024) ho) (Fin.ext ((hcol c).trans ?_)))
    rw [hj]; omega
  · funext a; apply Fin.ext; refine (hs _ a).trans ?_
    fin_cases a
    · show is 0 * 1 + 1 * 0 = 0
      rw [ps.1]
    · show is 1 * 1024 + 1 * c.val = j.val
      rw [ps.2, hj]; omega

end Kernel

/-! ## The reference's heads -/

section Reference

variable {R : ℕ}

/-- `R` rows of 8 by 2 heads of `n` columns. -/
abbrev Heads (R n : ℕ) : Shape := ⟨4, ![R, 8, 2, n]⟩

/-- The facts on shapes the reference's normalisation states, with more than one row. -/
structure HeadFacts (R : ℕ) : Prop where
  many : R ≠ 1
  split : (Rows R 2048).ShapeCasts (Heads R 128)
  sum : (Heads R 128).ReducesTo [3] ⟨3, ![R, 8, 2]⟩
  sum' : (Heads R 128).Reduces [3] ⟨3, ![R, 8, 2]⟩
  one : 0 < (⟨0, ![]⟩ : Shape).numel
  keep : (⟨3, ![R, 8, 2]⟩ : Shape).BroadcastsInDim (Heads R 1) (![0, 1, 2] : Fin 3 → Fin 4)
  fill : (⟨0, ![]⟩ : Shape).BroadcastsInDim (Heads R 1) (![] : Fin 0 → Fin 4)
  spread : (Heads R 1).BroadcastsInDim (Heads R 128) (![0, 1, 2, 3] : Fin 4 → Fin 4)
  scale : (⟨1, ![128]⟩ : Shape).BroadcastsInDim (⟨4, ![1, 1, 1, 128]⟩ : Shape) (![3] : Fin 1 → Fin 4)
  scales : (⟨4, ![1, 1, 1, 128]⟩ : Shape).BroadcastsInDim (Heads R 128) (![0, 1, 2, 3] : Fin 4 → Fin 4)
  join : (Heads R 128).ShapeCasts (Rows R 2048)

/-- The reference's normalisation of 2048 columns as 8 by 2 heads of 128. -/
def heads (hf : HeadFacts R) (x : FVec Ideal (Rows R 2048) .f32) (s : FVec Ideal (⟨1, ![128]⟩ : Shape) .f32) : FVec Ideal (Rows R 2048) .f32 :=
  let z : FVec Ideal (Heads R 128) .f32 := shapeCast (Heads R 128) x hf.split
  shapeCast (Rows R 2048) (mulf (mulf z (broadcastInDim (Heads R 128) ![0, 1, 2, 3] hf.spread
      (Host.rsqrt (addf (Host.divf (broadcastInDim (Heads R 1) ![0, 1, 2] hf.keep
          (Host.reduceAdd (mulf z z) (constant (⟨0, ![]⟩ : Shape) .f32 0x00000000#32) hf.sum hf.one))
        (broadcastInDim (Heads R 1) ![] hf.fill (constant (⟨0, ![]⟩ : Shape) .f32 0x43000000#32)))
        (broadcastInDim (Heads R 1) ![] hf.fill (constant (⟨0, ![]⟩ : Shape) .f32 0x358637BD#32))))))
    (broadcastInDim (Heads R 128) ![0, 1, 2, 3] hf.scales (broadcastInDim (⟨4, ![1, 1, 1, 128]⟩ : Shape) ![3] hf.scale s)))
    hf.join

/-- A row's column `j` as group, head of the group and column of the head. -/
def headIdx (r : Fin R) (j : Fin 2048) : (Heads R 128).Idx := ix4 r ⟨j.val / 256, by omega⟩ ⟨j.val / 128 % 2, by omega⟩ ⟨j.val % 128, by omega⟩

theorem headIdx_flat (r : Fin R) (j : Fin 2048) : ((Heads R 128).rowMajor (headIdx r j)).val = ((Rows R 2048).rowMajor (ix2 r j)).val := by
  rw [Shape.rowMajor_val_two, Shape.rowMajor_val_four]
  show ((r.val * 8 + j.val / 256) * 2 + j.val / 128 % 2) * 128 + j.val % 128 = r.val * 2048 + j.val
  omega

theorem split_apply (hf : HeadFacts R) (x : FVec Ideal (Rows R 2048) .f32) (r : Fin R) (j : Fin 2048) :
    shapeCast (Heads R 128) x hf.split (headIdx r j) = x (ix2 r j) :=
  shapeCast_apply _ _ (headIdx r j) (ix2 r j) (headIdx_flat r j).symm

theorem split_run (hf : HeadFacts R) (x : FVec Ideal (Rows R 2048) .f32) (r : Fin R) (j : Fin 2048) (u : Fin 128) :
    shapeCast (Heads R 128) x hf.split (ix4 r (headIdx r j 1) (headIdx r j 2) u) = x (ix2 r (runOf j u)) := by
  have e : (ix4 r (headIdx r j 1) (headIdx r j 2) u : (Heads R 128).Idx) = headIdx r (runOf j u) := by
    funext a; apply Fin.ext
    fin_cases a
    · rfl
    · show j.val / 256 = (128 * (j.val / 128) + u.val) / 256
      omega
    · show j.val / 128 % 2 = (128 * (j.val / 128) + u.val) / 128 % 2
      omega
    · show u.val = (128 * (j.val / 128) + u.val) % 128
      omega
  rw [e]
  exact split_apply hf x r _

/-- A head's sum of squares. -/
theorem head_squares (hf : HeadFacts R) (z : FVec Ideal (Heads R 128) .f32) (r : Fin R) (a : Fin 8) (b : Fin 2) :
    (Host.reduceAdd (mulf z z) (constant (⟨0, ![]⟩ : Shape) .f32 0x00000000#32) hf.sum hf.one (ix3 r a b) : EReal)
      = ∑ u : Fin 128, (z (ix4 r a b u) : EReal) * z (ix4 r a b u) := by
  have hr := hf.sum'
  refine (hostReduceAdd_apply _ _ _ _ _).trans ((Ideal.hostReduceAdd_single (a := 3) _ hr _ _ _).trans ?_)
  refine (congrArg₂ (fun a b : EReal => a + b) Ideal.ofBits_zero_f32 (Finset.sum_congr rfl fun u _ => ?_)).trans (zero_add _)
  have e : hr.lift (ix3 r a b) u = ix4 r a b u := by
    funext k; apply Fin.ext; fin_cases k <;> rfl
  exact congrArg (fun i => (z i : EReal) * z i) e

/-- The reference's normalised row at a column. -/
theorem heads_apply (hf : HeadFacts R) (x : FVec Ideal (Rows R 2048) .f32) (s : FVec Ideal (⟨1, ![128]⟩ : Shape) .f32) (r : Fin R) (j : Fin 2048) :
    (heads hf x s (ix2 r j) : EReal) = normAt (fun k => x (ix2 r k)) (fun k => s (ix1 ⟨k.val % 128, by omega⟩)) j := by
  unfold heads
  refine (shapeCast_apply _ _ (ix2 r j) (headIdx r j) (headIdx_flat r j)).trans ?_
  refine congrArg₂ (fun a b : EReal => a * b) (congrArg₂ (fun a b : EReal => a * b) (split_apply hf x r j) ?_) ?_
  · refine (broadcastInDim_apply _ _ _ (headIdx r j) (ix4 r (headIdx r j 1) (headIdx r j 2) 0) fun a => by
      fin_cases a
      · exact (if_neg hf.many).symm
      all_goals rfl).trans ?_
    refine congrArg Ideal.rsqrt (congrArg₂ (fun a b : EReal => a + b) (congrArg₂ Ideal.div ?_ ?_) ?_)
    · refine (broadcastInDim_apply _ _ _ _ (ix3 r (headIdx r j 1) (headIdx r j 2)) fun a => by
        fin_cases a
        · exact (if_neg hf.many).symm
        all_goals rfl).trans ((head_squares hf _ r _ _).trans ?_)
      exact Finset.sum_congr rfl fun u _ => congrArg (fun z : EReal => z * z) (split_run hf x r j u)
    · exact broadcastInDim_scalar_apply _ _ _
    · exact broadcastInDim_scalar_apply _ _ _
  · refine (broadcastInDim_apply _ _ _ (headIdx r j) (ix4 0 0 0 (headIdx r j 3)) fun a => by fin_cases a <;> rfl).trans ?_
    exact broadcastInDim_apply _ _ _ _ (ix1 ⟨j.val % 128, by omega⟩) fun a => by fin_cases a; rfl

end Reference

end Cert.Proof.Proj

end
-- ==== Proof.Proj.OddRun.lean ====
/-
  The odd layer's projection program run to its end: every buffer that outlives the regions at the contents of the last boundary.
-/
module

public import proofs.«01_k».proof.Proof.Gen.Kernel5Ideal.Frame

@[expose] public section

noncomputable section

namespace Cert.Proof.Odd

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the four regions, the last boundary's contents read against the final state. -/
theorem run : θ_run defs (onTc (τ := τ) (main (F := F))) ⟨m, fun _ => 0, ρ⟩ (fun r =>
      ∀ c : Dev nD, ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)

end Cert.Proof.Odd

end
-- ==== Proof.Proj.Odd.lean ====
/-
  The odd layer's input projection, on the extended reals: the four calls' tiles (queries and keys normalised by heads,
  values, and the gated unit) and the reference's whole product, cut into its columns, are the same, index by index.
-/
module

public import proofs.«01_k».proof.Defs
public import proofs.«01_k».proof.Proof.Proj.Norm
public import proofs.«01_k».proof.Proof.Proj.OddRun
public import proofs.«01_k».proof.Proof.Gen.Reference5Ideal.Run
public import Idealize.ShloMosaic.Lib.Pipeline.ValueKit.Geometry
public import Idealize.ShloMosaic.Lib.StableHlo.Run
public import Idealize.ShloMosaic.Lib.Claim

@[expose] public section

noncomputable section

open Idealize.ShloMosaic Idealize.ShloMosaic.TcCoe Idealize.ShloMosaic.ValueIdx Idealize.ShloMosaic.StackMember Idealize.SL.Sem
open Idealize.ShloMosaic.Pipeline (Dat)
open Cert.Proof.Proj
open scoped BigOperators

namespace Cert.Proof.Odd

/-- The gated unit of one value: half of it times one plus the hyperbolic tangent of a cubic, constants as the layer's words. -/
def unitAt (z : EReal) : EReal :=
  FloatOps.mulf (F := Ideal) (φ := .f32) z (FloatOps.mulf (F := Ideal) (φ := .f32) (FloatOps.ofBits (F := Ideal) .f32 0x3F000000#32)
    (FloatOps.addf (F := Ideal) (φ := .f32) (FloatOps.ofBits (F := Ideal) .f32 0x3F800000#32)
      (FloatOps.tanh (F := Ideal) (φ := .f32) (FloatOps.mulf (F := Ideal) (φ := .f32) (FloatOps.ofBits (F := Ideal) .f32 0x3F4C422A#32)
        (FloatOps.addf (F := Ideal) (φ := .f32) z (FloatOps.mulf (F := Ideal) (φ := .f32) (FloatOps.ofBits (F := Ideal) .f32 0x3D372713#32)
          (FloatOps.mulf (F := Ideal) (φ := .f32) (FloatOps.mulf (F := Ideal) (φ := .f32) z z) z)))))))

section Kernel

open Cert.Kernel5Ideal Cert.Kernel5Ideal.Gen

/-- The product of a rows' block by a weight's column block. -/
abbrev prod (x : Vec Ideal S1024x4096 .bf16) (b : Vec Ideal S1x4096x1024 .bf16) : FVec Ideal S1024x1024 .f32 :=
  matmul (F := Ideal) (φ₁ := .bf16) (φ₂ := .bf16) dot_S1024x4096_S4096x1024_S1024x1024_1_0_0_1_n_n none x (shapeCast S4096x1024 b shapeCasts_S1x4096x1024_S4096x1024)
    (constant (F := Ideal) S1024x1024 .f32 0x00000000#32)

theorem slice_facts : SliceFacts 1024 :=
  ⟨by decide, reduces_S1024x128_S1024, shapeCasts_S1024_S1024x1, broadcasts_S1024x1_S1024x128, shapeCasts_S1x128_S1x128, broadcasts_S1x128_S1024x128⟩

/-- A tile of the queries' call: eight normalised slices, rounded to bf16. -/
theorem tile0 (x : Vec Ideal S1024x4096 .bf16) (b : Vec Ideal S1x4096x1024 .bf16) (s : Vec Ideal S1x1024 .f32) (v : Vec Ideal S1024x1024 .bf16)
    (h : ∀ g r d, (normed slice_facts (prod x b) s g (ix2 r d) : EReal) = v (ix2 r (gcol g d))) : out0_3 x b s = v := by
  have e0 : View.ld x r0_1 = x := View.ld_unit_zero (S := S1024x4096) zeros2 _ x
  have e1 : View.ld b r0_0 = b := View.ld_unit_zero (S := S1x4096x1024) zeros3 _ b
  unfold_out out0_3
  rw [e0, e1]
  exact slices_canon (e := .bf16) (fun g => truncf (F := Ideal) .bf16 (normed slice_facts (prod x b) s g) bitsLt_bf16_f32) v h
    (View.cover_of_tiled (s := S1024x1024) _ S1024x128.size (by rfl))

/-- A tile of the keys' call: eight normalised slices. -/
theorem tile1 (x : Vec Ideal S1024x4096 .bf16) (b : Vec Ideal S1x4096x1024 .bf16) (s : Vec Ideal S1x1024 .f32) (v : Vec Ideal S1024x1024 .f32)
    (h : ∀ g r d, (normed slice_facts (prod x b) s g (ix2 r d) : EReal) = v (ix2 r (gcol g d))) : out1_3 x b s = v := by
  have e0 : View.ld x r1_1 = x := View.ld_unit_zero (S := S1024x4096) zeros2 _ x
  have e1 : View.ld b r1_0 = b := View.ld_unit_zero (S := S1x4096x1024) zeros3 _ b
  unfold_out out1_3
  rw [e0, e1]
  exact slices_canon (e := .f32) (fun g => normed slice_facts (prod x b) s g) v h (View.cover_of_tiled (s := S1024x1024) _ S1024x128.size (by rfl))

/-- A tile of the values' call: the product. -/
theorem tile2 (x : Vec Ideal S1024x4096 .bf16) (b : Vec Ideal S1x4096x1024 .bf16) : out2_2 x b = prod x b := by
  unfold out2_2
  rw [View.canon_unit_zero zeros2, View.ld_unit_zero zeros3, View.ld_unit_zero zeros2]
  rfl

/-- A tile of the fourth call: the gated unit of the product, element by element. -/
theorem tile3 (x : Vec Ideal S1024x4096 .bf16) (b : Vec Ideal S1x4096x1024 .bf16) : out3_2 x b = fun y => unitAt (prod x b y) := by
  unfold out3_2
  rw [View.canon_unit_zero zeros2, View.ld_unit_zero zeros3, View.ld_unit_zero zeros2]
  rfl

variable (V : (c : Dev nD) → (b : Ref sig .tc) → Buf (Elt Ideal) ((c : Thread nD τ).loc b))

/-- Call 0's blocks at every point: rows, columns and scales of the result's block. -/
theorem points0 : ∀ t : Fin cfg0.N, (win0_0.index t 0 = win0_3.index t 0 ∧ win0_0.index t 1 = 0)
    ∧ (win0_1.index t 0 = 0 ∧ win0_1.index t 1 = 0 ∧ win0_1.index t 2 = 0 + win0_3.index t 1) ∧ (win0_2.index t 0 = 0 ∧ win0_2.index t 1 = win0_3.index t 1) :=
  (by decide +kernel : ∀ t : Fin grid0.N, _)

/-- Call 0's result after the run: the queries, normalised by heads. -/
theorem final0 (c : Dev nD) : (dat0 V c).arrAt 3 cfg0.N
    = fun i : S8192x2048.Idx => normAt (fun j => dotAt (V c main_arg0) (V c main_v1) (i 0) (colFrom (0 * 1024) (by decide) j)) (fun j => V c main_v8 (ix2 0 j)) (i 1) := by
  refine (dat0 V c).arrAt_eq_of_covers 3 _ (by decide +kernel) fun t _ (y : S1024x1024.Idx) => ?_
  show (dat0 V c).after 3 t y = normAt _ _ _
  rw [after0_3]
  refine congrFun (tile0 (iblk0 V c 0 t) (iblk0 V c 1 t) (iblk0 V c 2 t)
    (fun y => normAt (fun j => dotAt (V c main_arg0) (V c main_v1) (((cfg0.win 3).blk t).view.emb y 0) (colFrom (0 * 1024) (by decide) j))
      (fun j => V c main_v8 (ix2 0 j)) (((cfg0.win 3).blk t).view.emb y 1)) fun g r d => ?_) y
  exact normed_of_blocks slice_facts _ rfl _ (V c main_arg0) (V c main_v1) (V c main_v8) ((cfg0.win 0).blk t).view.emb ((cfg0.win 1).blk t).view.emb ((cfg0.win 2).blk t).view.emb
    ((cfg0.win 3).blk t).view.emb (win0_0.index t) (win0_2.index t) (win0_3.index t) (win0_1.index t) (fun _ a => by fin_cases a <;> rfl) (fun _ a => by fin_cases a <;> rfl)
    (fun _ a => by fin_cases a <;> rfl) (fun _ a => by fin_cases a <;> rfl) 0 (by decide) (points0 t).1 (points0 t).2.1 (points0 t).2.2 g r d

/-- Call 1's blocks at every point: rows, columns (2 blocks further in the weight) and scales of the result's block. -/
theorem points1 : ∀ t : Fin cfg1.N, (win1_0.index t 0 = win1_3.index t 0 ∧ win1_0.index t 1 = 0)
    ∧ (win1_1.index t 0 = 0 ∧ win1_1.index t 1 = 0 ∧ win1_1.index t 2 = 2 + win1_3.index t 1) ∧ (win1_2.index t 0 = 0 ∧ win1_2.index t 1 = win1_3.index t 1) :=
  (by decide +kernel : ∀ t : Fin grid1.N, _)

/-- Call 1's result after the run: the keys, normalised by heads. -/
theorem final1 (c : Dev nD) : (dat1 V c).arrAt 3 cfg1.N
    = fun i : S8192x2048.Idx => normAt (fun j => dotAt (V c main_arg0) (V c main_v1) (i 0) (colFrom (2 * 1024) (by decide) j)) (fun j => V c main_v10 (ix2 0 j)) (i 1) := by
  refine (dat1 V c).arrAt_eq_of_covers 3 _ (by decide +kernel) fun t _ (y : S1024x1024.Idx) => ?_
  show (dat1 V c).after 3 t y = normAt _ _ _
  rw [after1_3]
  refine congrFun (tile1 (iblk1 V c 0 t) (iblk1 V c 1 t) (iblk1 V c 2 t)
    (fun y => normAt (fun j => dotAt (V c main_arg0) (V c main_v1) (((cfg1.win 3).blk t).view.emb y 0) (colFrom (2 * 1024) (by decide) j))
      (fun j => V c main_v10 (ix2 0 j)) (((cfg1.win 3).blk t).view.emb y 1)) fun g r d => ?_) y
  exact normed_of_blocks slice_facts _ rfl _ (V c main_arg0) (V c main_v1) (V c main_v10) ((cfg1.win 0).blk t).view.emb ((cfg1.win 1).blk t).view.emb ((cfg1.win 2).blk t).view.emb
    ((cfg1.win 3).blk t).view.emb (win1_0.index t) (win1_2.index t) (win1_3.index t) (win1_1.index t) (fun _ a => by fin_cases a <;> rfl) (fun _ a => by fin_cases a <;> rfl)
    (fun _ a => by fin_cases a <;> rfl) (fun _ a => by fin_cases a <;> rfl) 2 (by decide) (points1 t).1 (points1 t).2.1 (points1 t).2.2 g r d

/-- Call 2's blocks at every point: rows and columns of the result's block, 4 blocks further in the weight. -/
theorem points2 : ∀ t : Fin cfg2.N, (win2_0.index t 0 = win2_2.index t 0 ∧ win2_0.index t 1 = 0)
    ∧ (win2_1.index t 0 = 0 ∧ win2_1.index t 1 = 0 ∧ win2_1.index t 2 = 4 + win2_2.index t 1) :=
  (by decide +kernel : ∀ t : Fin grid2.N, _)

/-- Call 2's result after the run: the values. -/
theorem final2 (c : Dev nD) : (dat2 V c).arrAt 2 cfg2.N
    = fun i : S8192x2048.Idx => dotAt (V c main_arg0) (V c main_v1) (i 0) (colFrom (4 * 1024) (by decide) (i 1 : Fin 2048)) := by
  refine (dat2 V c).arrAt_eq_of_covers 2 _ (by decide +kernel) fun t _ (y : S1024x1024.Idx) => ?_
  show (dat2 V c).after 2 t y = dotAt _ _ _ _
  rw [after2_2]
  refine (congrFun (tile2 (iblk2 V c 0 t) (iblk2 V c 1 t)) y).trans ?_
  exact tile_of_blocks _ rfl _ (V c main_arg0) (V c main_v1) ((cfg2.win 0).blk t).view.emb ((cfg2.win 1).blk t).view.emb ((cfg2.win 2).blk t).view.emb
    (win2_0.index t) (win2_2.index t) (win2_1.index t) (fun _ a => by fin_cases a <;> rfl) (fun _ a => by fin_cases a <;> rfl) (fun _ a => by fin_cases a <;> rfl) 4 (by decide)
    (points2 t).1 (points2 t).2 y

/-- Call 3's blocks at every point: rows and columns of the result's block, 6 blocks further in the weight. -/
theorem points3 : ∀ t : Fin cfg3.N, (win3_0.index t 0 = win3_2.index t 0 ∧ win3_0.index t 1 = 0)
    ∧ (win3_1.index t 0 = 0 ∧ win3_1.index t 1 = 0 ∧ win3_1.index t 2 = 6 + win3_2.index t 1) :=
  (by decide +kernel : ∀ t : Fin grid3.N, _)

/-- Call 3's result after the run: the gated unit of the last columns. -/
theorem final3 (c : Dev nD) : (dat3 V c).arrAt 2 cfg3.N
    = fun i : S8192x4096.Idx => unitAt (dotAt (V c main_arg0) (V c main_v1) (i 0) (colFrom (6 * 1024) (by decide) (i 1 : Fin 4096))) := by
  refine (dat3 V c).arrAt_eq_of_covers 2 _ (by decide +kernel) fun t _ (y : S1024x1024.Idx) => ?_
  show (dat3 V c).after 2 t y = unitAt _
  rw [after3_2]
  refine (congrFun (tile3 (iblk3 V c 0 t) (iblk3 V c 1 t)) y).trans (congrArg unitAt ?_)
  exact tile_of_blocks _ rfl _ (V c main_arg0) (V c main_v1) ((cfg3.win 0).blk t).view.emb ((cfg3.win 1).blk t).view.emb ((cfg3.win 2).blk t).view.emb
    (win3_0.index t) (win3_2.index t) (win3_1.index t) (fun _ a => by fin_cases a <;> rfl) (fun _ a => by fin_cases a <;> rfl) (fun _ a => by fin_cases a <;> rfl) 6 (by decide)
    (points3 t).1 (points3 t).2 y

variable (m : (ℓ : Loc nD τ sig) → Buf (Elt Ideal) ℓ) (ρ : Dev nD → PrngReg)

/-- The weight as the calls read it: the argument rounded to bf16, as one layer of one. -/
theorem weight (c : Dev nD) : W1 m ρ c (Proc.devRef .tc main_v1)
    = broadcastInDim S1x4096x10240 ![1, 2] bcast_S4096x10240_S1x4096x10240_1_2 (truncf (F := Ideal) .bf16 (m ((c : Thread nD τ).loc main_arg1)) bitsLt_bf16_f32) := by
  unfold_abbrev_sides
  after_results

/-- A scale of 128 columns repeated for the sixteen heads, as one row. -/
def scaleRow (s : FVec Ideal S128 .f32) : FVec Ideal S1x2048 .f32 :=
  shapeCast S1x2048 (shapeCast S2048 (broadcastInDim S16x128 ![0, 1] bcast_S1x128_S16x128_0_1 (shapeCast S1x128 s shapeCasts_S128_S1x128)) shapeCasts_S16x128_S2048) shapeCasts_S2048_S1x2048

/-- The row of scales at a column: the scale of the column within its head. -/
theorem scaleRow_apply (s : FVec Ideal S128 .f32) (j : Fin 2048) : scaleRow s (ix2 0 j) = s (ix1 ⟨j.val % 128, by omega⟩) := by
  unfold scaleRow
  refine (shapeCast_apply _ _ (ix2 0 j) (ix1 j) (by rw [Shape.rowMajor_val_two, Shape.rowMajor_val_one]; show j.val = 0 * 2048 + j.val; omega)).trans ?_
  refine (shapeCast_apply _ _ (ix1 j) (ix2 ⟨j.val / 128, by omega⟩ ⟨j.val % 128, by omega⟩)
    (by rw [Shape.rowMajor_val_two, Shape.rowMajor_val_one]; show j.val / 128 * 128 + j.val % 128 = j.val; omega)).trans ?_
  refine (broadcastInDim_apply _ _ _ _ (ix2 0 ⟨j.val % 128, by omega⟩) fun a => by fin_cases a <;> rfl).trans ?_
  exact shapeCast_apply _ _ _ (ix1 ⟨j.val % 128, by omega⟩) (by rw [Shape.rowMajor_val_two, Shape.rowMajor_val_one]; show j.val % 128 = 0 * 128 + j.val % 128; omega)

/-- The queries' scales as the first call reads them. -/
theorem scaleQ (c : Dev nD) : W1 m ρ c (Proc.devRef .tc main_v8) = scaleRow (m ((c : Thread nD τ).loc main_arg2)) := by
  unfold_abbrev_sides
  after_results
  rfl

/-- The keys' scales, repeated for the heads, before the first call. -/
theorem scaleK1 (c : Dev nD) : W1 m ρ c (Proc.devRef .tc main_v7)
    = shapeCast S2048 (broadcastInDim S16x128 ![0, 1] bcast_S1x128_S16x128_0_1 (shapeCast S1x128 (m ((c : Thread nD τ).loc main_arg3)) shapeCasts_S128_S1x128)) shapeCasts_S16x128_S2048 := by
  unfold_abbrev_sides
  after_results
  rfl

/-- The keys' scales as the second call reads them. -/
theorem scaleK (c : Dev nD) : W3 m ρ c (Proc.devRef .tc main_v10) = scaleRow (m ((c : Thread nD τ).loc main_arg3)) := by
  have e : W3 m ρ c (Proc.devRef .tc main_v10) = shapeCast S1x2048 (W2 m ρ c (Proc.devRef .tc main_v7)) shapeCasts_S2048_S1x2048 := by
    unfold W3
    after_results
    rfl
  rw [e, W2_of m ρ c main_v7 (by decide +kernel), scaleK1]
  rfl

theorem keep2 (c : Dev nD) : W2 m ρ c (Proc.devRef .tc main_v1) = W1 m ρ c (Proc.devRef .tc main_v1) := W2_of m ρ c main_v1 (by decide +kernel)
theorem keep3 (c : Dev nD) : W3 m ρ c (Proc.devRef .tc main_v1) = W1 m ρ c (Proc.devRef .tc main_v1) := (W3_of m ρ c main_v1 (by decide)).trans (keep2 m ρ c)
theorem keep4 (c : Dev nD) : W4 m ρ c (Proc.devRef .tc main_v1) = W1 m ρ c (Proc.devRef .tc main_v1) := (W4_of m ρ c main_v1 (by decide +kernel)).trans (keep3 m ρ c)
theorem keep5 (c : Dev nD) : W5 m ρ c (Proc.devRef .tc main_v1) = W1 m ρ c (Proc.devRef .tc main_v1) := (W5_of m ρ c main_v1 (by decide +kernel)).trans (keep4 m ρ c)

/-- The product's column `j` of those from `o` on, at row `r`. -/
def column {n : ℕ} (o : ℕ) (ho : o + n ≤ 10240) (c : Dev nD) (r : Fin 8192) (j : Fin n) : EReal :=
  prodAt (m ((c : Thread nD τ).loc main_arg0)) (m ((c : Thread nD τ).loc main_arg1)) r (colFrom o ho j)

/-- What a call sums, once its two arrays are the launch's rows and the converted weight. -/
theorem column_eq {n : ℕ} (o : ℕ) (ho : o + n ≤ 10240) (c : Dev nD) (h : Vec Ideal S8192x4096 .bf16) (w : Vec Ideal S1x4096x10240 .bf16)
    (eh : h = m ((c : Thread nD τ).loc main_arg0)) (ew : w = W1 m ρ c (Proc.devRef .tc main_v1)) (r : Fin 8192) (j : Fin n) :
    dotAt h w r (colFrom o ho j) = column m o ho c r j := by
  rw [eh, ew, weight]
  exact dotAt_cast _ _ _ _ _ _ (by decide) (by decide)

/-- One normalised result: the product's 2048 columns from `o` on, by heads, times a scale. -/
def normal (o : ℕ) (ho : o + 2048 ≤ 10240) (c : Dev nD) (s : FVec Ideal S128 .f32) (i : S8192x2048.Idx) : EReal :=
  normAt (column m o ho c (i 0)) (fun k => s (ix1 ⟨k.val % 128, by omega⟩)) (i 1)

/-- What a normalising call writes, once its arrays are the launch's rows, the converted weight and the repeated scale. -/
theorem normal_eq (o : ℕ) (ho : o + 2048 ≤ 10240) (c : Dev nD) (s : FVec Ideal S128 .f32) (h : Vec Ideal S8192x4096 .bf16) (w : Vec Ideal S1x4096x10240 .bf16)
    (t : Vec Ideal S1x2048 .f32) (eh : h = m ((c : Thread nD τ).loc main_arg0)) (ew : w = W1 m ρ c (Proc.devRef .tc main_v1)) (et : t = scaleRow s) :
    (fun i : S8192x2048.Idx => normAt (fun j => dotAt h w (i 0) (colFrom o ho j)) (fun j => t (ix2 0 j)) (i 1)) = normal m o ho c s := by
  funext i
  refine congrArg₂ (fun f g => normAt f g (i 1)) (funext fun j => column_eq m ρ o ho c h w eh ew (i 0) j) (funext fun j => ?_)
  rw [et]
  exact scaleRow_apply s j

theorem end9 (c : Dev nD) : W6 m ρ c (Proc.devRef .tc main_v9) = normal m (0 * 1024) (by decide) c (m ((c : Thread nD τ).loc main_arg2)) :=
  (W6_of m ρ c main_v9 (by decide +kernel)).trans ((W5_of m ρ c main_v9 (by decide +kernel)).trans ((W4_of m ρ c main_v9 (by decide +kernel)).trans
    ((W3_of m ρ c main_v9 (by decide)).trans ((W2_arr m ρ c 3).trans ((final0 (V1 m ρ) c).trans
      (normal_eq m ρ _ _ c _ _ _ _ (W1_args m ρ c main_arg0 (by decide)) rfl (scaleQ m ρ c)))))))
theorem end11 (c : Dev nD) : W6 m ρ c (Proc.devRef .tc main_v11) = normal m (2 * 1024) (by decide) c (m ((c : Thread nD τ).loc main_arg3)) :=
  (W6_of m ρ c main_v11 (by decide +kernel)).trans ((W5_of m ρ c main_v11 (by decide +kernel)).trans ((W4_arr m ρ c 3).trans ((final1 (V3 m ρ) c).trans
    (normal_eq m ρ _ _ c _ _ _ _ (W3_args m ρ c main_arg0 (by decide)) (keep3 m ρ c) (scaleK m ρ c)))))
theorem end12 (c : Dev nD) : W6 m ρ c (Proc.devRef .tc main_v12) = fun i : S8192x2048.Idx => column m (4 * 1024) (by decide) c (i 0) (i 1 : Fin 2048) :=
  (W6_of m ρ c main_v12 (by decide +kernel)).trans ((W5_arr m ρ c 2).trans ((final2 (V4 m ρ) c).trans
    (funext fun i => column_eq m ρ _ _ c _ _ (W4_args m ρ c main_arg0 (by decide)) (keep4 m ρ c) _ _)))
theorem end13 (c : Dev nD) : W6 m ρ c (Proc.devRef .tc main_v13) = fun i : S8192x4096.Idx => unitAt (column m (6 * 1024) (by decide) c (i 0) (i 1 : Fin 4096)) :=
  (W6_arr m ρ c 2).trans ((final3 (V5 m ρ) c).trans
    (funext fun i => congrArg unitAt (column_eq m ρ _ _ c _ _ (W5_args m ρ c main_arg0 (by decide)) (keep5 m ρ c) _ _)))

end Kernel

section Reference

open Cert.Reference5Ideal Cert.Reference5Ideal.Gen

theorem head_facts : HeadFacts 8192 :=
  ⟨by decide, shapeCasts_S8192x2048_S8192x8x2x128, reducesTo_S8192x8x2x128_S8192x8x2_d3, by decide, h_S_, bcast_S8192x8x2_S8192x8x2x1_0_1_2, bcast_S_S8192x8x2x1,
    bcast_S8192x8x2x1_S8192x8x2x128_0_1_2_3, bcast_S128_S1x1x1x128_3, bcast_S1x1x1x128_S8192x8x2x128_0_1_2_3, shapeCasts_S8192x8x2x128_S8192x2048⟩

/-- The reference's columns of its product, normalised by heads, at an index. -/
theorem heads_cut (h : FVec Ideal S8192x4096 .bf16) (w : FVec Ideal S4096x10240 .f32) (s : FVec Ideal S128 .f32) (o : ℕ) (ho : o + 2048 ≤ 10240)
    (hs : S8192x10240.Slices ![0, o] S8192x2048) (i : S8192x2048.Idx) :
    (heads head_facts (extractStridedSlice S8192x2048 ![0, o] (Host.dotGeneral (F := Ideal) dot_S8192x4096_S4096x10240_S8192x10240_1_0_0_1_n_n none
      (extf (F := Ideal) (φ := .bf16) .f32 h bitsLt_bf16_f32) w) hs) s i : EReal)
      = normAt (fun j => prodAt h w (i 0) (colFrom o ho j)) (fun k => s (ix1 ⟨k.val % 128, by omega⟩)) (i 1) := by
  rw [eq_ix2 i]
  refine (heads_apply _ _ s (i 0) (i 1)).trans ?_
  exact congrArg (fun f => normAt f _ (i 1)) (funext fun j => cut_apply _ rfl h w _ o hs (i 0) j _ rfl)

end Reference

/-- The two programs compute the same function: from equal arguments each of the four results is the same function of the same columns of one product. -/
theorem algebraic (hK : Cert.Kernel5Ideal.Facts) (hR : Cert.Reference5Ideal.Facts) :
    Cert.algebraic_Kernel5Ideal_Reference5Ideal (hKernel5Ideal := hK) (hReference5Ideal := hR) := by
  intro m g m' g' _ hm
  refine ⟨fun c => normal m (0 * 1024) (by decide) c (m ((c.tc : Thread Cert.Kernel5Ideal.nD Cert.Kernel5Ideal.τ).loc Cert.Kernel5Ideal.main_arg2)),
    fun c => normal m (2 * 1024) (by decide) c (m ((c.tc : Thread Cert.Kernel5Ideal.nD Cert.Kernel5Ideal.τ).loc Cert.Kernel5Ideal.main_arg3)),
    fun c => fun i : Cert.Kernel5Ideal.S8192x2048.Idx => column m (4 * 1024) (by decide) c (i 0) (i 1 : Fin 2048),
    fun c => fun i : Cert.Kernel5Ideal.S8192x4096.Idx => unitAt (column m (6 * 1024) (by decide) c (i 0) (i 1 : Fin 4096)),
    (θ_run _ _ _).mono (fun r h c => ⟨?_, ?_, ?_, ?_, ?_, ?_, ?_, ?_⟩) (run m g),
    (θ_run _ _ _).mono (fun r h c => ⟨(h c).1.trans ?_, (h c).2.1.trans ?_, (h c).2.2.1.trans ?_, (h c).2.2.2.1.trans ?_, (h c).2.2.2.2⟩) (Cert.Reference5Ideal.Value.run m' g')⟩
  · exact (h c _ (Cert.Kernel5Ideal.Gen.mem_uc _ (by decide))).trans (end9 m g c)
  · exact (h c _ (Cert.Kernel5Ideal.Gen.mem_uc _ (by decide))).trans (end11 m g c)
  · exact (h c _ (Cert.Kernel5Ideal.Gen.mem_uc _ (by decide))).trans (end12 m g c)
  · exact (h c _ (Cert.Kernel5Ideal.Gen.mem_uc _ (by decide))).trans (end13 m g c)
  · exact (h c _ (Cert.Kernel5Ideal.Gen.mem_uc _ (by decide))).trans (Cert.Kernel5Ideal.Gen.W6_main_arg0 m g c)
  · exact (h c _ (Cert.Kernel5Ideal.Gen.mem_uc _ (by decide))).trans (Cert.Kernel5Ideal.Gen.W6_main_arg1 m g c)
  · exact (h c _ (Cert.Kernel5Ideal.Gen.mem_uc _ (by decide))).trans (Cert.Kernel5Ideal.Gen.W6_main_arg2 m g c)
  · exact (h c _ (Cert.Kernel5Ideal.Gen.mem_uc _ (by decide))).trans (Cert.Kernel5Ideal.Gen.W6_main_arg3 m g c)
  · rw [(hm c).1, (hm c).2.1, (hm c).2.2.1]
    funext i
    exact heads_cut _ _ _ _ (by decide) Cert.Reference5Ideal.Gen.slices_S8192x10240_S8192x2048_0_0 i
  · rw [(hm c).1, (hm c).2.1, (hm c).2.2.2]
    funext i
    exact heads_cut _ _ _ _ (by decide) Cert.Reference5Ideal.Gen.slices_S8192x10240_S8192x2048_0_2048 i
  · rw [(hm c).1, (hm c).2.1]
    funext i
    rw [eq_ix2 i]
    exact cut_apply _ rfl _ _ _ _ Cert.Reference5Ideal.Gen.slices_S8192x10240_S8192x2048_0_4096 (i 0) (i 1) _ rfl
  · rw [(hm c).1, (hm c).2.1]
    funext i
    rw [eq_ix2 i]
    exact congrArg unitAt (cut_apply _ rfl _ _ _ _ Cert.Reference5Ideal.Gen.slices_S8192x10240_S8192x4096_0_6144 (i 0) (i 1) _ rfl)

end Cert.Proof.Odd

end
-- ==== Proof.Proj.Out.lean ====
/-
  The output projection of two halves of features with its gate and residual, on the extended reals: the kernel multiplies
  each half by its rows of the weight and adds the two products, the reference joins the halves first, and both end at
  `residual + gate · ∑ features · w`, index by index.
-/
module

public import proofs.«01_k».proof.Proof.Mlp.Down
public import proofs.«01_k».proof.Proof.Gen.Kernel6Ideal.Value
public import proofs.«01_k».proof.Proof.Gen.Reference6Ideal.Run

@[expose] public section

noncomputable section

open Idealize.ShloMosaic Idealize.ShloMosaic.TcCoe Idealize.ShloMosaic.ValueIdx Idealize.ShloMosaic.StackMember Idealize.SL.Sem
open Idealize.ShloMosaic.Pipeline (Dat)
open Cert.Proof.Down (batch token zeros2 zeros3)
open scoped BigOperators

namespace Cert.Proof.Out

open Cert.Kernel6Ideal Cert.Kernel6Ideal.Gen

/-- Half `o` of the features' product at row `r` and column `j`: the half's features times its 2048 rows of the weight. -/
def half (x : S8192x2048.Idx → EReal) (w : S4096x4096.Idx → EReal) (o : ℕ) (ho : o + 2048 ≤ 4096) (r : Fin 8192) (j : Fin 4096) : EReal :=
  ∑ k : Fin 2048, x (ix2 r k) * w (ix2 ⟨o + k.val, by omega⟩ j)

/-- The projection at flat row `r` and column `j`: the residual plus the gate times the two halves' products. -/
def out (x y : S8192x2048.Idx → EReal) (w : S4096x4096.Idx → EReal) (res : S4x2048x4096.Idx → EReal)
    (gate : S4x4096.Idx → EReal) (r : Fin 8192) (j : Fin 4096) : EReal :=
  res (ix3 (batch r) (token r) j) + gate (ix2 (batch r) j) * (half x w 0 (by decide) r j + half y w 2048 (by decide) r j)

/-- One half's product in a block, at row `r` and column `j`. -/
theorem half_apply (x : Vec Ideal S1024x2048 .bf16) (w : Vec Ideal S1x4096x512 .bf16) (o : ℕ) (ho : o + 2048 ≤ 4096)
    (h : S4096x512.Slices ![o, 0] S2048x512) (r : Fin 1024) (j : Fin 512) :
    (matmul (F := Ideal) (φ₁ := .bf16) (φ₂ := .bf16) dot_S1024x2048_S2048x512_S1024x512_1_0_0_1_n_n none x
        (extractStridedSlice S2048x512 ![o, 0] (shapeCast S4096x512 w shapeCasts_S1x4096x512_S4096x512) h)
        (constant (F := Ideal) S1024x512 .f32 0x00000000#32) (ix2 r j) : EReal)
      = ∑ k : Fin 2048, (x (ix2 r k) : EReal) * w (ix3 0 ⟨o + k.val, by omega⟩ j) := by
  refine (Ideal.matmul_plain_apply (φ₁ := .bf16) (φ₂ := .bf16) (M := 1024) (K := 2048) (N := 512) none x _ _ r j).trans ?_
  refine (congrArg₂ (fun a b : EReal => a + b) Ideal.ofBits_zero_f32 (Finset.sum_congr rfl fun k _ => ?_)).trans (zero_add _)
  refine congrArg (fun a : EReal => (x (ix2 r k) : EReal) * a) ?_
  refine (extractStridedSlice_apply _ _ h (ix2 k j) (ix2 ⟨o + k.val, by omega⟩ j) fun a => ?_).trans
    (shapeCast_1ab_ab_apply w shapeCasts_S1x4096x512_S4096x512 _ j)
  fin_cases a
  · rfl
  · show j.val = 0 + j.val
    omega

/-- The body's block at row `r` and column `j`. -/
theorem block_apply (x y : Vec Ideal S1024x2048 .bf16) (w : Vec Ideal S1x4096x512 .bf16) (res : Vec Ideal S1024x512 .f32) (gate : Vec Ideal S1x1x512 .f32)
    (r : Fin 1024) (j : Fin 512) : (out0_5 x y w res gate (ix2 r j) : EReal)
      = (res (ix2 r j) : EReal) + (gate (ix3 0 0 j) : EReal) * ((∑ k : Fin 2048, (x (ix2 r k) : EReal) * w (ix3 0 ⟨0 + k.val, by omega⟩ j))
        + ∑ k : Fin 2048, (y (ix2 r k) : EReal) * w (ix3 0 ⟨2048 + k.val, by omega⟩ j)) := by
  unfold out0_5
  rw [View.canon_unit_zero zeros2]
  simp only [View.ld_unit_zero (S := S1024x2048) zeros2, View.ld_unit_zero (S := S1024x512) zeros2,
    View.ld_unit_zero (S := S1x4096x512) zeros3, View.ld_unit_zero (S := S1x1x512) zeros3]
  have e1 : (shapeCast S1024x512 res shapeCasts_S1024x512_S1024x512 (ix2 r j) : EReal) = res (ix2 r j) :=
    congrFun (shapeCast_self res _) _
  have e2 : (broadcastTo S1024x512 (shapeCast S1x512 gate shapeCasts_S1x1x512_S1x512) broadcasts_S1x512_S1024x512 (ix2 r j) : EReal) = gate (ix3 0 0 j) := by
    refine (broadcastTo_apply _ _ _ (k := ix2 0 j) fun a => by fin_cases a <;> simp).trans ?_
    exact shapeCast_1ab_ab_apply gate shapeCasts_S1x1x512_S1x512 0 j
  exact congrArg₂ (fun a b : EReal => a + b) e1 (congrArg₂ (fun a b : EReal => a * b) e2
    (congrArg₂ (fun a b : EReal => a + b) (half_apply x w 0 (by decide) slices_S4096x512_o0_0_S2048x512 r j)
      (half_apply y w 2048 (by decide) slices_S4096x512_o2048_0_S2048x512 r j)))

/-- The windows' blocks at point `t`: row block `t / 8`, column block `t % 8`. -/
theorem points : ∀ t : Fin cfg0.N, (win0_0.index t 0 = t.val / 8 ∧ win0_0.index t 1 = 0)
    ∧ (win0_1.index t 0 = t.val / 8 ∧ win0_1.index t 1 = 0)
    ∧ (win0_2.index t 0 = 0 ∧ win0_2.index t 1 = 0 ∧ win0_2.index t 2 = t.val % 8)
    ∧ (win0_3.index t 0 = t.val / 8 ∧ win0_3.index t 1 = t.val % 8)
    ∧ (win0_4.index t 0 = t.val / 16 ∧ win0_4.index t 1 = 0 ∧ win0_4.index t 2 = t.val % 8)
    ∧ (win0_5.index t 0 = t.val / 8 ∧ win0_5.index t 1 = t.val % 8) :=
  (by decide +kernel : ∀ t : Fin grid0.N, _)

variable (m : (ℓ : Loc nD τ sig) → Buf (Elt Ideal) ℓ)

/-- The weight's array as the call reads it: the argument rounded to bf16, as one layer of one. -/
theorem V_weight (c : Dev nD) (k j : Fin 4096) : (V m c main_v1 (ix3 0 k j) : EReal) = m ((c : Thread nD τ).loc main_arg2) (ix2 k j) := by
  have e : V m c main_v1 = broadcastInDim S1x4096x4096 ![1, 2] bcast_S4096x4096_S1x4096x4096_1_2
      (truncf (F := Ideal) .bf16 (m ((c : Thread nD τ).loc main_arg2)) bitsLt_bf16_f32) := by
    unfold_abbrev_sides
    after_results
  rw [e]
  refine congrArg (m ((c : Thread nD τ).loc main_arg2)) ?_
  funext a; apply Fin.ext
  match a with
  | ⟨0, _⟩ => rfl
  | ⟨1, _⟩ => rfl

/-- The residual's array as the call reads it: the batches' rows one after another. -/
theorem V_residual (c : Dev nD) (r : Fin 8192) (j : Fin 4096) :
    (V m c main_v2 (ix2 r j) : EReal) = m ((c : Thread nD τ).loc main_arg3) (ix3 (batch r) (token r) j) := by
  have e : V m c main_v2 = shapeCast S8192x4096 (m ((c : Thread nD τ).loc main_arg3)) shapeCasts_S4x2048x4096_S8192x4096 := by
    unfold_abbrev_sides
    after_results
    rfl
  rw [e]
  exact Cert.Proof.Down.flat_apply _ _ r j

/-- The gate's array as the call reads it: one row per batch. -/
theorem V_gate (c : Dev nD) (b : Fin 4) (j : Fin 4096) :
    (V m c main_v3 (ix3 b 0 j) : EReal) = m ((c : Thread nD τ).loc main_arg4) (ix2 b j) := by
  have e : V m c main_v3 = shapeCast S4x1x4096 (m ((c : Thread nD τ).loc main_arg4)) shapeCasts_S4x4096_S4x1x4096 := by
    unfold_abbrev_sides
    after_results
    rfl
  rw [e]
  exact Cert.Proof.Down.rows_apply _ _ b j

/-- The result array after the run is the projection of the arguments. -/
theorem final (c : Dev nD) : (dats m 0 c).arrAt 5 cfg0.N
    = fun i : S8192x4096.Idx => out (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) := by
  refine (dats m 0 c).arrAt_eq_of_covers 5 _ (by decide +kernel) fun t _ (y : S1024x512.Idx) => ?_
  obtain ⟨⟨a0, a1⟩, ⟨b0, b1⟩, ⟨w0, w1, w2⟩, ⟨c0, c1⟩, ⟨d0, d1, d2⟩, e0, e1⟩ := points t
  have hN : t.val < 64 := t.isLt.trans_eq N_0
  have hy0 : (y 0).val < 1024 := (y 0).isLt
  have hy1 : (y 1).val < 512 := (y 1).isLt
  show (dats m 0 c).after 5 t y = out _ _ _ _ _ ((((cfg0.win 5).blk t).view.emb y) 0) ((((cfg0.win 5).blk t).view.emb y) 1)
  have r0 : ((((cfg0.win 5).blk t).view.emb y) 0).val = t.val / 8 * 1024 + (y 0).val := by
    show win0_5.index t 0 * 1024 + 1 * (y 0).val = _
    rw [e0]; omega
  have r1 : ((((cfg0.win 5).blk t).view.emb y) 1).val = t.val % 8 * 512 + (y 1).val := by
    show win0_5.index t 1 * 512 + 1 * (y 1).val = _
    rw [e1]; omega
  generalize (((cfg0.win 5).blk t).view.emb y) 0 = r at r0 ⊢
  generalize (((cfg0.win 5).blk t).view.emb y) 1 = j at r1 ⊢
  change Fin 8192 at r
  change Fin 4096 at j
  rw [after0_5, eq_ix2 y]
  refine (block_apply _ _ _ _ _ (y 0) (y 1)).trans ?_
  unfold out half
  refine congrArg₂ (fun a b : EReal => a + b) ?_ (congrArg₂ (fun a b : EReal => a * b) ?_
    (congrArg₂ (fun a b : EReal => a + b) (Finset.sum_congr rfl fun k _ => congrArg₂ (fun a b : EReal => a * b) ?_ ?_)
      (Finset.sum_congr rfl fun k _ => congrArg₂ (fun a b : EReal => a * b) ?_ ?_)))
  · refine Eq.trans (congrArg (V m c main_v2) ?_) (V_residual m c r j)
    funext a; apply Fin.ext; fin_cases a
    · show win0_3.index t 0 * 1024 + 1 * (y 0).val = r.val
      rw [c0]; omega
    · show win0_3.index t 1 * 512 + 1 * (y 1).val = j.val
      rw [c1]; omega
  · refine Eq.trans (congrArg (V m c main_v3) ?_) (V_gate m c (batch r) j)
    funext a; apply Fin.ext; fin_cases a
    · show win0_4.index t 0 * 1 + 1 * 0 = r.val / 2048
      rw [d0]; omega
    · show win0_4.index t 1 * 1 + 1 * 0 = 0
      rw [d1]
    · show win0_4.index t 2 * 512 + 1 * (y 1).val = j.val
      rw [d2]; omega
  · refine (congrFun (V_main_arg0 m c) _).trans (congrArg (m ((c : Thread nD τ).loc main_arg0)) ?_)
    funext a; apply Fin.ext; fin_cases a
    · show win0_0.index t 0 * 1024 + 1 * (y 0).val = r.val
      rw [a0]; omega
    · show win0_0.index t 1 * 2048 + 1 * k.val = k.val
      rw [a1]; omega
  · refine Eq.trans (congrArg (V m c main_v1) ?_) (V_weight m c _ j)
    funext a; apply Fin.ext; fin_cases a
    · show win0_2.index t 0 * 1 + 1 * 0 = 0
      rw [w0]
    · show win0_2.index t 1 * 4096 + 1 * (0 + k.val) = 0 + k.val
      rw [w1]; omega
    · show win0_2.index t 2 * 512 + 1 * (y 1).val = j.val
      rw [w2]; omega
  · refine (congrFun (V_main_arg1 m c) _).trans (congrArg (m ((c : Thread nD τ).loc main_arg1)) ?_)
    funext a; apply Fin.ext; fin_cases a
    · show win0_1.index t 0 * 1024 + 1 * (y 0).val = r.val
      rw [b0]; omega
    · show win0_1.index t 1 * 2048 + 1 * k.val = k.val
      rw [b1]; omega
  · refine Eq.trans (congrArg (V m c main_v1) ?_) (V_weight m c _ j)
    funext a; apply Fin.ext; fin_cases a
    · show win0_2.index t 0 * 1 + 1 * 0 = 0
      rw [w0]
    · show win0_2.index t 1 * 4096 + 1 * (2048 + k.val) = 2048 + k.val
      rw [w1]; omega
    · show win0_2.index t 2 * 512 + 1 * (y 1).val = j.val
      rw [w2]; omega

end Cert.Proof.Out

namespace Cert.Proof.Out

open Cert.Reference6Ideal Cert.Reference6Ideal.Gen

/-- The reference's product of an array of batches by a matrix, at one index. -/
theorem batches_apply (A : FVec Ideal S4x2048x4096 .f32) (B : FVec Ideal S4096x4096 .f32) (b : Fin 4) (s : Fin 2048) (j : Fin 4096) :
    (Host.dotGeneral dot_S4x2048x4096_S4096x4096_S4x2048x4096_2_0_01_1_n_n none A B (ix3 b s j) : EReal)
      = ∑ k : Fin 4096, (A (ix3 b s k) : EReal) * B (ix2 k j) := by
  show FloatOps.dotGeneral _ none _ A B (ix3 b s j) = _
  rw [Ideal.dotGeneral_apply,
    ← Equiv.sum_comp (contrEquiv1 dot_S4x2048x4096_S4096x4096_S4x2048x4096_2_0_01_1_n_n 4096 rfl rfl).symm]
  refine Finset.sum_congr rfl fun k _ => ?_
  have e := contrEquiv1_symm_val dot_S4x2048x4096_S4096x4096_S4x2048x4096_2_0_01_1_n_n 4096 rfl rfl k
  refine congrArg₂ (fun a b : EReal => a * b) (congrArg A ?_) (congrArg B ?_)
  · funext a; apply Fin.ext
    match a with
    | ⟨0, _⟩ => rfl
    | ⟨1, _⟩ => rfl
    | ⟨2, _⟩ => exact e
  · funext a; apply Fin.ext
    match a with
    | ⟨0, _⟩ => exact e
    | ⟨1, _⟩ => rfl

/-- The joined features of a batch's token are its flat row's. -/
theorem tokens_apply (x : FVec Ideal S8192x4096 .f32) (r : Fin 8192) (k : Fin 4096) :
    (shapeCast S4x2048x4096 x shapeCasts_S8192x4096_S4x2048x4096 (ix3 (batch r) (token r) k) : EReal) = x (ix2 r k) := by
  refine shapeCast_apply _ _ _ (ix2 r k) ?_
  refine (Shape.rowMajor_val_two _).trans (Eq.trans ?_ (Shape.rowMajor_val_three _).symm)
  show r.val * 4096 + k.val = ((r.val / 2048) * 2048 + r.val % 2048) * 4096 + k.val
  omega

/-- A feature of the first half of the joined array. -/
theorem join_left (x y : FVec Ideal S8192x2048 .bf16) (r : Fin 8192) (k : Fin 2048) (k' : Fin 4096) (hk : k'.val = k.val) :
    (concatenate S8192x4096 1 [⟨S8192x2048, x⟩, ⟨S8192x2048, y⟩] concatenates_S8192x2048_S8192x2048_S8192x4096_d1 (ix2 r k') : EReal) = x (ix2 r k) := by
  refine concatenate_pair_apply_left 1 x y _ (ix2 r k') rfl (ix2 r k) fun a => ?_
  match a with
  | ⟨0, _⟩ => rfl
  | ⟨1, _⟩ => exact hk.symm

/-- A feature of the second half of the joined array. -/
theorem join_right (x y : FVec Ideal S8192x2048 .bf16) (r : Fin 8192) (k : Fin 2048) (k' : Fin 4096) (hk : k'.val = 2048 + k.val) :
    (concatenate S8192x4096 1 [⟨S8192x2048, x⟩, ⟨S8192x2048, y⟩] concatenates_S8192x2048_S8192x2048_S8192x4096_d1 (ix2 r k') : EReal) = y (ix2 r k) := by
  refine concatenate_pair_apply_right 1 x y _ (ix2 r k') rfl rfl (ix2 r k) (fun a ha => ?_) ?_
  · match a with
    | ⟨0, _⟩ => rfl
    | ⟨1, _⟩ => exact absurd rfl ha
  · show k.val + 2048 = k'.val
    omega

/-- The reference's product of the joined features at flat row `r` and column `j` is the two halves' products added. -/
theorem ref_apply (x y : Vec Ideal S8192x2048 .bf16) (w : Vec Ideal S4096x4096 .f32) (r : Fin 8192) (j : Fin 4096) :
    (Host.dotGeneral (F := Ideal) (φ₁ := .f32) (φ₂ := .f32) dot_S4x2048x4096_S4096x4096_S4x2048x4096_2_0_01_1_n_n none
      (shapeCast S4x2048x4096 (extf (F := Ideal) (φ := .bf16) .f32 (concatenate S8192x4096 1 [⟨S8192x2048, x⟩, ⟨S8192x2048, y⟩]
        concatenates_S8192x2048_S8192x2048_S8192x4096_d1) bitsLt_bf16_f32) shapeCasts_S8192x4096_S4x2048x4096) w (ix3 (batch r) (token r) j) : EReal)
      = half x w 0 (by decide) r j + half y w 2048 (by decide) r j := by
  refine (batches_apply _ _ _ _ _).trans ?_
  refine (Fin.sum_univ_add (a := 2048) (b := 2048) _).trans (congrArg₂ (fun a b : EReal => a + b) ?_ ?_)
  · refine Finset.sum_congr rfl fun k _ => congrArg₂ (fun a b : EReal => a * b) ?_ (congrArg (fun i => w (ix2 i j)) (Fin.ext (Nat.zero_add _).symm))
    exact (tokens_apply _ r _).trans (join_left x y r k _ rfl)
  · refine Finset.sum_congr rfl fun k _ => congrArg₂ (fun a b : EReal => a * b) ?_ rfl
    exact (tokens_apply _ r _).trans (join_right x y r k _ rfl)

end Cert.Proof.Out

namespace Cert.Proof.Out

/-- The two programs compute the same function: from equal arguments both results end at the projection. -/
theorem algebraic (hK : Cert.Kernel6Ideal.Facts) (hR : Cert.Reference6Ideal.Facts) :
    Cert.algebraic_Kernel6Ideal_Reference6Ideal (hKernel6Ideal := hK) (hReference6Ideal := hR) := by
  intro m g m' g' _ hm
  refine ⟨fun c => fun i : Cert.Kernel6Ideal.S8192x4096.Idx => out
      (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4)) (i 0) (i 1),
    (θ_run _ _ _).mono (fun r h c => ⟨(h c).1.trans (final m c), (h c).2⟩) (Cert.Kernel6Ideal.Value.run_blocks m g),
    (θ_run _ _ _).mono (fun r h c => ⟨(h c).1.trans ?_, (h c).2⟩) (Cert.Reference6Ideal.Value.run m' g')⟩
  rw [(hm c).1, (hm c).2.1, (hm c).2.2.1, (hm c).2.2.2.1, (hm c).2.2.2.2]
  funext i
  rw [eq_ix2 i]
  refine (Cert.Proof.Down.flat_apply _ _ (i 0) (i 1)).trans ?_
  exact congrArg₂ (fun a b : EReal => (show EReal from m ((c.tc : Thread Cert.Kernel6Ideal.nD Cert.Kernel6Ideal.τ).loc Cert.Kernel6Ideal.main_arg3)
    (ix3 (batch (i 0)) (token (i 0)) (i 1))) + a * b) (Cert.Proof.Down.gate_apply _ _ _ _) (ref_apply _ _ _ _ _)

end Cert.Proof.Out

end
-- ==== Proof.Sample.EvenRun.lean ====
/-
  The even layer's projection program for the sample batch run to its end: every buffer that outlives the regions at the contents of the last boundary.
-/
module

public import proofs.«01_k».proof.Proof.Gen.Kernel7Ideal.Frame

@[expose] public section

noncomputable section

namespace Cert.Proof.EvenSample

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the four regions, the last boundary's contents read against the final state. -/
theorem run : θ_run defs (onTc (τ := τ) (main (F := F))) ⟨m, fun _ => 0, ρ⟩ (fun r =>
      ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

end Cert.Proof.EvenSample

end
-- ==== Proof.Sample.Even.lean ====
/-
  The even layer's input projection for the sample batch, on the extended reals: the four calls' tiles of 64 by 1024 results and the
  reference's whole product, cut into its columns, are one sum over the features, index by index.
-/
module

public import proofs.«01_k».proof.Defs
public import proofs.«01_k».proof.Proof.Proj.Tile
public import proofs.«01_k».proof.Proof.Sample.EvenRun
public import proofs.«01_k».proof.Proof.Gen.Reference7Ideal.Run
public import Idealize.ShloMosaic.Lib.Pipeline.ValueKit.Geometry
public import Idealize.ShloMosaic.Lib.StableHlo.Run
public import Idealize.ShloMosaic.Lib.Claim

@[expose] public section

noncomputable section

open Idealize.ShloMosaic Idealize.ShloMosaic.TcCoe Idealize.ShloMosaic.ValueIdx Idealize.ShloMosaic.StackMember Idealize.SL.Sem
open Idealize.ShloMosaic.Pipeline (Dat)
open Cert.Proof.Proj
open scoped BigOperators

namespace Cert.Proof.EvenSample

section Kernel

open Cert.Kernel7Ideal Cert.Kernel7Ideal.Gen

/-- A tile of the calls: the product of the rows' block by the weight's. -/
theorem tile (x : Vec Ideal S64x4096 .f32) (b : Vec Ideal S1x4096x1024 .bf16) : out0_2 x b
    = matmul (F := Ideal) (φ₁ := .bf16) (φ₂ := .bf16) dot_S64x4096_S4096x1024_S64x1024_1_0_0_1_n_n none (truncf (F := Ideal) .bf16 x bitsLt_bf16_f32) (shapeCast S4096x1024 b shapeCasts_S1x4096x1024_S4096x1024)
        (constant (F := Ideal) S64x1024 .f32 0x00000000#32) := by
  unfold out0_2
  rw [View.canon_unit_zero zeros2, View.ld_unit_zero zeros3, View.ld_unit_zero zeros2]
  rfl

variable (V : (c : Dev nD) → (b : Ref sig .tc) → Buf (Elt Ideal) ((c : Thread nD τ).loc b))

/-- The sample batch's rows as the calls multiply them. -/
def rows (c : Dev nD) : FVec Ideal S64x4096 .bf16 := truncf (F := Ideal) .bf16 (V c main_arg0) bitsLt_bf16_f32

/-- Call 0's blocks at every point: the rows' block is the result's, the weight's column block the result's, 0 further. -/
theorem points0 : ∀ t : Fin cfg0.N, (win0_0.index t 0 = win0_2.index t 0 ∧ win0_0.index t 1 = 0)
    ∧ (win0_1.index t 0 = 0 ∧ win0_1.index t 1 = 0 ∧ win0_1.index t 2 = 0 + win0_2.index t 1) :=
  (by decide +kernel : ∀ t : Fin grid0.N, _)

/-- Call 0's result after the run: the gate and value columns. -/
theorem final0 (c : Dev nD) : (dat0 V c).arrAt 2 cfg0.N
    = fun i : S64x4096.Idx => dotAt (rows V c) (V c main_v1) (i 0) (colFrom (0 * 1024) (by decide) (i 1 : Fin 4096)) := by
  refine (dat0 V c).arrAt_eq_of_covers 2 _ (by decide +kernel) fun t _ (y : S64x1024.Idx) => ?_
  show (dat0 V c).after 2 t y = dotAt _ _ _ _
  rw [after0_2]
  refine (congrFun (tile (iblk0 V c 0 t) (iblk0 V c 1 t)) y).trans ?_
  exact tile_of_blocks _ rfl _ (rows V c) (V c main_v1) ((cfg0.win 0).blk t).view.emb ((cfg0.win 1).blk t).view.emb ((cfg0.win 2).blk t).view.emb
    (win0_0.index t) (win0_2.index t) (win0_1.index t) (fun _ a => by fin_cases a <;> rfl) (fun _ a => by fin_cases a <;> rfl) (fun _ a => by fin_cases a <;> rfl) 0 (by decide)
    (points0 t).1 (points0 t).2 y

/-- Call 1's blocks at every point: the rows' block is the result's, the weight's column block the result's, 4 further. -/
theorem points1 : ∀ t : Fin cfg1.N, (win1_0.index t 0 = win1_2.index t 0 ∧ win1_0.index t 1 = 0)
    ∧ (win1_1.index t 0 = 0 ∧ win1_1.index t 1 = 0 ∧ win1_1.index t 2 = 4 + win1_2.index t 1) :=
  (by decide +kernel : ∀ t : Fin grid1.N, _)

/-- Call 1's result after the run: the queries. -/
theorem final1 (c : Dev nD) : (dat1 V c).arrAt 2 cfg1.N
    = fun i : S64x2048.Idx => dotAt (rows V c) (V c main_v1) (i 0) (colFrom (4 * 1024) (by decide) (i 1 : Fin 2048)) := by
  refine (dat1 V c).arrAt_eq_of_covers 2 _ (by decide +kernel) fun t _ (y : S64x1024.Idx) => ?_
  show (dat1 V c).after 2 t y = dotAt _ _ _ _
  rw [after1_2]
  refine (congrFun (tile (iblk1 V c 0 t) (iblk1 V c 1 t)) y).trans ?_
  exact tile_of_blocks _ rfl _ (rows V c) (V c main_v1) ((cfg1.win 0).blk t).view.emb ((cfg1.win 1).blk t).view.emb ((cfg1.win 2).blk t).view.emb
    (win1_0.index t) (win1_2.index t) (win1_1.index t) (fun _ a => by fin_cases a <;> rfl) (fun _ a => by fin_cases a <;> rfl) (fun _ a => by fin_cases a <;> rfl) 4 (by decide)
    (points1 t).1 (points1 t).2 y

/-- Call 2's blocks at every point: the rows' block is the result's, the weight's column block the result's, 6 further. -/
theorem points2 : ∀ t : Fin cfg2.N, (win2_0.index t 0 = win2_2.index t 0 ∧ win2_0.index t 1 = 0)
    ∧ (win2_1.index t 0 = 0 ∧ win2_1.index t 1 = 0 ∧ win2_1.index t 2 = 6 + win2_2.index t 1) :=
  (by decide +kernel : ∀ t : Fin grid2.N, _)

/-- Call 2's result after the run: the keys. -/
theorem final2 (c : Dev nD) : (dat2 V c).arrAt 2 cfg2.N
    = fun i : S64x2048.Idx => dotAt (rows V c) (V c main_v1) (i 0) (colFrom (6 * 1024) (by decide) (i 1 : Fin 2048)) := by
  refine (dat2 V c).arrAt_eq_of_covers 2 _ (by decide +kernel) fun t _ (y : S64x1024.Idx) => ?_
  show (dat2 V c).after 2 t y = dotAt _ _ _ _
  rw [after2_2]
  refine (congrFun (tile (iblk2 V c 0 t) (iblk2 V c 1 t)) y).trans ?_
  exact tile_of_blocks _ rfl _ (rows V c) (V c main_v1) ((cfg2.win 0).blk t).view.emb ((cfg2.win 1).blk t).view.emb ((cfg2.win 2).blk t).view.emb
    (win2_0.index t) (win2_2.index t) (win2_1.index t) (fun _ a => by fin_cases a <;> rfl) (fun _ a => by fin_cases a <;> rfl) (fun _ a => by fin_cases a <;> rfl) 6 (by decide)
    (points2 t).1 (points2 t).2 y

/-- Call 3's blocks at every point: the rows' block is the result's, the weight's column block the result's, 8 further. -/
theorem points3 : ∀ t : Fin cfg3.N, (win3_0.index t 0 = win3_2.index t 0 ∧ win3_0.index t 1 = 0)
    ∧ (win3_1.index t 0 = 0 ∧ win3_1.index t 1 = 0 ∧ win3_1.index t 2 = 8 + win3_2.index t 1) :=
  (by decide +kernel : ∀ t : Fin grid3.N, _)

/-- Call 3's result after the run: the values. -/
theorem final3 (c : Dev nD) : (dat3 V c).arrAt 2 cfg3.N
    = fun i : S64x2048.Idx => dotAt (rows V c) (V c main_v1) (i 0) (colFrom (8 * 1024) (by decide) (i 1 : Fin 2048)) := by
  refine (dat3 V c).arrAt_eq_of_covers 2 _ (by decide +kernel) fun t _ (y : S64x1024.Idx) => ?_
  show (dat3 V c).after 2 t y = dotAt _ _ _ _
  rw [after3_2]
  refine (congrFun (tile (iblk3 V c 0 t) (iblk3 V c 1 t)) y).trans ?_
  exact tile_of_blocks _ rfl _ (rows V c) (V c main_v1) ((cfg3.win 0).blk t).view.emb ((cfg3.win 1).blk t).view.emb ((cfg3.win 2).blk t).view.emb
    (win3_0.index t) (win3_2.index t) (win3_1.index t) (fun _ a => by fin_cases a <;> rfl) (fun _ a => by fin_cases a <;> rfl) (fun _ a => by fin_cases a <;> rfl) 8 (by decide)
    (points3 t).1 (points3 t).2 y

variable (m : (ℓ : Loc nD τ sig) → Buf (Elt Ideal) ℓ) (ρ : Dev nD → PrngReg)

/-- The weight as the calls read it: the argument rounded to bf16, as one layer of one. -/
theorem weight (c : Dev nD) : W1 m ρ c (Proc.devRef .tc main_v1)
    = broadcastInDim S1x4096x10240 ![1, 2] bcast_S4096x10240_S1x4096x10240_1_2 (truncf (F := Ideal) .bf16 (m ((c : Thread nD τ).loc main_arg1)) bitsLt_bf16_f32) := by
  unfold_abbrev_sides
  after_results

/-- One result of the program: the product's columns from `o` on. -/
def columns {n : ℕ} (o : ℕ) (ho : o + n ≤ 10240) (c : Dev nD) (i : (⟨2, ![64, n]⟩ : Shape).Idx) : EReal :=
  prodAt (m ((c : Thread nD τ).loc main_arg0)) (m ((c : Thread nD τ).loc main_arg1)) (i 0) (colFrom o ho (i 1 : Fin n))

/-- What a call writes, once its two arrays are the launch's rows and the converted weight. -/
theorem columns_eq {n : ℕ} (o : ℕ) (ho : o + n ≤ 10240) (c : Dev nD) (h : Vec Ideal S64x4096 .bf16) (w : Vec Ideal S1x4096x10240 .bf16)
    (eh : h = m ((c : Thread nD τ).loc main_arg0)) (ew : w = W1 m ρ c (Proc.devRef .tc main_v1)) :
    (fun i : (⟨2, ![64, n]⟩ : Shape).Idx => dotAt h w (i 0) (colFrom o ho (i 1 : Fin n))) = columns m o ho c := by
  funext i
  rw [eh, ew, weight]
  exact dotAt_cast _ _ _ _ _ _ (by decide) (by decide)

theorem keep2 (c : Dev nD) : W2 m ρ c (Proc.devRef .tc main_v1) = W1 m ρ c (Proc.devRef .tc main_v1) := W2_of m ρ c main_v1 (by decide +kernel)
theorem keep3 (c : Dev nD) : W3 m ρ c (Proc.devRef .tc main_v1) = W1 m ρ c (Proc.devRef .tc main_v1) := (W3_of m ρ c main_v1 (by decide +kernel)).trans (keep2 m ρ c)
theorem keep4 (c : Dev nD) : W4 m ρ c (Proc.devRef .tc main_v1) = W1 m ρ c (Proc.devRef .tc main_v1) := (W4_of m ρ c main_v1 (by decide +kernel)).trans (keep3 m ρ c)

theorem end2 (c : Dev nD) : W5 m ρ c (Proc.devRef .tc main_v2) = columns m (n := 4096) (0 * 1024) (by decide) c :=
  (W5_of m ρ c main_v2 (by decide +kernel)).trans ((W4_of m ρ c main_v2 (by decide +kernel)).trans ((W3_of m ρ c main_v2 (by decide +kernel)).trans
    ((W2_arr m ρ c 2).trans ((final0 (V1 m ρ) c).trans (columns_eq m ρ _ _ c _ _ (W1_args m ρ c main_arg0 (by decide)) rfl)))))
theorem end3 (c : Dev nD) : W5 m ρ c (Proc.devRef .tc main_v3) = columns m (n := 2048) (4 * 1024) (by decide) c :=
  (W5_of m ρ c main_v3 (by decide +kernel)).trans ((W4_of m ρ c main_v3 (by decide +kernel)).trans
    ((W3_arr m ρ c 2).trans ((final1 (V2 m ρ) c).trans (columns_eq m ρ _ _ c _ _ (W2_args m ρ c main_arg0 (by decide)) (keep2 m ρ c)))))
theorem end4 (c : Dev nD) : W5 m ρ c (Proc.devRef .tc main_v4) = columns m (n := 2048) (6 * 1024) (by decide) c :=
  (W5_of m ρ c main_v4 (by decide +kernel)).trans
    ((W4_arr m ρ c 2).trans ((final2 (V3 m ρ) c).trans (columns_eq m ρ _ _ c _ _ (W3_args m ρ c main_arg0 (by decide)) (keep3 m ρ c))))
theorem end5 (c : Dev nD) : W5 m ρ c (Proc.devRef .tc main_v5) = columns m (n := 2048) (8 * 1024) (by decide) c :=
  (W5_arr m ρ c 2).trans ((final3 (V4 m ρ) c).trans (columns_eq m ρ _ _ c _ _ (W4_args m ρ c main_arg0 (by decide)) (keep4 m ρ c)))

end Kernel

/-- The two programs compute the same function: from equal arguments each of the four results is the same columns of one product. -/
theorem algebraic (hK : Cert.Kernel7Ideal.Facts) (hR : Cert.Reference7Ideal.Facts) :
    Cert.algebraic_Kernel7Ideal_Reference7Ideal (hKernel7Ideal := hK) (hReference7Ideal := hR) := by
  intro m g m' g' _ hm
  refine ⟨fun c => columns m (n := 4096) (0 * 1024) (by decide) c, fun c => columns m (n := 2048) (4 * 1024) (by decide) c,
    fun c => columns m (n := 2048) (6 * 1024) (by decide) c, fun c => columns m (n := 2048) (8 * 1024) (by decide) c,
    (θ_run _ _ _).mono (fun r h c => ⟨?_, ?_, ?_, ?_, ?_, ?_⟩) (run m g),
    (θ_run _ _ _).mono (fun r h c => ⟨(h c).1.trans ?_, (h c).2.1.trans ?_, (h c).2.2.1.trans ?_, (h c).2.2.2.1.trans ?_, (h c).2.2.2.2⟩) (Cert.Reference7Ideal.Value.run m' g')⟩
  · exact (h c _ (Cert.Kernel7Ideal.Gen.mem_uc _ (by decide))).trans (end2 m g c)
  · exact (h c _ (Cert.Kernel7Ideal.Gen.mem_uc _ (by decide))).trans (end3 m g c)
  · exact (h c _ (Cert.Kernel7Ideal.Gen.mem_uc _ (by decide))).trans (end4 m g c)
  · exact (h c _ (Cert.Kernel7Ideal.Gen.mem_uc _ (by decide))).trans (end5 m g c)
  · exact (h c _ (Cert.Kernel7Ideal.Gen.mem_uc _ (by decide))).trans (Cert.Kernel7Ideal.Gen.W5_main_arg0 m g c)
  · exact (h c _ (Cert.Kernel7Ideal.Gen.mem_uc _ (by decide))).trans (Cert.Kernel7Ideal.Gen.W5_main_arg1 m g c)
  all_goals
    rw [(hm c).1, (hm c).2]
    funext i
    rw [eq_ix2 i]
  · exact cut_apply _ rfl _ _ Cert.Kernel7Ideal.Gen.bitsLt_bf16_f32 _ Cert.Reference7Ideal.Gen.slices_S64x10240_S64x4096_0_0 (i 0) (i 1) _ rfl
  · exact cut_apply _ rfl _ _ Cert.Kernel7Ideal.Gen.bitsLt_bf16_f32 _ Cert.Reference7Ideal.Gen.slices_S64x10240_S64x2048_0_4096 (i 0) (i 1) _ rfl
  · exact cut_apply _ rfl _ _ Cert.Kernel7Ideal.Gen.bitsLt_bf16_f32 _ Cert.Reference7Ideal.Gen.slices_S64x10240_S64x2048_0_6144 (i 0) (i 1) _ rfl
  · exact cut_apply _ rfl _ _ Cert.Kernel7Ideal.Gen.bitsLt_bf16_f32 _ Cert.Reference7Ideal.Gen.slices_S64x10240_S64x2048_0_8192 (i 0) (i 1) _ rfl

end Cert.Proof.EvenSample

end
-- ==== Proof.Sample.OddRun.lean ====
/-
  The odd layer's projection program for the sample batch run to its end: every buffer that outlives the regions at the contents of the last boundary.
-/
module

public import proofs.«01_k».proof.Proof.Gen.Kernel8Ideal.Frame

@[expose] public section

noncomputable section

namespace Cert.Proof.OddSample

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the four regions, the last boundary's contents read against the final state. -/
theorem run : θ_run defs (onTc (τ := τ) (main (F := F))) ⟨m, fun _ => 0, ρ⟩ (fun r =>
      ∀ c : Dev nD, ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)

end Cert.Proof.OddSample

end
-- ==== Proof.Sample.Odd.lean ====
/-
  The odd layer's input projection for the sample batch, on the extended reals: the four calls' tiles (queries and keys normalised by heads,
  values, and the gated unit) and the reference's whole product, cut into its columns, are the same, index by index.
-/
module

public import proofs.«01_k».proof.Defs
public import proofs.«01_k».proof.Proof.Proj.Odd
public import proofs.«01_k».proof.Proof.Sample.OddRun
public import proofs.«01_k».proof.Proof.Gen.Reference8Ideal.Run
public import Idealize.ShloMosaic.Lib.Pipeline.ValueKit.Geometry
public import Idealize.ShloMosaic.Lib.StableHlo.Run
public import Idealize.ShloMosaic.Lib.Claim

@[expose] public section

noncomputable section

open Idealize.ShloMosaic Idealize.ShloMosaic.TcCoe Idealize.ShloMosaic.ValueIdx Idealize.ShloMosaic.StackMember Idealize.SL.Sem
open Idealize.ShloMosaic.Pipeline (Dat)
open Cert.Proof.Proj
open scoped BigOperators

namespace Cert.Proof.OddSample

open Cert.Proof.Odd (unitAt scaleRow scaleRow_apply)

section Kernel

open Cert.Kernel8Ideal Cert.Kernel8Ideal.Gen

/-- The product of a rows' block by a weight's column block. -/
abbrev prod (x : Vec Ideal S64x4096 .f32) (b : Vec Ideal S1x4096x1024 .bf16) : FVec Ideal S64x1024 .f32 :=
  matmul (F := Ideal) (φ₁ := .bf16) (φ₂ := .bf16) dot_S64x4096_S4096x1024_S64x1024_1_0_0_1_n_n none (truncf (F := Ideal) .bf16 x bitsLt_bf16_f32) (shapeCast S4096x1024 b shapeCasts_S1x4096x1024_S4096x1024)
    (constant (F := Ideal) S64x1024 .f32 0x00000000#32)

theorem slice_facts : SliceFacts 64 :=
  ⟨by decide, reduces_S64x128_S64, shapeCasts_S64_S64x1, broadcasts_S64x1_S64x128, shapeCasts_S1x128_S1x128, broadcasts_S1x128_S64x128⟩

/-- A tile of the queries' call: eight normalised slices. -/
theorem tile0 (x : Vec Ideal S64x4096 .f32) (b : Vec Ideal S1x4096x1024 .bf16) (s : Vec Ideal S1x1024 .f32) (v : Vec Ideal S64x1024 .f32)
    (h : ∀ g r d, (normed slice_facts (prod x b) s g (ix2 r d) : EReal) = v (ix2 r (gcol g d))) : out0_3 x b s = v := by
  have e0 : View.ld x r0_1 = x := View.ld_unit_zero (S := S64x4096) zeros2 _ x
  have e1 : View.ld b r0_0 = b := View.ld_unit_zero (S := S1x4096x1024) zeros3 _ b
  unfold_out out0_3
  rw [e0, e1]
  exact slices_canon (e := .f32) (fun g => normed slice_facts (prod x b) s g) v h
    (View.cover_of_tiled (s := S64x1024) _ S64x128.size (by rfl))

/-- A tile of the keys' call: eight normalised slices. -/
theorem tile1 (x : Vec Ideal S64x4096 .f32) (b : Vec Ideal S1x4096x1024 .bf16) (s : Vec Ideal S1x1024 .f32) (v : Vec Ideal S64x1024 .f32)
    (h : ∀ g r d, (normed slice_facts (prod x b) s g (ix2 r d) : EReal) = v (ix2 r (gcol g d))) : out1_3 x b s = v := by
  have e0 : View.ld x r1_1 = x := View.ld_unit_zero (S := S64x4096) zeros2 _ x
  have e1 : View.ld b r1_0 = b := View.ld_unit_zero (S := S1x4096x1024) zeros3 _ b
  unfold_out out1_3
  rw [e0, e1]
  exact slices_canon (e := .f32) (fun g => normed slice_facts (prod x b) s g) v h (View.cover_of_tiled (s := S64x1024) _ S64x128.size (by rfl))

/-- A tile of the values' call: the product. -/
theorem tile2 (x : Vec Ideal S64x4096 .f32) (b : Vec Ideal S1x4096x1024 .bf16) : out2_2 x b = prod x b := by
  unfold out2_2
  rw [View.canon_unit_zero zeros2, View.ld_unit_zero zeros3, View.ld_unit_zero zeros2]
  rfl

/-- A tile of the fourth call: the gated unit of the product, element by element. -/
theorem tile3 (x : Vec Ideal S64x4096 .f32) (b : Vec Ideal S1x4096x1024 .bf16) : out3_2 x b = fun y => unitAt (prod x b y) := by
  unfold out3_2
  rw [View.canon_unit_zero zeros2, View.ld_unit_zero zeros3, View.ld_unit_zero zeros2]
  rfl

variable (V : (c : Dev nD) → (b : Ref sig .tc) → Buf (Elt Ideal) ((c : Thread nD τ).loc b))

/-- The sample batch's rows as the calls multiply them. -/
def rows (c : Dev nD) : FVec Ideal S64x4096 .bf16 := truncf (F := Ideal) .bf16 (V c main_arg0) bitsLt_bf16_f32

/-- Call 0's blocks at every point: rows, columns and scales of the result's block. -/
theorem points0 : ∀ t : Fin cfg0.N, (win0_0.index t 0 = win0_3.index t 0 ∧ win0_0.index t 1 = 0)
    ∧ (win0_1.index t 0 = 0 ∧ win0_1.index t 1 = 0 ∧ win0_1.index t 2 = 0 + win0_3.index t 1) ∧ (win0_2.index t 0 = 0 ∧ win0_2.index t 1 = win0_3.index t 1) :=
  (by decide +kernel : ∀ t : Fin grid0.N, _)

/-- Call 0's result after the run: the queries, normalised by heads. -/
theorem final0 (c : Dev nD) : (dat0 V c).arrAt 3 cfg0.N
    = fun i : S64x2048.Idx => normAt (fun j => dotAt (rows V c) (V c main_v1) (i 0) (colFrom (0 * 1024) (by decide) j)) (fun j => V c main_v8 (ix2 0 j)) (i 1) := by
  refine (dat0 V c).arrAt_eq_of_covers 3 _ (by decide +kernel) fun t _ (y : S64x1024.Idx) => ?_
  show (dat0 V c).after 3 t y = normAt _ _ _
  rw [after0_3]
  refine congrFun (tile0 (iblk0 V c 0 t) (iblk0 V c 1 t) (iblk0 V c 2 t)
    (fun y => normAt (fun j => dotAt (rows V c) (V c main_v1) (((cfg0.win 3).blk t).view.emb y 0) (colFrom (0 * 1024) (by decide) j))
      (fun j => V c main_v8 (ix2 0 j)) (((cfg0.win 3).blk t).view.emb y 1)) fun g r d => ?_) y
  exact normed_of_blocks slice_facts _ rfl _ (rows V c) (V c main_v1) (V c main_v8) ((cfg0.win 0).blk t).view.emb ((cfg0.win 1).blk t).view.emb ((cfg0.win 2).blk t).view.emb
    ((cfg0.win 3).blk t).view.emb (win0_0.index t) (win0_2.index t) (win0_3.index t) (win0_1.index t) (fun _ a => by fin_cases a <;> rfl) (fun _ a => by fin_cases a <;> rfl)
    (fun _ a => by fin_cases a <;> rfl) (fun _ a => by fin_cases a <;> rfl) 0 (by decide) (points0 t).1 (points0 t).2.1 (points0 t).2.2 g r d

/-- Call 1's blocks at every point: rows, columns (2 blocks further in the weight) and scales of the result's block. -/
theorem points1 : ∀ t : Fin cfg1.N, (win1_0.index t 0 = win1_3.index t 0 ∧ win1_0.index t 1 = 0)
    ∧ (win1_1.index t 0 = 0 ∧ win1_1.index t 1 = 0 ∧ win1_1.index t 2 = 2 + win1_3.index t 1) ∧ (win1_2.index t 0 = 0 ∧ win1_2.index t 1 = win1_3.index t 1) :=
  (by decide +kernel : ∀ t : Fin grid1.N, _)

/-- Call 1's result after the run: the keys, normalised by heads. -/
theorem final1 (c : Dev nD) : (dat1 V c).arrAt 3 cfg1.N
    = fun i : S64x2048.Idx => normAt (fun j => dotAt (rows V c) (V c main_v1) (i 0) (colFrom (2 * 1024) (by decide) j)) (fun j => V c main_v10 (ix2 0 j)) (i 1) := by
  refine (dat1 V c).arrAt_eq_of_covers 3 _ (by decide +kernel) fun t _ (y : S64x1024.Idx) => ?_
  show (dat1 V c).after 3 t y = normAt _ _ _
  rw [after1_3]
  refine congrFun (tile1 (iblk1 V c 0 t) (iblk1 V c 1 t) (iblk1 V c 2 t)
    (fun y => normAt (fun j => dotAt (rows V c) (V c main_v1) (((cfg1.win 3).blk t).view.emb y 0) (colFrom (2 * 1024) (by decide) j))
      (fun j => V c main_v10 (ix2 0 j)) (((cfg1.win 3).blk t).view.emb y 1)) fun g r d => ?_) y
  exact normed_of_blocks slice_facts _ rfl _ (rows V c) (V c main_v1) (V c main_v10) ((cfg1.win 0).blk t).view.emb ((cfg1.win 1).blk t).view.emb ((cfg1.win 2).blk t).view.emb
    ((cfg1.win 3).blk t).view.emb (win1_0.index t) (win1_2.index t) (win1_3.index t) (win1_1.index t) (fun _ a => by fin_cases a <;> rfl) (fun _ a => by fin_cases a <;> rfl)
    (fun _ a => by fin_cases a <;> rfl) (fun _ a => by fin_cases a <;> rfl) 2 (by decide) (points1 t).1 (points1 t).2.1 (points1 t).2.2 g r d

/-- Call 2's blocks at every point: rows and columns of the result's block, 4 blocks further in the weight. -/
theorem points2 : ∀ t : Fin cfg2.N, (win2_0.index t 0 = win2_2.index t 0 ∧ win2_0.index t 1 = 0)
    ∧ (win2_1.index t 0 = 0 ∧ win2_1.index t 1 = 0 ∧ win2_1.index t 2 = 4 + win2_2.index t 1) :=
  (by decide +kernel : ∀ t : Fin grid2.N, _)

/-- Call 2's result after the run: the values. -/
theorem final2 (c : Dev nD) : (dat2 V c).arrAt 2 cfg2.N
    = fun i : S64x2048.Idx => dotAt (rows V c) (V c main_v1) (i 0) (colFrom (4 * 1024) (by decide) (i 1 : Fin 2048)) := by
  refine (dat2 V c).arrAt_eq_of_covers 2 _ (by decide +kernel) fun t _ (y : S64x1024.Idx) => ?_
  show (dat2 V c).after 2 t y = dotAt _ _ _ _
  rw [after2_2]
  refine (congrFun (tile2 (iblk2 V c 0 t) (iblk2 V c 1 t)) y).trans ?_
  exact tile_of_blocks _ rfl _ (rows V c) (V c main_v1) ((cfg2.win 0).blk t).view.emb ((cfg2.win 1).blk t).view.emb ((cfg2.win 2).blk t).view.emb
    (win2_0.index t) (win2_2.index t) (win2_1.index t) (fun _ a => by fin_cases a <;> rfl) (fun _ a => by fin_cases a <;> rfl) (fun _ a => by fin_cases a <;> rfl) 4 (by decide)
    (points2 t).1 (points2 t).2 y

/-- Call 3's blocks at every point: rows and columns of the result's block, 6 blocks further in the weight. -/
theorem points3 : ∀ t : Fin cfg3.N, (win3_0.index t 0 = win3_2.index t 0 ∧ win3_0.index t 1 = 0)
    ∧ (win3_1.index t 0 = 0 ∧ win3_1.index t 1 = 0 ∧ win3_1.index t 2 = 6 + win3_2.index t 1) :=
  (by decide +kernel : ∀ t : Fin grid3.N, _)

/-- Call 3's result after the run: the gated unit of the last columns. -/
theorem final3 (c : Dev nD) : (dat3 V c).arrAt 2 cfg3.N
    = fun i : S64x4096.Idx => unitAt (dotAt (rows V c) (V c main_v1) (i 0) (colFrom (6 * 1024) (by decide) (i 1 : Fin 4096))) := by
  refine (dat3 V c).arrAt_eq_of_covers 2 _ (by decide +kernel) fun t _ (y : S64x1024.Idx) => ?_
  show (dat3 V c).after 2 t y = unitAt _
  rw [after3_2]
  refine (congrFun (tile3 (iblk3 V c 0 t) (iblk3 V c 1 t)) y).trans (congrArg unitAt ?_)
  exact tile_of_blocks _ rfl _ (rows V c) (V c main_v1) ((cfg3.win 0).blk t).view.emb ((cfg3.win 1).blk t).view.emb ((cfg3.win 2).blk t).view.emb
    (win3_0.index t) (win3_2.index t) (win3_1.index t) (fun _ a => by fin_cases a <;> rfl) (fun _ a => by fin_cases a <;> rfl) (fun _ a => by fin_cases a <;> rfl) 6 (by decide)
    (points3 t).1 (points3 t).2 y

variable (m : (ℓ : Loc nD τ sig) → Buf (Elt Ideal) ℓ) (ρ : Dev nD → PrngReg)

/-- The weight as the calls read it: the argument rounded to bf16, as one layer of one. -/
theorem weight (c : Dev nD) : W1 m ρ c (Proc.devRef .tc main_v1)
    = broadcastInDim S1x4096x10240 ![1, 2] bcast_S4096x10240_S1x4096x10240_1_2 (truncf (F := Ideal) .bf16 (m ((c : Thread nD τ).loc main_arg1)) bitsLt_bf16_f32) := by
  unfold_abbrev_sides
  after_results

/-- The queries' scales as the first call reads them. -/
theorem scaleQ (c : Dev nD) : W1 m ρ c (Proc.devRef .tc main_v8) = scaleRow (m ((c : Thread nD τ).loc main_arg2)) := by
  unfold_abbrev_sides
  after_results
  rfl

/-- The keys' scales, repeated for the heads, before the first call. -/
theorem scaleK1 (c : Dev nD) : W1 m ρ c (Proc.devRef .tc main_v7)
    = shapeCast S2048 (broadcastInDim S16x128 ![0, 1] bcast_S1x128_S16x128_0_1 (shapeCast S1x128 (m ((c : Thread nD τ).loc main_arg3)) shapeCasts_S128_S1x128)) shapeCasts_S16x128_S2048 := by
  unfold_abbrev_sides
  after_results
  rfl

/-- The keys' scales as the second call reads them. -/
theorem scaleK (c : Dev nD) : W3 m ρ c (Proc.devRef .tc main_v10) = scaleRow (m ((c : Thread nD τ).loc main_arg3)) := by
  have e : W3 m ρ c (Proc.devRef .tc main_v10) = shapeCast S1x2048 (W2 m ρ c (Proc.devRef .tc main_v7)) shapeCasts_S2048_S1x2048 := by
    unfold W3
    after_results
    rfl
  rw [e, W2_of m ρ c main_v7 (by decide +kernel), scaleK1]
  rfl

theorem keep2 (c : Dev nD) : W2 m ρ c (Proc.devRef .tc main_v1) = W1 m ρ c (Proc.devRef .tc main_v1) := W2_of m ρ c main_v1 (by decide +kernel)
theorem keep3 (c : Dev nD) : W3 m ρ c (Proc.devRef .tc main_v1) = W1 m ρ c (Proc.devRef .tc main_v1) := (W3_of m ρ c main_v1 (by decide)).trans (keep2 m ρ c)
theorem keep4 (c : Dev nD) : W4 m ρ c (Proc.devRef .tc main_v1) = W1 m ρ c (Proc.devRef .tc main_v1) := (W4_of m ρ c main_v1 (by decide +kernel)).trans (keep3 m ρ c)
theorem keep5 (c : Dev nD) : W5 m ρ c (Proc.devRef .tc main_v1) = W1 m ρ c (Proc.devRef .tc main_v1) := (W5_of m ρ c main_v1 (by decide +kernel)).trans (keep4 m ρ c)

/-- The product's column `j` of those from `o` on, at row `r`. -/
def column {n : ℕ} (o : ℕ) (ho : o + n ≤ 10240) (c : Dev nD) (r : Fin 64) (j : Fin n) : EReal :=
  prodAt (m ((c : Thread nD τ).loc main_arg0)) (m ((c : Thread nD τ).loc main_arg1)) r (colFrom o ho j)

/-- What a call sums, once its two arrays are the launch's rows and the converted weight. -/
theorem column_eq {n : ℕ} (o : ℕ) (ho : o + n ≤ 10240) (c : Dev nD) (h : Vec Ideal S64x4096 .bf16) (w : Vec Ideal S1x4096x10240 .bf16)
    (eh : h = m ((c : Thread nD τ).loc main_arg0)) (ew : w = W1 m ρ c (Proc.devRef .tc main_v1)) (r : Fin 64) (j : Fin n) :
    dotAt h w r (colFrom o ho j) = column m o ho c r j := by
  rw [eh, ew, weight]
  exact dotAt_cast _ _ _ _ _ _ (by decide) (by decide)

/-- One normalised result: the product's 2048 columns from `o` on, by heads, times a scale. -/
def normal (o : ℕ) (ho : o + 2048 ≤ 10240) (c : Dev nD) (s : FVec Ideal S128 .f32) (i : S64x2048.Idx) : EReal :=
  normAt (column m o ho c (i 0)) (fun k => s (ix1 ⟨k.val % 128, by omega⟩)) (i 1)

/-- What a normalising call writes, once its arrays are the launch's rows, the converted weight and the repeated scale. -/
theorem normal_eq (o : ℕ) (ho : o + 2048 ≤ 10240) (c : Dev nD) (s : FVec Ideal S128 .f32) (h : Vec Ideal S64x4096 .bf16) (w : Vec Ideal S1x4096x10240 .bf16)
    (t : Vec Ideal S1x2048 .f32) (eh : h = m ((c : Thread nD τ).loc main_arg0)) (ew : w = W1 m ρ c (Proc.devRef .tc main_v1)) (et : t = scaleRow s) :
    (fun i : S64x2048.Idx => normAt (fun j => dotAt h w (i 0) (colFrom o ho j)) (fun j => t (ix2 0 j)) (i 1)) = normal m o ho c s := by
  funext i
  refine congrArg₂ (fun f g => normAt f g (i 1)) (funext fun j => column_eq m ρ o ho c h w eh ew (i 0) j) (funext fun j => ?_)
  rw [et]
  exact scaleRow_apply s j

theorem end9 (c : Dev nD) : W6 m ρ c (Proc.devRef .tc main_v9) = normal m (0 * 1024) (by decide) c (m ((c : Thread nD τ).loc main_arg2)) :=
  (W6_of m ρ c main_v9 (by decide +kernel)).trans ((W5_of m ρ c main_v9 (by decide +kernel)).trans ((W4_of m ρ c main_v9 (by decide +kernel)).trans
    ((W3_of m ρ c main_v9 (by decide)).trans ((W2_arr m ρ c 3).trans ((final0 (V1 m ρ) c).trans
      (normal_eq m ρ _ _ c _ _ _ _ (W1_args m ρ c main_arg0 (by decide)) rfl (scaleQ m ρ c)))))))
theorem end11 (c : Dev nD) : W6 m ρ c (Proc.devRef .tc main_v11) = normal m (2 * 1024) (by decide) c (m ((c : Thread nD τ).loc main_arg3)) :=
  (W6_of m ρ c main_v11 (by decide +kernel)).trans ((W5_of m ρ c main_v11 (by decide +kernel)).trans ((W4_arr m ρ c 3).trans ((final1 (V3 m ρ) c).trans
    (normal_eq m ρ _ _ c _ _ _ _ (W3_args m ρ c main_arg0 (by decide)) (keep3 m ρ c) (scaleK m ρ c)))))
theorem end12 (c : Dev nD) : W6 m ρ c (Proc.devRef .tc main_v12) = fun i : S64x2048.Idx => column m (4 * 1024) (by decide) c (i 0) (i 1 : Fin 2048) :=
  (W6_of m ρ c main_v12 (by decide +kernel)).trans ((W5_arr m ρ c 2).trans ((final2 (V4 m ρ) c).trans
    (funext fun i => column_eq m ρ _ _ c _ _ (W4_args m ρ c main_arg0 (by decide)) (keep4 m ρ c) _ _)))
theorem end13 (c : Dev nD) : W6 m ρ c (Proc.devRef .tc main_v13) = fun i : S64x4096.Idx => unitAt (column m (6 * 1024) (by decide) c (i 0) (i 1 : Fin 4096)) :=
  (W6_arr m ρ c 2).trans ((final3 (V5 m ρ) c).trans
    (funext fun i => congrArg unitAt (column_eq m ρ _ _ c _ _ (W5_args m ρ c main_arg0 (by decide)) (keep5 m ρ c) _ _)))

end Kernel

section Reference

open Cert.Reference8Ideal Cert.Reference8Ideal.Gen

theorem head_facts : HeadFacts 64 :=
  ⟨by decide, shapeCasts_S64x2048_S64x8x2x128, reducesTo_S64x8x2x128_S64x8x2_d3, by decide, h_S_, bcast_S64x8x2_S64x8x2x1_0_1_2, bcast_S_S64x8x2x1,
    bcast_S64x8x2x1_S64x8x2x128_0_1_2_3, bcast_S128_S1x1x1x128_3, bcast_S1x1x1x128_S64x8x2x128_0_1_2_3, shapeCasts_S64x8x2x128_S64x2048⟩

/-- The reference's columns of its product, normalised by heads, at an index. -/
theorem heads_cut (h : FVec Ideal S64x4096 .f32) (w : FVec Ideal S4096x10240 .f32) (s : FVec Ideal S128 .f32) (o : ℕ) (ho : o + 2048 ≤ 10240)
    (hs : S64x10240.Slices ![0, o] S64x2048) (i : S64x2048.Idx) :
    (heads head_facts (extractStridedSlice S64x2048 ![0, o] (Host.dotGeneral (F := Ideal) dot_S64x4096_S4096x10240_S64x10240_1_0_0_1_n_n none h w) hs) s i : EReal)
      = normAt (fun j => prodAt (truncf (F := Ideal) .bf16 h Cert.Kernel8Ideal.Gen.bitsLt_bf16_f32) w (i 0) (colFrom o ho j)) (fun k => s (ix1 ⟨k.val % 128, by omega⟩)) (i 1) := by
  rw [eq_ix2 i]
  refine (heads_apply _ _ s (i 0) (i 1)).trans ?_
  exact congrArg (fun f => normAt f _ (i 1)) (funext fun j => cut_apply _ rfl (truncf (F := Ideal) .bf16 h Cert.Kernel8Ideal.Gen.bitsLt_bf16_f32) w Cert.Kernel8Ideal.Gen.bitsLt_bf16_f32 o hs (i 0) j _ rfl)

end Reference

/-- The two programs compute the same function: from equal arguments each of the four results is the same function of the same columns of one product. -/
theorem algebraic (hK : Cert.Kernel8Ideal.Facts) (hR : Cert.Reference8Ideal.Facts) :
    Cert.algebraic_Kernel8Ideal_Reference8Ideal (hKernel8Ideal := hK) (hReference8Ideal := hR) := by
  intro m g m' g' _ hm
  refine ⟨fun c => normal m (0 * 1024) (by decide) c (m ((c.tc : Thread Cert.Kernel8Ideal.nD Cert.Kernel8Ideal.τ).loc Cert.Kernel8Ideal.main_arg2)),
    fun c => normal m (2 * 1024) (by decide) c (m ((c.tc : Thread Cert.Kernel8Ideal.nD Cert.Kernel8Ideal.τ).loc Cert.Kernel8Ideal.main_arg3)),
    fun c => fun i : Cert.Kernel8Ideal.S64x2048.Idx => column m (4 * 1024) (by decide) c (i 0) (i 1 : Fin 2048),
    fun c => fun i : Cert.Kernel8Ideal.S64x4096.Idx => unitAt (column m (6 * 1024) (by decide) c (i 0) (i 1 : Fin 4096)),
    (θ_run _ _ _).mono (fun r h c => ⟨?_, ?_, ?_, ?_, ?_, ?_, ?_, ?_⟩) (run m g),
    (θ_run _ _ _).mono (fun r h c => ⟨(h c).1.trans ?_, (h c).2.1.trans ?_, (h c).2.2.1.trans ?_, (h c).2.2.2.1.trans ?_, (h c).2.2.2.2⟩) (Cert.Reference8Ideal.Value.run m' g')⟩
  · exact (h c _ (Cert.Kernel8Ideal.Gen.mem_uc _ (by decide))).trans (end9 m g c)
  · exact (h c _ (Cert.Kernel8Ideal.Gen.mem_uc _ (by decide))).trans (end11 m g c)
  · exact (h c _ (Cert.Kernel8Ideal.Gen.mem_uc _ (by decide))).trans (end12 m g c)
  · exact (h c _ (Cert.Kernel8Ideal.Gen.mem_uc _ (by decide))).trans (end13 m g c)
  · exact (h c _ (Cert.Kernel8Ideal.Gen.mem_uc _ (by decide))).trans (Cert.Kernel8Ideal.Gen.W6_main_arg0 m g c)
  · exact (h c _ (Cert.Kernel8Ideal.Gen.mem_uc _ (by decide))).trans (Cert.Kernel8Ideal.Gen.W6_main_arg1 m g c)
  · exact (h c _ (Cert.Kernel8Ideal.Gen.mem_uc _ (by decide))).trans (Cert.Kernel8Ideal.Gen.W6_main_arg2 m g c)
  · exact (h c _ (Cert.Kernel8Ideal.Gen.mem_uc _ (by decide))).trans (Cert.Kernel8Ideal.Gen.W6_main_arg3 m g c)
  · rw [(hm c).1, (hm c).2.1, (hm c).2.2.1]
    funext i
    exact heads_cut _ _ _ _ (by decide) Cert.Reference8Ideal.Gen.slices_S64x10240_S64x2048_0_0 i
  · rw [(hm c).1, (hm c).2.1, (hm c).2.2.2]
    funext i
    exact heads_cut _ _ _ _ (by decide) Cert.Reference8Ideal.Gen.slices_S64x10240_S64x2048_0_2048 i
  · rw [(hm c).1, (hm c).2.1]
    funext i
    rw [eq_ix2 i]
    exact cut_apply _ rfl _ _ Cert.Kernel8Ideal.Gen.bitsLt_bf16_f32 _ Cert.Reference8Ideal.Gen.slices_S64x10240_S64x2048_0_4096 (i 0) (i 1) _ rfl
  · rw [(hm c).1, (hm c).2.1]
    funext i
    rw [eq_ix2 i]
    exact congrArg unitAt (cut_apply _ rfl _ _ Cert.Kernel8Ideal.Gen.bitsLt_bf16_f32 _ Cert.Reference8Ideal.Gen.slices_S64x10240_S64x4096_0_6144 (i 0) (i 1) _ rfl)

end Cert.Proof.OddSample

end
-- ==== Proof.Sample.DownBody.lean ====
/-
  The MLP's down-projection for the sample batch, one grid point: what each of the body's three cases leaves in its scratch and in its result's
  block.  The first quarter of a row's product is stored, the later three are added to it, and after the fourth the block is
  the residual plus the gate times the sum.
-/
module

public import proofs.«01_k».proof.Defs
public import proofs.«01_k».proof.Proof.Mlp.Down
public import proofs.«01_k».proof.Proof.Gen.Kernel9Ideal.Value
public import Idealize.ShloMosaic.Lib.Pipeline.ValueKit.Geometry
public import Idealize.ShloMosaic.Lib.MatmulPlain
public import Idealize.ShloMosaic.Lib.ValueLayout
public import Idealize.ShloMosaic.PureOps.Ideal.Laws

@[expose] public section

noncomputable section

open Idealize.ShloMosaic Idealize.ShloMosaic.TcCoe Idealize.ShloMosaic.ValueIdx Idealize.SL.Sem
open Idealize.ShloMosaic.Pipeline (Dat)
open scoped BigOperators

namespace Cert.Proof.DownSample

open Cert.Kernel9Ideal Cert.Kernel9Ideal.Gen

open Cert.Proof.Down (zeros2 zeros3)

section Cases

variable {F : FTy → Type} [FloatOps F]
variable (c : Dev nD) (i : grid0.Coords) (a3 : Memref sig .tc .vmem S64x4096 .bf16) (h3 : a3.IsWhole)
  (a4 : Memref sig .tc .vmem S1x4096x512 .bf16) (h4 : a4.IsWhole) (a5 : Memref sig .tc .vmem S64x512 .f32) (h5 : a5.IsWhole)
  (a6 : Memref sig .tc .vmem S64x512 .f32) (h6 : a6.IsWhole) (a7 : Memref sig .tc .vmem S64x512 .f32) (h7 : a7.IsWhole)
  (a8 : Memref sig .tc .vmem S64x512 .f32) (h8 : a8.IsWhole)
  (x : Vec F S64x4096 .bf16) (w : Vec F S1x4096x512 .bf16) (res : Vec F S64x512 .f32) (gate : Vec F S64x512 .f32)
  (acc : Vec F S64x512 .f32)

/-- The first quarter leaves its partial product in the scratch. -/
theorem scratch_A (hc0 : cond0_0 i) (hc1 : ¬cond0_1 i) (hc2 : ¬cond0_2 i) :
    sout0_A_0 c i a3 h3 a4 h4 a5 h5 a6 h6 a7 h7 a8 h8 hc0 hc1 hc2 x w res gate = k0_pay2 w x := by
  unfold sout0_A_0
  rw [View.read_writes_eq_canon _ _ _ (scover0_A_0 c i a3 h3 a4 h4 a5 h5 a6 h6 a7 h7 a8 h8 hc0 hc1 hc2 x w res gate)]
  unfold kernelRun0_A
  dsimp only
  rw [View.canon_unit_zero zeros2]
  simp only [View.readAt_eq_ld, h3.read_unread, h4.read_unread, View.ld_unit_zero (S := S64x4096) zeros2, View.ld_unit_zero (S := S64x512) zeros2,
    View.ld_unit_zero (S := S1x4096x512) zeros3]

/-- A middle quarter adds its partial product to the scratch. -/
theorem scratch_B (hc0 : ¬cond0_0 i) (hc1 : cond0_1 i) (hc2 : ¬cond0_2 i) :
    sout0_B_0 c i a3 h3 a4 h4 a5 h5 a6 h6 a7 h7 a8 h8 hc0 hc1 hc2 x w res gate acc = k0_pay3 w x acc := by
  unfold sout0_B_0
  rw [View.read_writes_eq_canon _ _ _ (scover0_B_0 c i a3 h3 a4 h4 a5 h5 a6 h6 a7 h7 a8 h8 hc0 hc1 hc2 x w res gate acc)]
  unfold kernelRun0_B
  dsimp only
  rw [View.canon_unit_zero zeros2]
  simp only [View.readAt_eq_ld, h3.read_unread, h4.read_unread, h8.read_unread, View.ld_unit_zero (S := S64x4096) zeros2, View.ld_unit_zero (S := S64x512) zeros2,
    View.ld_unit_zero (S := S1x4096x512) zeros3]

/-- The last quarter leaves the residual plus the gate times the finished sum in the result's block. -/
theorem out_C (hc0 : ¬cond0_0 i) (hc1 : cond0_1 i) (hc2 : cond0_2 i) :
    out0_C_4 c i a3 h3 a4 h4 a5 h5 a6 h6 a7 h7 a8 h8 hc0 hc1 hc2 x w res gate acc = k0_pay4 (k0_pay3 w x acc) gate res := by
  unfold out0_C_4
  rw [View.read_writes_eq_canon _ _ _ (cover0_C_4 c i a3 h3 a4 h4 a5 h5 a6 h6 a7 h7 a8 h8 hc0 hc1 hc2 x w res gate acc)]
  unfold kernelRun0_C
  dsimp only
  sl_unfold_words
  rw [View.canon_unit_zero zeros2, View.readCov_unit_zero _ zeros2]
  simp only [View.readAt_eq_ld, h3.read_unread, h4.read_unread, h5.read_unread, h6.read_unread, h8.read_unread, View.ld_unit_zero (S := S64x4096) zeros2, View.ld_unit_zero (S := S64x512) zeros2,
    View.ld_unit_zero (S := S1x4096x512) zeros3]

end Cases

/-- A quarter's partial product at row `r` and column `j`. -/
theorem part_apply (x : Vec Ideal S64x4096 .bf16) (w : Vec Ideal S1x4096x512 .bf16) (r : Fin 64) (j : Fin 512) :
    (k0_pay1 w x (ix2 r j) : EReal) = ∑ k : Fin 4096, (x (ix2 r k) : EReal) * w (ix3 0 k j) := by
  refine (Ideal.matmul_plain_apply (φ₁ := .bf16) (φ₂ := .bf16) (M := 64) (K := 4096) (N := 512) none x _ _ r j).trans ?_
  refine (congrArg₂ (· + ·) Ideal.ofBits_zero_f32 (Finset.sum_congr rfl fun k _ => ?_)).trans (zero_add _)
  exact congrArg (x (ix2 r k) * ·) (shapeCast_1ab_ab_apply w shapeCasts_S1x4096x512_S4096x512 k j)

/-- The first quarter's scratch at row `r` and column `j`. -/
theorem first_apply (x : Vec Ideal S64x4096 .bf16) (w : Vec Ideal S1x4096x512 .bf16) (r : Fin 64) (j : Fin 512) :
    (k0_pay2 w x (ix2 r j) : EReal) = ∑ k : Fin 4096, (x (ix2 r k) : EReal) * w (ix3 0 k j) :=
  (congrFun (shapeCast_self (k0_pay1 w x) shapeCasts_S64x512_S64x512) (ix2 r j)).trans (part_apply x w r j)

/-- A later quarter's scratch at row `r` and column `j`. -/
theorem next_apply (x : Vec Ideal S64x4096 .bf16) (w : Vec Ideal S1x4096x512 .bf16) (acc : Vec Ideal S64x512 .f32) (r : Fin 64) (j : Fin 512) :
    (k0_pay3 w x acc (ix2 r j) : EReal) = (acc (ix2 r j) : EReal) + ∑ k : Fin 4096, (x (ix2 r k) : EReal) * w (ix3 0 k j) :=
  (congrFun (shapeCast_self (addf acc (k0_pay1 w x)) shapeCasts_S64x512_S64x512) (ix2 r j)).trans
    (congrArg ((acc (ix2 r j) : EReal) + ·) (part_apply x w r j))

/-- The result's block at row `r` and column `j`. -/
theorem close_apply (acc : Vec Ideal S64x512 .f32) (gate : Vec Ideal S64x512 .f32) (res : Vec Ideal S64x512 .f32) (r : Fin 64) (j : Fin 512) :
    (k0_pay4 acc gate res (ix2 r j) : EReal) = (res (ix2 r j) : EReal) + (gate (ix2 r j) : EReal) * acc (ix2 r j) :=
  congrArg₂ (fun a b : EReal => a + b * acc (ix2 r j)) (congrFun (shapeCast_self res shapeCasts_S64x512_S64x512) _)
    (congrFun (shapeCast_self gate shapeCasts_S64x512_S64x512) _)

end Cert.Proof.DownSample

end
-- ==== Proof.Sample.Down.lean ====
/-
  The MLP's down-projection with its gate and residual for the sample batch, on the extended reals: the kernel sums a row's product in four
  quarters of 4096, the reference in one, and both end at `residual + gate · ∑ x · w`, index by index.
-/
module

public import proofs.«01_k».proof.Proof.Sample.DownBody
public import proofs.«01_k».proof.Proof.Gen.Reference9Ideal.Run
public import Idealize.ShloMosaic.Lib.StackMember
public import Idealize.ShloMosaic.Lib.StableHlo.Run

@[expose] public section

noncomputable section

open Idealize.ShloMosaic Idealize.ShloMosaic.TcCoe Idealize.ShloMosaic.ValueIdx Idealize.ShloMosaic.StackMember Idealize.SL.Sem
open Idealize.ShloMosaic.Pipeline (Dat)
open Cert.Proof.Down (quarters)
open scoped BigOperators

namespace Cert.Proof.DownSample

open Cert.Kernel9Ideal Cert.Kernel9Ideal.Gen

variable (m : (ℓ : Loc nD τ sig) → Buf (Elt Ideal) ℓ)

/-- The batch of flat row `r`. -/
def batch (r : Fin 64) : Fin 8 := ⟨r.val / 8, by omega⟩

/-- The token of flat row `r` in its batch. -/
def token (r : Fin 64) : Fin 8 := ⟨r.val % 8, by omega⟩

/-- The down-projection of layer 1 at flat row `r` and column `j`: the residual plus the gate times the product. -/
def down (x : S64x16384.Idx → EReal) (w : S2x16384x4096.Idx → EReal) (res : S8x8x4096.Idx → EReal)
    (gate : S8x4096.Idx → EReal) (r : Fin 64) (j : Fin 4096) : EReal :=
  res (ix3 (batch r) (token r) j) + gate (ix2 (batch r) j) * ∑ k : Fin 16384, x (ix2 r k) * w (ix3 1 k j)

/-- The windows' blocks at point `t`: the whole batch's rows, column block `t / 4`, quarter `t % 4`, layer 1 of the weight. -/
theorem points : ∀ t : Fin cfg0.N, (win0_0.index t 0 = 0 ∧ win0_0.index t 1 = t.val % 4)
    ∧ (win0_1.index t 0 = 1 ∧ win0_1.index t 1 = t.val % 4 ∧ win0_1.index t 2 = t.val / 4)
    ∧ (win0_2.index t 0 = 0 ∧ win0_2.index t 1 = t.val / 4)
    ∧ (win0_3.index t 0 = 0 ∧ win0_3.index t 1 = t.val / 4)
    ∧ (win0_4.index t 0 = 0 ∧ win0_4.index t 1 = t.val / 4) :=
  (by decide +kernel : ∀ t : Fin grid0.N, _)

/-- The quarter of the product that point `t` computes, at row `y 0` and column `y 1` of its block. -/
def part (c : Dev nD) (t : Fin cfg0.N) (y : S64x512.Idx) : EReal :=
  ∑ k : Fin 4096, (show EReal from iblk m c 0 t (ix2 (y 0) k)) * (show EReal from iblk m c 1 t (ix3 0 k (y 1)))

/-- After a block's first point the scratch holds the first quarter. -/
theorem scratch_first (c : Dev nD) (n : ℕ) (hn : n < cfg0.N) (h : n % 4 = 0) (y : S64x512.Idx) :
    ((outsAt0 m c n hn).2 y : EReal) = part m c ⟨n, hn⟩ y := by
  have e := congrArg Prod.snd (outsAt0_A m c ⟨n, hn⟩ h (by dsimp only; omega) (by dsimp only; omega))
  dsimp only at e
  rw [scratch_A] at e
  rw [e, eq_ix2 y]
  exact first_apply _ _ _ _

/-- After a middle point the scratch holds what the point before left plus this point's quarter. -/
theorem scratch_next (c : Dev nD) (n : ℕ) (hn : n + 1 < cfg0.N) (h1 : 1 ≤ (n + 1) % 4) (h2 : ¬(n + 1) % 4 = 3) (y : S64x512.Idx) :
    ((outsAt0 m c (n + 1) hn).2 y : EReal)
      = (show EReal from (outsAt0 m c n (Nat.lt_of_succ_lt hn)).2 y) + part m c ⟨n + 1, hn⟩ y := by
  have e := congrArg Prod.snd (outsAt0_B m c ⟨n + 1, hn⟩ (by dsimp only; omega) h1 h2)
  dsimp only at e
  rw [scratch_B] at e
  rw [e, eq_ix2 y]
  exact next_apply _ _ _ _ _

/-- At a block's last point the result's block is the residual plus the gate times the sum of the four quarters. -/
theorem out_last (c : Dev nD) (n : ℕ) (hn : n + 3 < cfg0.N) (h : n % 4 = 0) (y : S64x512.Idx) :
    ((outsAt0 m c (n + 3) hn).1 y : EReal)
      = (show EReal from iblk m c 2 ⟨n + 3, hn⟩ y) + (show EReal from iblk m c 3 ⟨n + 3, hn⟩ y)
        * (((part m c ⟨n, by omega⟩ y + part m c ⟨n + 1, by omega⟩ y) + part m c ⟨n + 2, by omega⟩ y) + part m c ⟨n + 3, hn⟩ y) := by
  have e := congrArg Prod.fst (outsAt0_C m c ⟨n + 3, hn⟩ (by dsimp only; omega) (by dsimp only; omega) (by dsimp only; omega))
  dsimp only at e
  rw [out_C] at e
  rw [e]
  have s : ((outsAt0 m c (n + 2) (by omega)).2 y : EReal)
      = (part m c ⟨n, by omega⟩ y + part m c ⟨n + 1, by omega⟩ y) + part m c ⟨n + 2, by omega⟩ y := by
    rw [scratch_next m c (n + 1) (by omega) (by omega) (by omega), scratch_next m c n (by omega) (by omega) (by omega),
      scratch_first m c n (by omega) h]
  rw [← s, eq_ix2 y]
  refine (close_apply _ _ _ _ _).trans ?_
  exact congrArg (fun a : EReal => (show EReal from iblk m c 2 ⟨n + 3, hn⟩ (ix2 (y 0) (y 1))) + (show EReal from iblk m c 3 ⟨n + 3, hn⟩ (ix2 (y 0) (y 1))) * a)
    (next_apply _ _ _ _ _)

/-- An array of batches read as flat rows. -/
theorem flat_apply (x : FVec Ideal S8x8x4096 .f32) (h : S8x8x4096.ShapeCasts S64x4096) (r : Fin 64) (j : Fin 4096) :
    (shapeCast S64x4096 x h (ix2 r j) : EReal) = x (ix3 (batch r) (token r) j) := by
  refine shapeCast_apply _ _ _ _ ?_
  refine (Shape.rowMajor_val_three _).trans (Eq.trans ?_ (Shape.rowMajor_val_two _).symm)
  show ((r.val / 8) * 8 + r.val % 8) * 4096 + j.val = r.val * 4096 + j.val
  omega

/-- The weight's array as the call reads it: the argument, its rounding to bf16 the identity here. -/
theorem V_weight (c : Dev nD) : V m c main_v0 = truncf (F := Ideal) .bf16 (m ((c : Thread nD τ).loc main_arg1)) bitsLt_bf16_f32 := by
  unfold_abbrev_sides
  after_results

/-- The residual's array as the call reads it: the batches' rows one after another. -/
theorem V_residual (c : Dev nD) (r : Fin 64) (j : Fin 4096) :
    (V m c main_v1 (ix2 r j) : EReal) = m ((c : Thread nD τ).loc main_arg2) (ix3 (batch r) (token r) j) := by
  have e : V m c main_v1 = shapeCast S64x4096 (m ((c : Thread nD τ).loc main_arg2)) shapeCasts_S8x8x4096_S64x4096 := by
    unfold_abbrev_sides
    after_results
    rfl
  rw [e]
  exact flat_apply _ _ r j

/-- The gate's array as the call reads it: the batch's row at each of its tokens. -/
theorem V_gate (c : Dev nD) (r : Fin 64) (j : Fin 4096) :
    (V m c main_v3 (ix2 r j) : EReal) = m ((c : Thread nD τ).loc main_arg3) (ix2 (batch r) j) := by
  have e : V m c main_v3 = shapeCast S64x4096 (broadcastInDim S8x8x4096 ![0, 2] bcast_S8x4096_S8x8x4096_0_2 (m ((c : Thread nD τ).loc main_arg3))) shapeCasts_S8x8x4096_S64x4096 := by
    unfold_abbrev_sides
    after_results
    rfl
  rw [e]
  refine (flat_apply _ _ r j).trans ?_
  exact broadcastInDim_apply _ _ _ _ (ix2 (batch r) j) fun a => by fin_cases a <;> rfl

/-- Point `t`'s quarter of the product, read off the arguments. -/
theorem part_eq (c : Dev nD) (t : Fin cfg0.N) (y : S64x512.Idx) (r : Fin 64) (j : Fin 4096) (q : Fin 4)
    (hr : r.val = (y 0).val) (hj : j.val = t.val / 4 * 512 + (y 1).val) (hq : q.val = t.val % 4) :
    part m c t y = ∑ k : Fin 4096, (show EReal from m ((c : Thread nD τ).loc main_arg0) (ix2 r ⟨q.val * 4096 + k.val, by omega⟩))
      * (show EReal from m ((c : Thread nD τ).loc main_arg1) (ix3 1 ⟨q.val * 4096 + k.val, by omega⟩ j)) := by
  obtain ⟨⟨a0, a1⟩, ⟨b0, b1, b2⟩, -⟩ := points t
  refine Finset.sum_congr rfl fun k _ => ?_
  refine congrArg₂ (fun a b : EReal => a * b) ?_ ?_
  · refine (congrFun (V_main_arg0 m c) _).trans (congrArg (m ((c : Thread nD τ).loc main_arg0)) ?_)
    funext a; apply Fin.ext; fin_cases a
    · show win0_0.index t 0 * 64 + 1 * (y 0).val = r.val
      rw [a0]; omega
    · show win0_0.index t 1 * 4096 + 1 * k.val = q.val * 4096 + k.val
      rw [a1]; omega
  · refine (congrFun (V_weight m c) _).trans (congrArg (m ((c : Thread nD τ).loc main_arg1)) ?_)
    funext a; apply Fin.ext; fin_cases a
    · show win0_1.index t 0 * 1 + 1 * 0 = 1
      rw [b0]
    · show win0_1.index t 1 * 4096 + 1 * k.val = q.val * 4096 + k.val
      rw [b1]; omega
    · show win0_1.index t 2 * 512 + 1 * (y 1).val = j.val
      rw [b2]; omega

/-- The result array after the run is the down-projection of the arguments. -/
theorem final (c : Dev nD) : (dats m 0 c).arrAt 4 cfg0.N
    = fun i : S64x4096.Idx => down (m ((c : Thread nD τ).loc main_arg0)) (m ((c : Thread nD τ).loc main_arg1))
        (m ((c : Thread nD τ).loc main_arg2)) (m ((c : Thread nD τ).loc main_arg3)) (i 0) (i 1) := by
  refine (dats m 0 c).arrAt_eq_of_covers 4 _ (by decide +kernel) fun t hf (y : S64x512.Idx) => ?_
  have h3 : t.val % 4 = 3 := (flush0_4 t).mp hf
  obtain ⟨-, -, ⟨c0, c1⟩, ⟨d0, d1⟩, e0, e1⟩ := points t
  have hN : t.val < 32 := t.isLt.trans_eq N_0
  have hy0 : (y 0).val < 64 := (y 0).isLt
  have hy1 : (y 1).val < 512 := (y 1).isLt
  obtain ⟨t, ht⟩ := t
  obtain ⟨n, hn, rfl⟩ : ∃ n, n % 4 = 0 ∧ t = n + 3 := by
    dsimp only at h3
    exact ⟨t - 3, by omega, by omega⟩
  dsimp only at h3 c0 c1 d0 d1 e0 e1 hN
  replace ht : n + 3 < cfg0.N := ht
  show (dats m 0 c).after 4 ⟨n + 3, ht⟩ y = down _ _ _ _ ((((cfg0.win 4).blk ⟨n + 3, ht⟩).view.emb y) 0) ((((cfg0.win 4).blk ⟨n + 3, ht⟩).view.emb y) 1)
  have r0 : ((((cfg0.win 4).blk ⟨n + 3, ht⟩).view.emb y) 0).val = (y 0).val := by
    show win0_4.index ⟨n + 3, ht⟩ 0 * 64 + 1 * (y 0).val = _
    rw [e0]; omega
  have r1 : ((((cfg0.win 4).blk ⟨n + 3, ht⟩).view.emb y) 1).val = (n + 3) / 4 * 512 + (y 1).val := by
    show win0_4.index ⟨n + 3, ht⟩ 1 * 512 + 1 * (y 1).val = _
    rw [e1]; omega
  generalize (((cfg0.win 4).blk ⟨n + 3, ht⟩).view.emb y) 0 = r at r0 ⊢
  generalize (((cfg0.win 4).blk ⟨n + 3, ht⟩).view.emb y) 1 = j at r1 ⊢
  change Fin 64 at r
  change Fin 4096 at j
  rw [after0_4]
  refine (out_last m c n ht hn y).trans ?_
  rw [part_eq m c ⟨n, by omega⟩ y r j 0 (by dsimp only; omega) (by dsimp only; omega) (by dsimp only; omega),
    part_eq m c ⟨n + 1, by omega⟩ y r j 1 (by dsimp only; omega) (by dsimp only; omega) (by dsimp only; omega),
    part_eq m c ⟨n + 2, by omega⟩ y r j 2 (by dsimp only; omega) (by dsimp only; omega) (by dsimp only; omega),
    part_eq m c ⟨n + 3, ht⟩ y r j 3 (by dsimp only; omega) (by dsimp only; omega) (by dsimp only; omega)]
  unfold down
  have g2 : (iblk m c 2 ⟨n + 3, ht⟩ y : EReal) = m ((c : Thread nD τ).loc main_arg2) (ix3 (batch r) (token r) j) := by
    refine Eq.trans (congrArg (V m c main_v1) ?_) (V_residual m c r j)
    funext a; apply Fin.ext; fin_cases a
    · show win0_2.index ⟨n + 3, ht⟩ 0 * 64 + 1 * (y 0).val = r.val
      rw [c0]; omega
    · show win0_2.index ⟨n + 3, ht⟩ 1 * 512 + 1 * (y 1).val = j.val
      rw [c1]; omega
  have g3 : (iblk m c 3 ⟨n + 3, ht⟩ y : EReal) = m ((c : Thread nD τ).loc main_arg3) (ix2 (batch r) j) := by
    refine Eq.trans (congrArg (V m c main_v3) ?_) (V_gate m c r j)
    funext a; apply Fin.ext; fin_cases a
    · show win0_3.index ⟨n + 3, ht⟩ 0 * 64 + 1 * (y 0).val = r.val
      rw [d0]; omega
    · show win0_3.index ⟨n + 3, ht⟩ 1 * 512 + 1 * (y 1).val = j.val
      rw [d1]; omega
  refine congrArg₂ (fun a b : EReal => a + b) g2 (congrArg₂ (fun a b : EReal => a * b) g3 ?_)
  refine Eq.trans ?_ (quarters _).symm
  refine congrArg₂ (fun a b : EReal => a + b) (congrArg₂ (fun a b : EReal => a + b) (congrArg₂ (fun a b : EReal => a + b) ?_ ?_) ?_) ?_
  all_goals
    refine Finset.sum_congr rfl fun k _ => ?_
    refine congrArg₂ (fun a b : EReal => a * b) (congrArg (m ((c : Thread nD τ).loc main_arg0)) ?_) (congrArg (m ((c : Thread nD τ).loc main_arg1)) ?_)
  · exact congrArg (ix2 r) (Fin.ext (Nat.zero_add _))
  · exact congrArg (fun a => ix3 1 a j) (Fin.ext (Nat.zero_add _))
  all_goals rfl

end Cert.Proof.DownSample

namespace Cert.Proof.DownSample

open Cert.Reference9Ideal Cert.Reference9Ideal.Gen

/-- The reference's product of an array of batches by a matrix, at one index. -/
theorem batches_apply (A : FVec Ideal S8x8x16384 .f32) (B : FVec Ideal S16384x4096 .f32) (b : Fin 8) (s : Fin 8) (j : Fin 4096) :
    (Host.dotGeneral dot_S8x8x16384_S16384x4096_S8x8x4096_2_0_01_1_n_n none A B (ix3 b s j) : EReal)
      = ∑ k : Fin 16384, (A (ix3 b s k) : EReal) * B (ix2 k j) := by
  show FloatOps.dotGeneral _ none _ A B (ix3 b s j) = _
  rw [Ideal.dotGeneral_apply,
    ← Equiv.sum_comp (contrEquiv1 dot_S8x8x16384_S16384x4096_S8x8x4096_2_0_01_1_n_n 16384 rfl rfl).symm]
  refine Finset.sum_congr rfl fun k _ => ?_
  have e := contrEquiv1_symm_val dot_S8x8x16384_S16384x4096_S8x8x4096_2_0_01_1_n_n 16384 rfl rfl k
  refine congrArg₂ (fun a b : EReal => a * b) (congrArg A ?_) (congrArg B ?_)
  · funext a; apply Fin.ext
    match a with
    | ⟨0, _⟩ => rfl
    | ⟨1, _⟩ => rfl
    | ⟨2, _⟩ => exact e
  · funext a; apply Fin.ext
    match a with
    | ⟨0, _⟩ => exact e
    | ⟨1, _⟩ => rfl

/-- The reference's product at flat row `r` and column `j`. -/
theorem ref_apply (x : Vec Ideal S64x16384 .bf16) (w : Vec Ideal S2x16384x4096 .f32) (r : Fin 64) (j : Fin 4096) :
    (Host.dotGeneral (F := Ideal) (φ₁ := .f32) (φ₂ := .f32) dot_S8x8x16384_S16384x4096_S8x8x4096_2_0_01_1_n_n none
      (shapeCast S8x8x16384 (extf (F := Ideal) (φ := .bf16) .f32 x bitsLt_bf16_f32) shapeCasts_S64x16384_S8x8x16384)
      (shapeCast S16384x4096 (extractStridedSlice S1x16384x4096 ![1, 0, 0] w slices_S2x16384x4096_S1x16384x4096_1_0_0)
        shapeCasts_S1x16384x4096_S16384x4096) (ix3 (batch r) (token r) j) : EReal)
      = ∑ k : Fin 16384, (x (ix2 r k) : EReal) * w (ix3 1 k j) := by
  refine (batches_apply _ _ _ _ _).trans ?_
  refine Finset.sum_congr rfl fun k _ => congrArg₂ (fun a b : EReal => a * b) ?_ ?_
  · refine shapeCast_apply _ _ _ (ix2 r k) ?_
    refine (Shape.rowMajor_val_two _).trans (Eq.trans ?_ (Shape.rowMajor_val_three _).symm)
    show r.val * 16384 + k.val = ((r.val / 8) * 8 + r.val % 8) * 16384 + k.val
    omega
  · refine (shapeCast_1ab_ab_apply _ _ k j).trans ?_
    exact extractStridedSlice_apply _ _ _ _ _ fun a => by fin_cases a <;> simp

/-- The gate spread over the tokens of its batch, at one index. -/
theorem gate_apply (g : Vec Ideal S8x4096 .f32) (b : Fin 8) (s : Fin 8) (j : Fin 4096) :
    (broadcastInDim S8x8x4096 ![0, 1, 2] bcast_S8x1x4096_S8x8x4096_0_1_2
      (broadcastInDim S8x1x4096 ![0, 2] bcast_S8x4096_S8x1x4096_0_2 g) (ix3 b s j) : EReal) = g (ix2 b j) := by
  refine congrArg g ?_
  funext a; apply Fin.ext
  match a with
  | ⟨0, _⟩ => rfl
  | ⟨1, _⟩ => rfl

end Cert.Proof.DownSample

namespace Cert.Proof.DownSample

/-- The two programs compute the same function: from equal arguments both results end at the down-projection. -/
theorem algebraic (hK : Cert.Kernel9Ideal.Facts) (hR : Cert.Reference9Ideal.Facts) :
    Cert.algebraic_Kernel9Ideal_Reference9Ideal (hKernel9Ideal := hK) (hReference9Ideal := hR) := by
  intro m g m' g' _ hm
  refine ⟨fun c => fun i : Cert.Kernel9Ideal.S64x4096.Idx => down
      (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg1))
      (m ((c.tc : Thread Cert.Kernel9Ideal.nD Cert.Kernel9Ideal.τ).loc Cert.Kernel9Ideal.main_arg2))
      (m ((c.tc : Thread Cert.Kernel9Ideal.nD Cert.Kernel9Ideal.τ).loc Cert.Kernel9Ideal.main_arg3)) (i 0) (i 1),
    (θ_run _ _ _).mono (fun r h c => ⟨(h c).1.trans (final m c), (h c).2⟩) (Cert.Kernel9Ideal.Value.run_blocks m g),
    (θ_run _ _ _).mono (fun r h c => ⟨(h c).1.trans ?_, (h c).2⟩) (Cert.Reference9Ideal.Value.run m' g')⟩
  rw [(hm c).1, (hm c).2.1, (hm c).2.2.1, (hm c).2.2.2]
  funext i
  rw [eq_ix2 i]
  refine (flat_apply _ _ (i 0) (i 1)).trans ?_
  exact congrArg₂ (fun a b : EReal => (show EReal from m ((c.tc : Thread Cert.Kernel9Ideal.nD Cert.Kernel9Ideal.τ).loc Cert.Kernel9Ideal.main_arg2)
    (ix3 (batch (i 0)) (token (i 0)) (i 1))) + a * b) (gate_apply _ _ _ _) (ref_apply _ _ _ _)

end Cert.Proof.DownSample

end
-- ==== Proof.Gmlp.Norm.lean ====
/-
  The layer norm of the gated MLP over positions, on the extended reals: a row less its mean, divided by the root of the mean of its
  squares, scaled and shifted. The kernel does it on the rows of a block, the reference on batches of tokens; both for any number of rows.
-/
module

public import proofs.«01_k».proof.Proof.Proj.Norm

@[expose] public section

noncomputable section

open Idealize.ShloMosaic Idealize.ShloMosaic.ValueIdx Idealize.ShloMosaic.StackMember
open Cert.Proof.Proj (Rows)
open scoped BigOperators

namespace Cert.Proof.Gmlp

/-- The mean of 2048 values. -/
def mean (f : Fin 2048 → EReal) : EReal := Ideal.div (∑ u : Fin 2048, f u) (FloatOps.ofBits (F := Ideal) .f32 0x45000000#32 : EReal)

/-- A value less the mean of its row. -/
def centred (f : Fin 2048 → EReal) (j : Fin 2048) : EReal := f j - mean f

/-- A row's layer norm with scales `g` and shifts `b`, at column `j`. -/
def layerAt (f g b : Fin 2048 → EReal) (j : Fin 2048) : EReal :=
  centred f j * Ideal.rsqrt (mean (fun u => centred f u * centred f u) + (FloatOps.ofBits (F := Ideal) .f32 0x358637BD#32 : EReal)) * g j + b j

section Kernel

variable {R : ℕ}

/-- The facts on shapes the kernel's layer norm states, with more than one row. -/
structure LayerFacts (R : ℕ) : Prop where
  many : R ≠ 1
  reduces : (Rows R 2048).Reduces [1] ⟨1, ![R]⟩
  column : (⟨1, ![R]⟩ : Shape).ShapeCasts (Rows R 1)
  spread : (Rows R 1).Broadcasts (Rows R 2048)
  scale : (Rows 1 2048).ShapeCasts (Rows 1 2048)
  scales : (Rows 1 2048).Broadcasts (Rows R 2048)

/-- The means of a block's rows, as a column. -/
def means (hf : LayerFacts R) (x : FVec Ideal (Rows R 2048) .f32) : FVec Ideal (Rows R 1) .f32 :=
  divf (shapeCast (Rows R 1) (multiReduction .add [1] (⟨1, ![R]⟩ : Shape) x 0x00000000#32 hf.reduces (.inl rfl) rfl) hf.column)
    (broadcast (Rows R 1) (Scalar.ofBits .f32 0x45000000#32))

/-- A block less its rows' means. -/
def centre (hf : LayerFacts R) (x : FVec Ideal (Rows R 2048) .f32) : FVec Ideal (Rows R 2048) .f32 :=
  subf x (broadcastTo (Rows R 2048) (means hf x) hf.spread)

/-- A block's layer norm, as the kernel computes it. -/
def layer (hf : LayerFacts R) (x : FVec Ideal (Rows R 2048) .f32) (g b : FVec Ideal (Rows 1 2048) .f32) : FVec Ideal (Rows R 2048) .f32 :=
  addf (mulf (mulf (centre hf x) (broadcastTo (Rows R 2048)
      (rsqrt (addf (means hf (mulf (centre hf x) (centre hf x))) (broadcast (Rows R 1) (Scalar.ofBits .f32 0x358637BD#32)))) hf.spread))
    (broadcastTo (Rows R 2048) (shapeCast (Rows 1 2048) g hf.scale) hf.scales))
    (broadcastTo (Rows R 2048) (shapeCast (Rows 1 2048) b hf.scale) hf.scales)

theorem means_apply (hf : LayerFacts R) (x : FVec Ideal (Rows R 2048) .f32) (r : Fin R) :
    (means hf x (ix2 r 0) : EReal) = mean fun u => x (ix2 r u) := by
  refine congrArg (fun z : EReal => Ideal.div z (FloatOps.ofBits (F := Ideal) .f32 0x45000000#32 : EReal)) ?_
  refine (shapeCast_apply _ _ (ix2 r 0) (ix1 r) ?_).trans ((Ideal.multiReduction_add_single (a := 1) x _ hf.reduces (.inl rfl) rfl (ix1 r)).trans ?_)
  · rw [Shape.rowMajor_val_two]; rfl
  · refine Finset.sum_congr rfl fun u _ => congrArg x ?_
    funext a; apply Fin.ext; fin_cases a <;> rfl

/-- A column spread over a block's rows. -/
theorem spread_apply (hf : LayerFacts R) (q : FVec Ideal (Rows R 1) .f32) (r : Fin R) (j : Fin 2048) :
    broadcastTo (Rows R 2048) q hf.spread (ix2 r j) = q (ix2 r 0) :=
  broadcastTo_apply _ _ (ix2 r j) (ix2 r 0) fun a => by
    fin_cases a
    · exact (if_neg hf.many).symm
    · rfl

theorem centre_apply (hf : LayerFacts R) (x : FVec Ideal (Rows R 2048) .f32) (r : Fin R) (j : Fin 2048) :
    (centre hf x (ix2 r j) : EReal) = centred (fun u => x (ix2 r u)) j :=
  congrArg (fun z : EReal => (show EReal from x (ix2 r j)) - z) ((spread_apply hf _ r j).trans (means_apply hf x r))

/-- A row of scales spread over a block's rows. -/
theorem row_apply (hf : LayerFacts R) (g : FVec Ideal (Rows 1 2048) .f32) (r : Fin R) (j : Fin 2048) :
    broadcastTo (Rows R 2048) (shapeCast (Rows 1 2048) g hf.scale) hf.scales (ix2 r j) = g (ix2 0 j) :=
  (broadcastTo_apply _ _ (ix2 r j) (ix2 0 j) fun a => by fin_cases a <;> rfl).trans (shapeCast_apply _ _ (ix2 0 j) (ix2 0 j) rfl)

/-- The kernel's layer norm at a row and a column. -/
theorem layer_apply (hf : LayerFacts R) (x : FVec Ideal (Rows R 2048) .f32) (g b : FVec Ideal (Rows 1 2048) .f32) (r : Fin R) (j : Fin 2048) :
    (layer hf x g b (ix2 r j) : EReal) = layerAt (fun u => x (ix2 r u)) (fun u => g (ix2 0 u)) (fun u => b (ix2 0 u)) j := by
  refine congrArg₂ (fun a b : EReal => a + b) (congrArg₂ (fun a b : EReal => a * b) (congrArg₂ (fun a b : EReal => a * b) (centre_apply hf x r j) ?_)
    (row_apply hf g r j)) (row_apply hf b r j)
  refine (spread_apply hf _ r j).trans ?_
  refine congrArg (fun z : EReal => Ideal.rsqrt (z + (FloatOps.ofBits (F := Ideal) .f32 0x358637BD#32 : EReal))) ((means_apply hf _ r).trans ?_)
  exact congrArg mean (funext fun u => congrArg (fun z : EReal => z * z) (centre_apply hf x r u))

end Kernel

section Reference

variable {B T : ℕ}

/-- `B` batches of `T` tokens of `n` columns. -/
abbrev Tokens (B T n : ℕ) : Shape := ⟨3, ![B, T, n]⟩

/-- The facts on shapes the reference's layer norm states, with more than one batch and more than one token. -/
structure TokenFacts (B T : ℕ) : Prop where
  batches : B ≠ 1
  tokens : T ≠ 1
  sum : (Tokens B T 2048).ReducesTo [2] (Rows B T)
  sum' : (Tokens B T 2048).Reduces [2] (Rows B T)
  one : 0 < (⟨0, ![]⟩ : Shape).numel
  keep : (Rows B T).BroadcastsInDim (Tokens B T 1) (![0, 1] : Fin 2 → Fin 3)
  fill : (⟨0, ![]⟩ : Shape).BroadcastsInDim (Tokens B T 1) (![] : Fin 0 → Fin 3)
  spread : (Tokens B T 1).BroadcastsInDim (Tokens B T 2048) (![0, 1, 2] : Fin 3 → Fin 3)
  scale : (⟨1, ![2048]⟩ : Shape).BroadcastsInDim (Tokens 1 1 2048) (![2] : Fin 1 → Fin 3)
  scales : (Tokens 1 1 2048).BroadcastsInDim (Tokens B T 2048) (![0, 1, 2] : Fin 3 → Fin 3)

/-- The means of the tokens' rows. -/
def tokenMeans (hf : TokenFacts B T) (x : FVec Ideal (Tokens B T 2048) .f32) : FVec Ideal (Tokens B T 1) .f32 :=
  Host.divf (broadcastInDim (Tokens B T 1) ![0, 1] hf.keep (Host.reduceAdd x (constant (⟨0, ![]⟩ : Shape) .f32 0x00000000#32) hf.sum hf.one))
    (broadcastInDim (Tokens B T 1) ![] hf.fill (constant (⟨0, ![]⟩ : Shape) .f32 0x45000000#32))

/-- The tokens less their rows' means. -/
def tokenCentre (hf : TokenFacts B T) (x : FVec Ideal (Tokens B T 2048) .f32) : FVec Ideal (Tokens B T 2048) .f32 :=
  subf x (broadcastInDim (Tokens B T 2048) ![0, 1, 2] hf.spread (tokenMeans hf x))

/-- The tokens' layer norm, as the reference computes it. -/
def tokenLayer (hf : TokenFacts B T) (x : FVec Ideal (Tokens B T 2048) .f32) (g b : FVec Ideal (⟨1, ![2048]⟩ : Shape) .f32) : FVec Ideal (Tokens B T 2048) .f32 :=
  addf (mulf (mulf (tokenCentre hf x) (broadcastInDim (Tokens B T 2048) ![0, 1, 2] hf.spread
      (Host.rsqrt (addf (tokenMeans hf (mulf (tokenCentre hf x) (tokenCentre hf x)))
        (broadcastInDim (Tokens B T 1) ![] hf.fill (constant (⟨0, ![]⟩ : Shape) .f32 0x358637BD#32))))))
    (broadcastInDim (Tokens B T 2048) ![0, 1, 2] hf.scales (broadcastInDim (Tokens 1 1 2048) ![2] hf.scale g)))
    (broadcastInDim (Tokens B T 2048) ![0, 1, 2] hf.scales (broadcastInDim (Tokens 1 1 2048) ![2] hf.scale b))

theorem tokenMeans_apply (hf : TokenFacts B T) (x : FVec Ideal (Tokens B T 2048) .f32) (b : Fin B) (t : Fin T) :
    (tokenMeans hf x (ix3 b t 0) : EReal) = mean fun u => x (ix3 b t u) := by
  refine congrArg₂ Ideal.div ?_ (broadcastInDim_scalar_apply _ _ _)
  refine (broadcastInDim_apply _ _ _ _ (ix2 b t) fun a => by
    fin_cases a
    · exact (if_neg hf.batches).symm
    · exact (if_neg hf.tokens).symm).trans ?_
  have hr := hf.sum'
  refine (hostReduceAdd_apply _ _ _ _ _).trans ((Ideal.hostReduceAdd_single (a := 2) _ hr _ _ _).trans ?_)
  refine (congrArg₂ (fun a b : EReal => a + b) Ideal.ofBits_zero_f32 (Finset.sum_congr rfl fun u _ => congrArg x ?_)).trans (zero_add _)
  funext k; apply Fin.ext; fin_cases k <;> rfl

theorem tokenSpread_apply (hf : TokenFacts B T) (q : FVec Ideal (Tokens B T 1) .f32) (b : Fin B) (t : Fin T) (j : Fin 2048) :
    broadcastInDim (Tokens B T 2048) ![0, 1, 2] hf.spread q (ix3 b t j) = q (ix3 b t 0) :=
  broadcastInDim_apply _ _ _ _ (ix3 b t 0) fun a => by
    fin_cases a
    · exact (if_neg hf.batches).symm
    · exact (if_neg hf.tokens).symm
    · rfl

theorem tokenCentre_apply (hf : TokenFacts B T) (x : FVec Ideal (Tokens B T 2048) .f32) (b : Fin B) (t : Fin T) (j : Fin 2048) :
    (tokenCentre hf x (ix3 b t j) : EReal) = centred (fun u => x (ix3 b t u)) j :=
  congrArg (fun z : EReal => (show EReal from x (ix3 b t j)) - z) ((tokenSpread_apply hf _ b t j).trans (tokenMeans_apply hf x b t))

theorem tokenRow_apply (hf : TokenFacts B T) (g : FVec Ideal (⟨1, ![2048]⟩ : Shape) .f32) (b : Fin B) (t : Fin T) (j : Fin 2048) :
    broadcastInDim (Tokens B T 2048) ![0, 1, 2] hf.scales (broadcastInDim (Tokens 1 1 2048) ![2] hf.scale g) (ix3 b t j) = g (ix1 j) :=
  (broadcastInDim_apply _ _ _ (ix3 b t j) (ix3 0 0 j) fun a => by fin_cases a <;> rfl).trans
    (broadcastInDim_apply _ _ _ _ (ix1 j) fun a => by fin_cases a; rfl)

/-- The reference's layer norm at a token and a column. -/
theorem tokenLayer_apply (hf : TokenFacts B T) (x : FVec Ideal (Tokens B T 2048) .f32) (g s : FVec Ideal (⟨1, ![2048]⟩ : Shape) .f32) (b : Fin B) (t : Fin T) (j : Fin 2048) :
    (tokenLayer hf x g s (ix3 b t j) : EReal) = layerAt (fun u => x (ix3 b t u)) (fun u => g (ix1 u)) (fun u => s (ix1 u)) j := by
  refine congrArg₂ (fun a b : EReal => a + b) (congrArg₂ (fun a b : EReal => a * b) (congrArg₂ (fun a b : EReal => a * b) (tokenCentre_apply hf x b t j) ?_)
    (tokenRow_apply hf g b t j)) (tokenRow_apply hf s b t j)
  refine (tokenSpread_apply hf _ b t j).trans ?_
  refine congrArg Ideal.rsqrt (congrArg₂ (fun a b : EReal => a + b) ((tokenMeans_apply hf _ b t).trans ?_) (broadcastInDim_scalar_apply _ _ _))
  exact congrArg mean (funext fun u => congrArg (fun z : EReal => z * z) (tokenCentre_apply hf x b t u))

end Reference

end Cert.Proof.Gmlp

end
-- ==== Proof.Gmlp.Gate.lean ====
/-
  What the gated MLP over positions computes, on the extended reals: the gate's input times the causally mixed normalised values, and the host's
  lower triangle of the mixing weights.
-/
module

public import proofs.«01_k».proof.Proof.Gmlp.Norm
public import Idealize.ShloMosaic.Lib.WordCmp

@[expose] public section

noncomputable section

open Idealize.ShloMosaic Idealize.ShloMosaic.ValueIdx Idealize.ShloMosaic.StackMember
open Cert.Proof.Proj (Rows)
open scoped BigOperators

namespace Cert.Proof.Gmlp

/-- The lower triangle: the weight of an earlier or the same position, zero for a later one. -/
def causal {L : ℕ} (W : Fin L → EReal) (t s : Fin L) : EReal := if s.val ≤ t.val then W s else 0

/-- One output of the gated MLP: the gate's input `u` times the causally mixed values and the position's bias. -/
def gatedAt {L : ℕ} (u : EReal) (W V : Fin L → EReal) (t : Fin L) (c : EReal) : EReal := u * (∑ s : Fin L, causal W t s * V s + c)

/-- The kernel's comparison of two positions, and the reference's, are one. -/
theorem select_le {a b : ℕ} (ha : a < 2 ^ 31) (hb : b < 2 ^ 31) (x y : EReal) :
    Scalar.select (IntOp.cmpi .sle (BitVec.ofNat 32 a) (BitVec.ofNat 32 b)) x y = if a ≤ b then x else y := by
  rw [WordCmp.cmpi_sle_ofNat ha hb, WordCmp.select_ofBool]
  exact if_congr decide_eq_true_iff rfl rfl

theorem select_ge {a b : ℕ} (ha : a < 2 ^ 31) (hb : b < 2 ^ 31) (x y : EReal) :
    Scalar.select (IntOp.cmpi .sge (BitVec.ofNat 32 b) (BitVec.ofNat 32 a)) x y = if a ≤ b then x else y := by
  rw [WordCmp.cmpi_sge_ofNat hb ha, WordCmp.select_ofBool]
  exact if_congr decide_eq_true_iff rfl rfl

/-- Column `d` of group `g`. -/
def groupCol (g : Fin 16) (d : Fin 128) : Fin 2048 := ⟨128 * g.val + d.val, by omega⟩

/-- The group of a column. -/
def group (j : Fin 2048) : Fin 16 := ⟨j.val / 128, by omega⟩

/-- The column in its group. -/
def lane (j : Fin 2048) : Fin 128 := ⟨j.val % 128, by omega⟩

/-- Column `j` of the gate's input among the 4096. -/
def lo (j : Fin 2048) : Fin 4096 := ⟨j.val, by omega⟩

/-- Column `j` of the values among the 4096. -/
def hi (j : Fin 2048) : Fin 4096 := ⟨2048 + j.val, by omega⟩

/-- The normalised values of row `r`, at column `j`. -/
def valueOf {M : ℕ} (z : (⟨2, ![M, 4096]⟩ : Shape).Idx → EReal) (lg lb : (⟨1, ![2048]⟩ : Shape).Idx → EReal) (r : Fin M) (j : Fin 2048) : EReal :=
  layerAt (fun u => z (ix2 r (hi u))) (fun u => lg (ix1 u)) (fun u => lb (ix1 u)) j

/-- A vector of scales as the call reads it, a row. -/
theorem scaleRow_apply (x : FVec Ideal (⟨1, ![2048]⟩ : Shape) .f32) (h : (⟨1, ![2048]⟩ : Shape).ShapeCasts (Rows 1 2048)) (u : Fin 2048) : (shapeCast (Rows 1 2048) x h (ix2 0 u) : EReal) = x (ix1 u) := by
  refine shapeCast_apply _ _ _ _ ?_
  refine (Shape.rowMajor_val_one _).trans (Eq.trans ?_ (Shape.rowMajor_val_two _).symm)
  show u.val = 0 * 2048 + u.val
  omega

/-- `L` by `L` mixing weights for each of the sixteen groups. -/
abbrev Weights (L : ℕ) : Shape := ⟨3, ![16, L, L]⟩

/-- The facts on shapes that masking the weights states, with more than one position. -/
structure LowerFacts (L : ℕ) : Prop where
  many : L ≠ 1
  small : L < 2 ^ 31
  fill : (⟨0, ![]⟩ : Shape).BroadcastsInDim (Rows L L) (![] : Fin 0 → Fin 2)
  groups : (Rows L L).BroadcastsInDim (Weights L) (![1, 2] : Fin 2 → Fin 3)
  zero : (⟨0, ![]⟩ : Shape).BroadcastsInDim (Weights L) (![] : Fin 0 → Fin 3)

/-- The lower triangle of the mixing weights, as the host computes it. -/
def lower {L : ℕ} (hf : LowerFacts L) (ws : FVec Ideal (Weights L) .f32) : FVec Ideal (Weights L) .f32 :=
  select (broadcastInDim (Weights L) ![1, 2] hf.groups
      (cmpi .sge (addi (iotaInDim (Rows L L) 32 0) (broadcastInDim (Rows L L) ![] hf.fill (constantI (⟨0, ![]⟩ : Shape) 32 0#32))) (iotaInDim (Rows L L) 32 1)))
    ws (broadcastInDim (Weights L) ![] hf.zero (constant (⟨0, ![]⟩ : Shape) .f32 0x00000000#32))

theorem lower_apply {L : ℕ} (hf : LowerFacts L) (ws : FVec Ideal (Weights L) .f32) (g : Fin 16) (t s : Fin L) :
    (lower hf ws (ix3 g t s) : EReal) = causal (fun s => ws (ix3 g t s)) t s := by
  have hk : (broadcastInDim (Weights L) ![1, 2] hf.groups
      (cmpi .sge (addi (iotaInDim (Rows L L) 32 0) (broadcastInDim (Rows L L) ![] hf.fill (constantI (⟨0, ![]⟩ : Shape) 32 0#32))) (iotaInDim (Rows L L) 32 1)) (ix3 g t s) : BitVec 1)
        = IntOp.cmpi .sge (BitVec.ofNat 32 t.val) (BitVec.ofNat 32 s.val) := by
    refine (broadcastInDim_apply _ _ _ _ (ix2 t s) fun a => by
      fin_cases a
      · exact (if_neg hf.many).symm
      · exact (if_neg hf.many).symm).trans ?_
    refine congrArg (fun q => IntOp.cmpi .sge q (BitVec.ofNat 32 s.val)) ?_
    exact BitVec.add_zero _
  refine (congrArg (fun c => Scalar.select c _ _) hk).trans ?_
  refine (select_ge (s.isLt.trans hf.small) (t.isLt.trans hf.small) _ _).trans ?_
  exact congrArg (fun b : EReal => if s.val ≤ t.val then ws (ix3 g t s) else b) ((broadcastInDim_scalar_apply _ _ _).trans Ideal.ofBits_zero_f32)

end Cert.Proof.Gmlp

end
-- ==== Proof.Gmlp.PromptBody.lean ====
/-
  The body of the gated MLP's kernel for the prompt on the extended reals: each of the sixteen column groups it stores is the gate's input
  times the causal mixing of the block's normalised rows, and the second result's block is the normalised rows themselves.
-/
module

public import proofs.«01_k».proof.Proof.Gmlp.Gate
public import proofs.«01_k».proof.Proof.Gen.Kernel10Ideal.Value

@[expose] public section

noncomputable section

open Idealize.ShloMosaic Idealize.ShloMosaic.ValueIdx Idealize.ShloMosaic.StackMember
open Cert.Proof.Proj (zeros2 zeros3)
open scoped BigOperators

namespace Cert.Proof.GmlpPrompt

open Cert.Proof.Gmlp
open Cert.Kernel10Ideal Cert.Kernel10Ideal.Gen

theorem layer_facts : LayerFacts 128 :=
  ⟨by decide, reduces_S128x2048_S128, shapeCasts_S128_S128x1, broadcasts_S128x1_S128x2048, shapeCasts_S1x2048_S1x2048, broadcasts_S1x2048_S128x2048⟩

theorem cols_ok (g : Fin 16) : ∀ a, (![0, 128 * g.val] : Fin 2 → Nat) a + S128x128.size a ≤ S128x2048.size a := by revert g; decide
theorem slice_ok (g : Fin 16) : S128x2048.Slices ![0, 128 * g.val] S128x128 := ⟨rfl, cols_ok g⟩
theorem weight_ok (g : Fin 16) : ∀ a, (![g.val, 0, 0] : Fin 3 → Nat) a + S1x128x128.size a ≤ S16x128x128.size a := by revert g; decide
theorem bias_ok (g : Fin 16) : ∀ a, (![0, g.val] : Fin 2 → Nat) a + S128x1.size a ≤ S128x16.size a := by revert g; decide

/-- The columns of group `g`. -/
abbrev groupRect (g : Fin 16) : Rect S128x2048 := Rect.unit (s := S128x2048) ![0, 128 * g.val] S128x128.size (cols_ok g)
/-- The mixing weights of group `g`. -/
abbrev weightRect (g : Fin 16) : Rect S16x128x128 := Rect.unit (s := S16x128x128) ![g.val, 0, 0] S1x128x128.size (weight_ok g)
/-- The biases of group `g`. -/
abbrev biasRect (g : Fin 16) : Rect S128x16 := Rect.unit (s := S128x16) ![0, g.val] S128x1.size (bias_ok g)

/-- What the kernel stores in the columns of group `g`. -/
def mixed (u V : Vec Ideal S128x2048 .f32) (w : Vec Ideal S16x128x128 .f32) (b : Vec Ideal S128x16 .f32) (g : Fin 16) : FVec Ideal S128x128 .bf16 :=
  truncf .bf16 (mulf (View.ld (Val := Elt Ideal) (e' := .f32) u (groupRect g) : FVec Ideal S128x128 .f32)
    (addf (matmul dot_S128x128_S128x128_S128x128_1_0_0_1_n_n none
        (truncf .bf16 (select k0_pay4 (shapeCast S128x128 (View.ld (Val := Elt Ideal) (e' := .f32) w (weightRect g) : FVec Ideal S1x128x128 .f32) shapeCasts_S1x128x128_S128x128)
          (broadcast S128x128 (Scalar.ofBits .f32 0x00000000#32)) : FVec Ideal S128x128 .f32) bitsLt_bf16_f32)
        (truncf .bf16 (extractStridedSlice S128x128 ![0, 128 * g.val] (V : FVec Ideal S128x2048 .f32) (slice_ok g)) bitsLt_bf16_f32)
        (constant S128x128 .f32 0x00000000#32))
      (broadcastTo S128x128 (shapeCast S128x1 (View.ld (Val := Elt Ideal) (e' := .f32) b (biasRect g) : FVec Ideal S128x1 .f32) shapeCasts_S128x1_S128x1) broadcasts_S128x1_S128x128)))
    bitsLt_bf16_f32

/-- A masked weight: position `s`'s weight at position `r`, zero if `s` is later. -/
theorem masked_apply (w : Vec Ideal S16x128x128 .f32) (g : Fin 16) (r s : Fin 128) :
    ((select k0_pay4 (shapeCast S128x128 (View.ld (Val := Elt Ideal) (e' := .f32) w (weightRect g) : FVec Ideal S1x128x128 .f32) shapeCasts_S1x128x128_S128x128)
      (broadcast S128x128 (Scalar.ofBits .f32 0x00000000#32)) : FVec Ideal S128x128 .f32) (ix2 r s) : EReal) = causal (fun s => w (ix3 g r s)) r s := by
  have hk : k0_pay4 (ix2 r s) = IntOp.cmpi .sle (BitVec.ofNat 32 s.val) (BitVec.ofNat 32 r.val) :=
    congrArg₂ (IntOp.cmpi .sle) (iota_single_apply .tc S128x128 32 1 _ _) (iota_single_apply .tc S128x128 32 0 _ _)
  refine (congrArg (fun c => Scalar.select c _ _) hk).trans ?_
  refine (select_le (by have := s.isLt; omega) (by have := r.isLt; omega) _ _).trans ?_
  refine (congrArg₂ (fun a b : EReal => if s.val ≤ r.val then a else b) ?_ Ideal.ofBits_zero_f32)
  refine (shapeCast_1ab_ab_apply _ _ r s).trans ?_
  exact View.ld_unit_apply_of w _ _ _ (ix3 0 r s) (ix3 g r s) fun a => by
    fin_cases a
    · rfl
    · exact (Nat.zero_add _).symm
    · exact (Nat.zero_add _).symm

/-- What the kernel stores at row `r` and column `d` of group `g`. -/
theorem mixed_apply (u V : Vec Ideal S128x2048 .f32) (w : Vec Ideal S16x128x128 .f32) (b : Vec Ideal S128x16 .f32) (g : Fin 16) (r d : Fin 128) :
    (mixed u V w b g (ix2 r d) : EReal)
      = gatedAt (u (ix2 r (groupCol g d))) (fun s => w (ix3 g r s)) (fun s => V (ix2 s (groupCol g d))) r (b (ix2 r g)) := by
  refine congrArg₂ (fun a b : EReal => a * b) ?_ (congrArg₂ (fun a b : EReal => a + b) ?_ ?_)
  · exact View.ld_unit_apply_of u _ _ _ (ix2 r d) (ix2 r (groupCol g d)) fun a => by
      fin_cases a
      · exact (Nat.zero_add _).symm
      · rfl
  · refine (Ideal.matmul_plain_apply (φ₁ := .bf16) (φ₂ := .bf16) (M := 128) (K := 128) (N := 128) none _ _ _ r d).trans ?_
    refine (congrArg (fun a : EReal => a + _) Ideal.ofBits_zero_f32).trans ((zero_add _).trans ?_)
    refine Finset.sum_congr rfl fun s _ => congrArg₂ (fun a b : EReal => a * b) (masked_apply w g r s) ?_
    exact extractStridedSlice_apply _ V (slice_ok g) (ix2 s d) (ix2 s (groupCol g d)) fun a => by
      fin_cases a
      · exact (Nat.zero_add _).symm
      · rfl
  · refine (broadcastTo_apply _ _ (ix2 r d) (ix2 r 0) fun a => by fin_cases a <;> rfl).trans ?_
    refine (shapeCast_apply _ _ (ix2 r 0) (ix2 r 0) rfl).trans ?_
    exact View.ld_unit_apply_of b _ _ _ (ix2 r 0) (ix2 r g) fun a => by
      fin_cases a
      · exact (Nat.zero_add _).symm
      · rfl

/-- The sixteen groups as the kernel's stores, the last first. -/
abbrev pieces (p : Fin 16 → Vec Ideal S128x128 .bf16) : List (View.Piece (Elt Ideal) S128x2048 .bf16) :=
  [⟨groupRect 15, p 15⟩, ⟨groupRect 14, p 14⟩, ⟨groupRect 13, p 13⟩, ⟨groupRect 12, p 12⟩, ⟨groupRect 11, p 11⟩, ⟨groupRect 10, p 10⟩, ⟨groupRect 9, p 9⟩,
    ⟨groupRect 8, p 8⟩, ⟨groupRect 7, p 7⟩, ⟨groupRect 6, p 6⟩, ⟨groupRect 5, p 5⟩, ⟨groupRect 4, p 4⟩, ⟨groupRect 3, p 3⟩, ⟨groupRect 2, p 2⟩, ⟨groupRect 1, p 1⟩,
    ⟨groupRect 0, p 0⟩]

/-- Sixteen groups stored into a block leave what each of them holds, index by index. -/
theorem groups_canon (p : Fin 16 → Vec Ideal S128x128 .bf16) (v : Vec Ideal S128x2048 .bf16) (h : ∀ g r d, p g (ix2 r d) = v (ix2 r (groupCol g d))) :
    View.canon (Val := Elt Ideal) (pieces p) = v := by
  have tile : ∀ (y : S128x2048.Idx) (g : Fin 16), View.TileAt y ![0, 128 * g.val] S128x128.size (p g) (v y) := fun y g x hx => by
    have e : y = ix2 (x 0) (groupCol g (x 1)) := by
      funext a; apply Fin.ext
      fin_cases a
      · exact (hx 0).trans (Nat.zero_add _)
      · exact hx 1
    rw [e, eq_ix2 x]
    exact h g (x 0) (x 1)
  funext y
  apply View.canon_eq_of_allAt
  · exact View.cover_of_tiled (s := S128x2048) (pieces p) S128x128.size (by rfl) y
  iterate 16 refine View.allAt_cons_unit _ _ _ _ _ (tile y _) ?_
  exact View.allAt_nil y _

/-- The first result's block at a row and a column. -/
theorem out_apply (x0 x1 : Vec Ideal S128x2048 .f32) (x2 x3 : Vec Ideal S1x2048 .f32) (x4 : Vec Ideal S16x128x128 .f32) (x5 : Vec Ideal S128x16 .f32)
    (r : Fin 128) (j : Fin 2048) :
    (out0_6 x0 x1 x2 x3 x4 x5 (ix2 r j) : EReal)
      = gatedAt (x0 (ix2 r j)) (fun s => x4 (ix3 (group j) r s))
          (fun s => layerAt (fun u => x1 (ix2 s u)) (fun u => x2 (ix2 0 u)) (fun u => x3 (ix2 0 u)) j) r (x5 (ix2 r (group j))) := by
  have e1 : View.ld (Val := Elt Ideal) (e' := .f32) x1 r0_0 = x1 := View.ld_unit_zero (S := S128x2048) zeros2 _ x1
  have e2 : View.ld (Val := Elt Ideal) (e' := .f32) x2 r0_1 = x2 := View.ld_unit_zero (S := S1x2048) zeros2 _ x2
  have e3 : View.ld (Val := Elt Ideal) (e' := .f32) x3 r0_1 = x3 := View.ld_unit_zero (S := S1x2048) zeros2 _ x3
  have e : out0_6 x0 x1 x2 x3 x4 x5 = fun y => gatedAt (x0 y) (fun s => x4 (ix3 (group (y 1)) (y 0) s))
      (fun s => layer layer_facts x1 x2 x3 (ix2 s (y 1))) (y 0) (x5 (ix2 (y 0) (group (y 1)))) := by
    unfold_out out0_6
    rw [e1, e2, e3]
    refine groups_canon (mixed x0 (layer layer_facts x1 x2 x3) x4 x5) _ fun g r d => (mixed_apply _ _ _ _ g r d).trans ?_
    have hg : group (groupCol g d) = g := Fin.ext (by show (128 * g.val + d.val) / 128 = g.val; omega)
    show _ = gatedAt (x0 (ix2 r (groupCol g d))) (fun s => x4 (ix3 (group (groupCol g d)) r s)) _ r (x5 (ix2 r (group (groupCol g d))))
    rw [hg]
  rw [e]
  exact congrArg (fun f => gatedAt _ _ f _ _) (funext fun s => layer_apply layer_facts x1 x2 x3 s j)

/-- The second result's block at a row and a column. -/
theorem value_apply (x0 x1 : Vec Ideal S128x2048 .f32) (x2 x3 : Vec Ideal S1x2048 .f32) (x4 : Vec Ideal S16x128x128 .f32) (x5 : Vec Ideal S128x16 .f32)
    (r : Fin 128) (j : Fin 2048) :
    (out0_7 x0 x1 x2 x3 x4 x5 (ix3 0 r j) : EReal) = layerAt (fun u => x1 (ix2 r u)) (fun u => x2 (ix2 0 u)) (fun u => x3 (ix2 0 u)) j := by
  have e1 : View.ld (Val := Elt Ideal) (e' := .f32) x1 r0_0 = x1 := View.ld_unit_zero (S := S128x2048) zeros2 _ x1
  have e2 : View.ld (Val := Elt Ideal) (e' := .f32) x2 r0_1 = x2 := View.ld_unit_zero (S := S1x2048) zeros2 _ x2
  have e3 : View.ld (Val := Elt Ideal) (e' := .f32) x3 r0_1 = x3 := View.ld_unit_zero (S := S1x2048) zeros2 _ x3
  have e : out0_7 x0 x1 x2 x3 x4 x5 = k0_pay3 x1 x2 x3 := by
    unfold_out out0_7
    rw [e1, e2, e3]
    exact View.canon_unit_zero (Val := Elt Ideal) zeros3 _ _
  rw [e]
  refine Eq.trans ?_ (layer_apply layer_facts x1 x2 x3 r j)
  refine shapeCast_apply (layer layer_facts x1 x2 x3) shapeCasts_S128x2048_S1x128x2048 (ix3 0 r j) (ix2 r j) ?_
  refine (Shape.rowMajor_val_two _).trans (Eq.trans ?_ (Shape.rowMajor_val_three _).symm)
  show r.val * 2048 + j.val = (0 * 128 + r.val) * 2048 + j.val
  omega

end Cert.Proof.GmlpPrompt

end
-- ==== Proof.Gmlp.Prompt.lean ====
/-
  The gated MLP over positions for the prompt, on the extended reals: the kernel takes a block of 128 rows at a time and its columns in sixteen
  groups, the reference all the batches at once, and both end at the gate's input times the causally mixed normalised rows. The second result is
  the normalised rows of the last 128 positions of each batch.
-/
module

public import proofs.«01_k».proof.Proof.Gmlp.PromptBody
public import proofs.«01_k».proof.Proof.Gen.Reference10Ideal.Run
public import proofs.«01_k».proof.Defs
public import Idealize.ShloMosaic.Lib.StackMember
public import Idealize.ShloMosaic.Lib.StableHlo.Run
public import Idealize.ShloMosaic.Lib.Pipeline.ValueKit.Geometry

@[expose] public section

noncomputable section

open Idealize.ShloMosaic Idealize.ShloMosaic.TcCoe Idealize.ShloMosaic.ValueIdx Idealize.ShloMosaic.StackMember Idealize.SL.Sem
open Idealize.ShloMosaic.Pipeline (Dat)
open scoped BigOperators

namespace Cert.Proof.GmlpPrompt

open Cert.Proof.Gmlp

/-- The position of flat row `r` in its chunk of 128. -/
def pos (r : Fin 8192) : Fin 128 := ⟨r.val % 128, by omega⟩

/-- Row `s` of the chunk of 128 that flat row `r` lies in. -/
def chunkRow (r : Fin 8192) (s : Fin 128) : Fin 8192 := ⟨128 * (r.val / 128) + s.val, by omega⟩

/-- The flat row of position `s` among the last 128 of batch `b`. -/
def lastRow (b : Fin 4) (s : Fin 128) : Fin 8192 := ⟨2048 * b.val + 1920 + s.val, by omega⟩

/-- The gated MLP's output at flat row `r` and column `j`. -/
def gated (z : (⟨2, ![8192, 4096]⟩ : Shape).Idx → EReal) (lg lb : (⟨1, ![2048]⟩ : Shape).Idx → EReal) (ws : (⟨3, ![16, 128, 128]⟩ : Shape).Idx → EReal)
    (bs : (⟨2, ![16, 128]⟩ : Shape).Idx → EReal) (r : Fin 8192) (j : Fin 2048) : EReal :=
  gatedAt (z (ix2 r (lo j))) (fun s => ws (ix3 (group j) (pos r) s)) (fun s => valueOf z lg lb (chunkRow r s) j) (pos r) (bs (ix2 (group j) (pos r)))

end Cert.Proof.GmlpPrompt

namespace Cert.Proof.GmlpPrompt

open Cert.Proof.Gmlp
open Cert.Kernel10Ideal Cert.Kernel10Ideal.Gen

variable (m : (ℓ : Loc nD τ sig) → Buf (Elt Ideal) ℓ)

/-- The windows' blocks at point `t`: rows `t` of the two halves of the columns, the other arrays whole; the second result's block is its batch. -/
theorem points : ∀ t : Fin cfg0.N, (win0_0.index t 0 = t.val ∧ win0_0.index t 1 = 0) ∧ (win0_1.index t 0 = t.val ∧ win0_1.index t 1 = 1)
    ∧ (win0_2.index t 0 = 0 ∧ win0_2.index t 1 = 0) ∧ (win0_3.index t 0 = 0 ∧ win0_3.index t 1 = 0)
    ∧ (win0_4.index t 0 = 0 ∧ win0_4.index t 1 = 0 ∧ win0_4.index t 2 = 0) ∧ (win0_5.index t 0 = 0 ∧ win0_5.index t 1 = 0)
    ∧ (win0_6.index t 0 = t.val ∧ win0_6.index t 1 = 0) ∧ (win0_7.index t 0 = t.val / 16 ∧ win0_7.index t 1 = 0 ∧ win0_7.index t 2 = 0) :=
  (by decide +kernel : ∀ t : Fin grid0.N, _)

theorem V_scale (c : Dev nD) (u : Fin 2048) : (V m c main_v0 (ix2 0 u) : EReal) = m ((c : Thread nD τ).loc main_arg1) (ix1 u) := by
  have e : V m c main_v0 = shapeCast S1x2048 (m ((c : Thread nD τ).loc main_arg1)) shapeCasts_S2048_S1x2048 := by
    unfold_abbrev_sides
    after_results
    rfl
  rw [e]
  exact scaleRow_apply _ _ u

theorem V_shift (c : Dev nD) (u : Fin 2048) : (V m c main_v1 (ix2 0 u) : EReal) = m ((c : Thread nD τ).loc main_arg2) (ix1 u) := by
  have e : V m c main_v1 = shapeCast S1x2048 (m ((c : Thread nD τ).loc main_arg2)) shapeCasts_S2048_S1x2048 := by
    unfold_abbrev_sides
    after_results
    rfl
  rw [e]
  exact scaleRow_apply _ _ u

/-- The biases' array as the call reads it, transposed. -/
theorem V_bias (c : Dev nD) (r : Fin 128) (g : Fin 16) : (V m c main_v2 (ix2 r g) : EReal) = m ((c : Thread nD τ).loc main_arg4) (ix2 g r) := by
  have e : V m c main_v2 = transpose S128x16 [1, 0] (m ((c : Thread nD τ).loc main_arg4)) transposes_S16x128_S128x16_1_0 := by
    unfold_abbrev_sides
    after_results
  rw [e]
  exact transpose_apply _ _ _ _ (ix2 g r) fun b => by fin_cases b <;> rfl

/-- The gate's block at point `t`. -/
theorem gate_block (c : Dev nD) (t : Fin cfg0.N) (r : Fin 128) (j : Fin 2048) (R : Fin 8192) (hR : R.val = 128 * t.val + r.val) :
    (iblk m c 0 t (ix2 r j) : EReal) = m ((c : Thread nD τ).loc main_arg0) (ix2 R (lo j)) := by
  obtain ⟨⟨a0, a1⟩, -⟩ := points t
  refine (congrFun (V_main_arg0 m c) _).trans (congrArg (m ((c : Thread nD τ).loc main_arg0)) ?_)
  funext a; apply Fin.ext; fin_cases a
  · show win0_0.index t 0 * 128 + 1 * r.val = R.val
    rw [a0]; omega
  · show win0_0.index t 1 * 2048 + 1 * j.val = j.val
    rw [a1]; omega

/-- The values' block at point `t`. -/
theorem value_block (c : Dev nD) (t : Fin cfg0.N) (r : Fin 128) (j : Fin 2048) (R : Fin 8192) (hR : R.val = 128 * t.val + r.val) :
    (iblk m c 1 t (ix2 r j) : EReal) = m ((c : Thread nD τ).loc main_arg0) (ix2 R (hi j)) := by
  obtain ⟨-, ⟨a0, a1⟩, -⟩ := points t
  refine (congrFun (V_main_arg0 m c) _).trans (congrArg (m ((c : Thread nD τ).loc main_arg0)) ?_)
  funext a; apply Fin.ext; fin_cases a
  · show win0_1.index t 0 * 128 + 1 * r.val = R.val
    rw [a0]; omega
  · show win0_1.index t 1 * 2048 + 1 * j.val = 2048 + j.val
    rw [a1]; omega

/-- The scales' block, the shifts' block, the mixing weights' block and the biases' block, at every point. -/
theorem scale_block (c : Dev nD) (t : Fin cfg0.N) (u : Fin 2048) : (iblk m c 2 t (ix2 0 u) : EReal) = m ((c : Thread nD τ).loc main_arg1) (ix1 u) := by
  obtain ⟨-, -, ⟨a0, a1⟩, -⟩ := points t
  refine Eq.trans (congrArg (V m c main_v0) ?_) (V_scale m c u)
  funext a; apply Fin.ext; fin_cases a
  · show win0_2.index t 0 * 1 + 1 * 0 = 0
    rw [a0]
  · show win0_2.index t 1 * 2048 + 1 * u.val = u.val
    rw [a1]; omega

theorem shift_block (c : Dev nD) (t : Fin cfg0.N) (u : Fin 2048) : (iblk m c 3 t (ix2 0 u) : EReal) = m ((c : Thread nD τ).loc main_arg2) (ix1 u) := by
  obtain ⟨-, -, -, ⟨a0, a1⟩, -⟩ := points t
  refine Eq.trans (congrArg (V m c main_v1) ?_) (V_shift m c u)
  funext a; apply Fin.ext; fin_cases a
  · show win0_3.index t 0 * 1 + 1 * 0 = 0
    rw [a0]
  · show win0_3.index t 1 * 2048 + 1 * u.val = u.val
    rw [a1]; omega

theorem weight_block (c : Dev nD) (t : Fin cfg0.N) (g : Fin 16) (r s : Fin 128) :
    (iblk m c 4 t (ix3 g r s) : EReal) = m ((c : Thread nD τ).loc main_arg3) (ix3 g r s) := by
  obtain ⟨-, -, -, -, ⟨a0, a1, a2⟩, -⟩ := points t
  refine (congrFun (V_main_arg3 m c) _).trans (congrArg (m ((c : Thread nD τ).loc main_arg3)) ?_)
  funext a; apply Fin.ext; fin_cases a
  · show win0_4.index t 0 * 16 + 1 * g.val = g.val
    rw [a0]; omega
  · show win0_4.index t 1 * 128 + 1 * r.val = r.val
    rw [a1]; omega
  · show win0_4.index t 2 * 128 + 1 * s.val = s.val
    rw [a2]; omega

theorem bias_block (c : Dev nD) (t : Fin cfg0.N) (r : Fin 128) (g : Fin 16) :
    (iblk m c 5 t (ix2 r g) : EReal) = m ((c : Thread nD τ).loc main_arg4) (ix2 g r) := by
  obtain ⟨-, -, -, -, -, ⟨a0, a1⟩, -⟩ := points t
  refine Eq.trans (congrArg (V m c main_v2) ?_) (V_bias m c r g)
  funext a; apply Fin.ext; fin_cases a
  · show win0_5.index t 0 * 128 + 1 * r.val = r.val
    rw [a0]; omega
  · show win0_5.index t 1 * 16 + 1 * g.val = g.val
    rw [a1]; omega

/-- The normalised values of a row of the block at point `t`. -/
theorem values_block (c : Dev nD) (t : Fin cfg0.N) (r : Fin 128) (j : Fin 2048) (R : Fin 8192) (hR : R.val = 128 * t.val + r.val) :
    layerAt (fun u => iblk m c 1 t (ix2 r u)) (fun u => iblk m c 2 t (ix2 0 u)) (fun u => iblk m c 3 t (ix2 0 u)) j
      = valueOf (m ((c : Thread nD τ).loc main_arg0)) (m ((c : Thread nD τ).loc main_arg1)) (m ((c : Thread nD τ).loc main_arg2)) R j := by
  have h1 : (fun u => (iblk m c 1 t (ix2 r u) : EReal)) = fun u => m ((c : Thread nD τ).loc main_arg0) (ix2 R (hi u)) := funext fun u => value_block m c t r u R hR
  have h2 : (fun u => (iblk m c 2 t (ix2 0 u) : EReal)) = fun u => m ((c : Thread nD τ).loc main_arg1) (ix1 u) := funext fun u => scale_block m c t u
  have h3 : (fun u => (iblk m c 3 t (ix2 0 u) : EReal)) = fun u => m ((c : Thread nD τ).loc main_arg2) (ix1 u) := funext fun u => shift_block m c t u
  exact congrFun (congr (congrArg₂ layerAt h1 h2) h3) j

/-- The first result after the run: the gated MLP's output. -/
theorem final_out (c : Dev nD) : (dats m 0 c).arrAt 6 cfg0.N
    = fun i : S8192x2048.Idx => gated (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) := by
  refine (dats m 0 c).arrAt_eq_of_covers 6 _ (by decide +kernel) fun t hf (y : S128x2048.Idx) => ?_
  obtain ⟨-, -, -, -, -, -, ⟨e0, e1⟩, -⟩ := points t
  have hy0 : (y 0).val < 128 := (y 0).isLt
  show (dats m 0 c).after 6 t y = gated _ _ _ _ _ ((((cfg0.win 6).blk t).view.emb y) 0) ((((cfg0.win 6).blk t).view.emb y) 1)
  have r0 : ((((cfg0.win 6).blk t).view.emb y) 0).val = 128 * t.val + (y 0).val := by
    show win0_6.index t 0 * 128 + 1 * (y 0).val = _
    rw [e0]; omega
  have r1 : (((cfg0.win 6).blk t).view.emb y) 1 = y 1 := by
    apply Fin.ext
    show win0_6.index t 1 * 2048 + 1 * (y 1).val = (y 1).val
    rw [e1]; omega
  rw [r1]
  generalize (((cfg0.win 6).blk t).view.emb y) 0 = R at r0 ⊢
  change Fin 8192 at R
  rw [after0_6]
  refine (congrArg (out0_6 (iblk m c 0 t) (iblk m c 1 t) (iblk m c 2 t) (iblk m c 3 t) (iblk m c 4 t) (iblk m c 5 t)) (eq_ix2 y)).trans ?_
  refine (out_apply _ _ _ _ _ _ (y 0) (y 1)).trans ?_
  have hp : y 0 = pos R := Fin.ext (by show (y 0).val = R.val % 128; omega)
  unfold gated
  rw [← hp]
  have g0 := gate_block m c t (y 0) (y 1) R r0
  have g4 : (fun s => (iblk m c 4 t (ix3 (group (y 1)) (y 0) s) : EReal)) = fun s => m ((c : Thread nD τ).loc main_arg3) (ix3 (group (y 1)) (y 0) s) :=
    funext fun s => weight_block m c t _ _ s
  have g5 := bias_block m c t (y 0) (group (y 1))
  have gv := funext fun s : Fin 128 => values_block m c t s (y 1) (chunkRow R s) (by show 128 * (R.val / 128) + s.val = _; omega)
  rw [g0, g4, g5, gv]

/-- The second result after the run: the normalised values of each batch's last 128 positions. -/
theorem final_values (c : Dev nD) : (dats m 0 c).arrAt 7 cfg0.N
    = fun i : S4x128x2048.Idx => valueOf (m ((c : Thread nD τ).loc main_arg0)) (m ((c : Thread nD τ).loc main_arg1)) (m ((c : Thread nD τ).loc main_arg2))
        (lastRow (i 0) (i 1)) (i 2) := by
  refine (dats m 0 c).arrAt_eq_of_covers 7 _ (by decide +kernel) fun t hf (y : S1x128x2048.Idx) => ?_
  have h15 : t.val % 16 = 15 := (flush0_7 t).mp hf
  obtain ⟨-, -, -, -, -, -, -, e0, e1, e2⟩ := points t
  have hy0 : (y 0).val < 1 := (y 0).isLt
  show (dats m 0 c).after 7 t y = valueOf _ _ _ (lastRow ((((cfg0.win 7).blk t).view.emb y) 0) ((((cfg0.win 7).blk t).view.emb y) 1)) ((((cfg0.win 7).blk t).view.emb y) 2)
  have r0 : ((((cfg0.win 7).blk t).view.emb y) 0).val = t.val / 16 := by
    show win0_7.index t 0 * 1 + 1 * (y 0).val = _
    rw [e0]; omega
  have r1 : (((cfg0.win 7).blk t).view.emb y) 1 = y 1 := by
    apply Fin.ext
    show win0_7.index t 1 * 128 + 1 * (y 1).val = (y 1).val
    rw [e1]; omega
  have r2 : (((cfg0.win 7).blk t).view.emb y) 2 = y 2 := by
    apply Fin.ext
    show win0_7.index t 2 * 2048 + 1 * (y 2).val = (y 2).val
    rw [e2]; omega
  rw [r1, r2]
  generalize (((cfg0.win 7).blk t).view.emb y) 0 = B at r0 ⊢
  change Fin 4 at B
  rw [after0_7]
  have ey : y = ix3 0 (y 1) (y 2) := by
    refine (eq_ix3 y).trans (congrArg (fun a => ix3 a (y 1) (y 2)) (Fin.ext ?_))
    show (y 0).val = 0
    omega
  refine (congrArg (out0_7 (iblk m c 0 t) (iblk m c 1 t) (iblk m c 2 t) (iblk m c 3 t) (iblk m c 4 t) (iblk m c 5 t)) ey).trans ?_
  refine (value_apply _ _ _ _ _ _ (y 1) (y 2)).trans ?_
  exact values_block m c t (y 1) (y 2) (lastRow B (y 1)) (by show 2048 * B.val + 1920 + (y 1).val = _; omega)

end Cert.Proof.GmlpPrompt

namespace Cert.Proof.GmlpPrompt

open Cert.Proof.Gmlp
open Cert.Reference10Ideal Cert.Reference10Ideal.Gen

theorem token_facts : TokenFacts 4 2048 :=
  ⟨by decide, by decide, reducesTo_S4x2048x2048_S4x2048_d2, by decide, h_S_, bcast_S4x2048_S4x2048x1_0_1, bcast_S_S4x2048x1,
    bcast_S4x2048x1_S4x2048x2048_0_1_2, bcast_S2048_S1x1x2048_2, bcast_S1x1x2048_S4x2048x2048_0_1_2⟩

/-- The flat row of position `t` of batch `b`. -/
def flat (b : Fin 4) (t : Fin 2048) : Fin 8192 := ⟨2048 * b.val + t.val, by omega⟩

/-- The batch of a flat row, its position in the batch, and the position's chunk. -/
def batch (r : Fin 8192) : Fin 4 := ⟨r.val / 2048, by omega⟩
def token (r : Fin 8192) : Fin 2048 := ⟨r.val % 2048, by omega⟩
def chunk (r : Fin 8192) : Fin 16 := ⟨r.val % 2048 / 128, by omega⟩

/-- The normalised values of all the batches. -/
def values (z : FVec Ideal S8192x4096 .f32) (lg lb : FVec Ideal S2048 .f32) : FVec Ideal S4x2048x2048 .f32 :=
  tokenLayer token_facts (extractStridedSlice S4x2048x2048 ![0, 0, 2048] (shapeCast S4x2048x4096 z shapeCasts_S8192x4096_S4x2048x4096)
    slices_S4x2048x4096_S4x2048x2048_0_0_2048) lg lb

/-- The facts the lower triangle of the mixing weights states. -/
theorem lower_facts : LowerFacts 128 :=
  ⟨by decide, by decide, bcast_S_S128x128, bcast_S128x128_S16x128x128_1_2, bcast_S_S16x128x128⟩

/-- The values of all the batches mixed over the positions of their chunks. -/
def mix (V : FVec Ideal S4x2048x2048 .f32) (ws : FVec Ideal S16x128x128 .f32) : FVec Ideal S16x4x16x128x128 .f32 :=
  Host.dotGeneral dot_S4x16x128x16x128_S16x128x128_S16x4x16x128x128_2_2_014_1_3_0 none (shapeCast S4x16x128x16x128 V shapeCasts_S4x2048x2048_S4x16x128x16x128) (lower lower_facts ws)

/-- The biases spread over the batches, the chunks and the columns of a group. -/
def biases (bs : FVec Ideal S16x128 .f32) : FVec Ideal S4x16x128x16x128 .f32 :=
  broadcastInDim S4x16x128x16x128 ![0, 1, 2, 3, 4] bcast_S1x1x128x16x1_S4x16x128x16x128_0_1_2_3_4
    (broadcastInDim S1x1x128x16x1 ![2, 3] bcast_S128x16_S1x1x128x16x1_2_3 (transpose S128x16 [1, 0] bs transposes_S16x128_S128x16_1_0))

/-- The reference's output, batches of positions. -/
def product (z : FVec Ideal S8192x4096 .f32) (lg lb : FVec Ideal S2048 .f32) (ws : FVec Ideal S16x128x128 .f32) (bs : FVec Ideal S16x128 .f32) : FVec Ideal S4x2048x2048 .f32 :=
  mulf (extractStridedSlice S4x2048x2048 ![0, 0, 0] (shapeCast S4x2048x4096 z shapeCasts_S8192x4096_S4x2048x4096) slices_S4x2048x4096_S4x2048x2048_0_0_0)
    (shapeCast S4x2048x2048 (addf (transpose S4x16x128x16x128 [1, 2, 4, 0, 3] (mix (values z lg lb) ws) transposes_S16x4x16x128x128_S4x16x128x16x128_1_2_4_0_3) (biases bs))
      shapeCasts_S4x16x128x16x128_S4x2048x2048)

/-- The reference's output, flat rows. -/
def output (z : FVec Ideal S8192x4096 .f32) (lg lb : FVec Ideal S2048 .f32) (ws : FVec Ideal S16x128x128 .f32) (bs : FVec Ideal S16x128 .f32) : FVec Ideal S8192x2048 .bf16 :=
  truncf .bf16 (shapeCast S8192x2048 (product z lg lb ws bs) shapeCasts_S4x2048x2048_S8192x2048) bitsLt_bf16_f32

theorem split_apply (z : FVec Ideal S8192x4096 .f32) (b : Fin 4) (t : Fin 2048) (j : Fin 4096) :
    (shapeCast S4x2048x4096 z shapeCasts_S8192x4096_S4x2048x4096 (ix3 b t j) : EReal) = z (ix2 (flat b t) j) := by
  refine shapeCast_apply _ _ _ _ ?_
  refine (Shape.rowMajor_val_two _).trans (Eq.trans ?_ (Shape.rowMajor_val_three _).symm)
  show (2048 * b.val + t.val) * 4096 + j.val = (b.val * 2048 + t.val) * 4096 + j.val
  omega

theorem values_apply (z : FVec Ideal S8192x4096 .f32) (lg lb : FVec Ideal S2048 .f32) (b : Fin 4) (t j : Fin 2048) :
    (values z lg lb (ix3 b t j) : EReal) = valueOf z lg lb (flat b t) j := by
  refine (tokenLayer_apply token_facts _ lg lb b t j).trans ?_
  refine congrArg (fun f => layerAt f _ _ j) (funext fun u => ?_)
  refine (extractStridedSlice_apply _ _ _ (ix3 b t u) (ix3 b t (hi u)) fun a => ?_).trans (split_apply z b t (hi u))
  fin_cases a
  · exact (Nat.zero_add _).symm
  · exact (Nat.zero_add _).symm
  · rfl

theorem mix_apply (V : FVec Ideal S4x2048x2048 .f32) (ws : FVec Ideal S16x128x128 .f32) (g : Fin 16) (b : Fin 4) (c : Fin 16) (d t : Fin 128) :
    (mix V ws (ix5 g b c d t) : EReal)
      = ∑ s : Fin 128, causal (fun s => ws (ix3 g t s)) t s * V (ix3 b (⟨128 * c.val + s.val, by omega⟩ : Fin 2048) (groupCol g d)) := by
  show FloatOps.dotGeneral _ none _ _ _ (ix5 g b c d t) = _
  rw [Ideal.dotGeneral_apply,
    ← Equiv.sum_comp (contrEquiv1 dot_S4x16x128x16x128_S16x128x128_S16x4x16x128x128_2_2_014_1_3_0 128 rfl rfl).symm]
  refine Finset.sum_congr rfl fun s _ => ?_
  have e := contrEquiv1_symm_val dot_S4x16x128x16x128_S16x128x128_S16x4x16x128x128_2_2_014_1_3_0 128 rfl rfl s
  refine (congrArg₂ (fun a b : EReal => a * b) ((congrArg (shapeCast S4x16x128x16x128 V shapeCasts_S4x2048x2048_S4x16x128x16x128) (?_ : _ = ix5 b c s g d)).trans ?_)
    ((congrArg (lower lower_facts ws) (?_ : _ = ix3 g t s)).trans (lower_apply lower_facts ws g t s))).trans (mul_comm _ _)
  · funext a; apply Fin.ext
    match a with
    | ⟨0, _⟩ => rfl
    | ⟨1, _⟩ => rfl
    | ⟨2, _⟩ => exact e
    | ⟨3, _⟩ => rfl
    | ⟨4, _⟩ => rfl
  · refine shapeCast_apply _ _ _ _ ?_
    refine (Shape.rowMajor_val_three _).trans (Eq.trans ?_ (Shape.rowMajor_val_five _).symm)
    show (b.val * 2048 + (128 * c.val + s.val)) * 2048 + (128 * g.val + d.val) = (((b.val * 16 + c.val) * 128 + s.val) * 16 + g.val) * 128 + d.val
    omega
  · funext a; apply Fin.ext
    match a with
    | ⟨0, _⟩ => rfl
    | ⟨1, _⟩ => rfl
    | ⟨2, _⟩ => exact e

theorem biases_apply (bs : FVec Ideal S16x128 .f32) (b : Fin 4) (c : Fin 16) (t : Fin 128) (g : Fin 16) (d : Fin 128) :
    (biases bs (ix5 b c t g d) : EReal) = bs (ix2 g t) := by
  refine (broadcastInDim_apply _ _ _ _ (ix5 0 0 t g 0) fun a => by fin_cases a <;> rfl).trans ?_
  refine (broadcastInDim_apply _ _ _ _ (ix2 t g) fun a => by fin_cases a <;> rfl).trans ?_
  exact transpose_apply _ _ _ _ (ix2 g t) fun a => by fin_cases a <;> rfl

/-- The reference's output is the gated MLP's. -/
theorem output_apply (z : FVec Ideal S8192x4096 .f32) (lg lb : FVec Ideal S2048 .f32) (ws : FVec Ideal S16x128x128 .f32) (bs : FVec Ideal S16x128 .f32)
    (r : Fin 8192) (j : Fin 2048) : (output z lg lb ws bs (ix2 r j) : EReal) = gated z lg lb ws bs r j := by
  have hr : flat (batch r) (token r) = r := Fin.ext (by show 2048 * (r.val / 2048) + r.val % 2048 = r.val; omega)
  refine (shapeCast_apply (product z lg lb ws bs) shapeCasts_S4x2048x2048_S8192x2048 (ix2 r j) (ix3 (batch r) (token r) j) ?_).trans ?_
  · refine (Shape.rowMajor_val_three _).trans (Eq.trans ?_ (Shape.rowMajor_val_two _).symm)
    show (r.val / 2048 * 2048 + r.val % 2048) * 2048 + j.val = r.val * 2048 + j.val
    omega
  refine congrArg₂ (fun a b : EReal => a * b) ?_ ?_
  · refine (extractStridedSlice_apply _ _ _ _ (ix3 (batch r) (token r) (lo j)) fun a => ?_).trans ((split_apply z _ _ _).trans (by rw [hr]))
    fin_cases a
    · exact (Nat.zero_add _).symm
    · exact (Nat.zero_add _).symm
    · exact (Nat.zero_add _).symm
  · refine (shapeCast_apply (α := EReal) _ shapeCasts_S4x16x128x16x128_S4x2048x2048 _ (ix5 (batch r) (chunk r) (pos r) (group j) (lane j)) ?_).trans ?_
    · refine (Shape.rowMajor_val_five _).trans (Eq.trans ?_ (Shape.rowMajor_val_three _).symm)
      show (((r.val / 2048 * 16 + r.val % 2048 / 128) * 128 + r.val % 128) * 16 + j.val / 128) * 128 + j.val % 128 = (r.val / 2048 * 2048 + r.val % 2048) * 2048 + j.val
      omega
    refine congrArg₂ (fun a b : EReal => a + b) ?_ (biases_apply bs _ _ _ _ _)
    refine (transpose_apply _ _ _ _ (ix5 (group j) (batch r) (chunk r) (lane j) (pos r)) fun a => by fin_cases a <;> rfl).trans ?_
    refine (mix_apply _ _ _ _ _ _ _).trans (Finset.sum_congr rfl fun s _ => congrArg₂ (fun a b : EReal => a * b) rfl ?_)
    refine (values_apply _ _ _ _ _ _).trans (congrArg₂ (valueOf z lg lb) (Fin.ext ?_) (Fin.ext ?_))
    · show 2048 * (r.val / 2048) + (128 * (r.val % 2048 / 128) + s.val) = 128 * (r.val / 128) + s.val
      omega
    · show 128 * (j.val / 128) + j.val % 128 = j.val
      omega

/-- The two programs compute the same function: from equal arguments the first results end at the gated MLP's output and the second at the
    normalised values of each batch's last 128 positions. -/
theorem algebraic (hK : Cert.Kernel10Ideal.Facts) (hR : Cert.Reference10Ideal.Facts) :
    Cert.algebraic_Kernel10Ideal_Reference10Ideal (hKernel10Ideal := hK) (hReference10Ideal := hR) := by
  intro m g m' g' _ hm
  refine ⟨fun c => fun i : Cert.Kernel10Ideal.S8192x2048.Idx => gated
      (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg1))
      (m ((c.tc : Thread Cert.Kernel10Ideal.nD Cert.Kernel10Ideal.τ).loc Cert.Kernel10Ideal.main_arg2))
      (m ((c.tc : Thread Cert.Kernel10Ideal.nD Cert.Kernel10Ideal.τ).loc Cert.Kernel10Ideal.main_arg3))
      (m ((c.tc : Thread Cert.Kernel10Ideal.nD Cert.Kernel10Ideal.τ).loc Cert.Kernel10Ideal.main_arg4)) (i 0) (i 1),
    fun c => fun i : Cert.Kernel10Ideal.S4x128x2048.Idx => valueOf
      (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg1))
      (m ((c.tc : Thread Cert.Kernel10Ideal.nD Cert.Kernel10Ideal.τ).loc Cert.Kernel10Ideal.main_arg2)) (lastRow (i 0) (i 1)) (i 2),
    (θ_run _ _ _).mono (fun r h c => ⟨(h c).1.trans (final_out m c), (h c).2.1.trans (final_values m c), (h c).2.2⟩) (Cert.Kernel10Ideal.Value.run_blocks m g),
    (θ_run _ _ _).mono (fun r h c => ⟨(h c).1.trans ?_, (h c).2.1.trans ?_, (h c).2.2⟩) (Cert.Reference10Ideal.Value.run m' g')⟩
  · rw [show Cert.Reference10Ideal.Value.res_main_v37 m' c = output _ _ _ _ _ from rfl, (hm c).1, (hm c).2.1, (hm c).2.2.1, (hm c).2.2.2.1, (hm c).2.2.2.2]
    funext i
    rw [eq_ix2 i]
    exact output_apply _ _ _ _ _ (i 0) (i 1)
  · rw [(hm c).1, (hm c).2.1, (hm c).2.2.1]
    funext i
    rw [eq_ix3 i]
    refine (extractStridedSlice_apply ![0, 1920, 0] (values _ _ _) slices_S4x2048x2048_S4x128x2048_0_1920_0 (ix3 (i 0) (i 1) (i 2))
      (ix3 (i 0) (⟨1920 + (i 1).val, by have : (i 1).val < 128 := (i 1).isLt; omega⟩ : Fin 2048) (i 2)) fun a => ?_).trans ?_
    · fin_cases a
      · exact (Nat.zero_add _).symm
      · rfl
      · exact (Nat.zero_add _).symm
    refine (values_apply _ _ _ _ _ _).trans (congrArg (fun q => valueOf _ _ _ q (i 2)) (Fin.ext ?_))
    show 2048 * (i 0).val + (1920 + (i 1).val) = 2048 * (i 0).val + 1920 + (i 1).val
    omega

end Cert.Proof.GmlpPrompt

end
-- ==== Proof.Gmlp.SampleBody.lean ====
/-
  The body of the gated MLP's kernel for the sample batch on the extended reals: the bias, then eight weighted rows added one at a time, times the
  gate's input; the second result's block is the normalised rows themselves.
-/
module

public import proofs.«01_k».proof.Proof.Gmlp.Gate
public import proofs.«01_k».proof.Proof.Gen.Kernel11Ideal.Frame
public import Idealize.ShloMosaic.Lib.Claim

@[expose] public section

noncomputable section

open Idealize.ShloMosaic Idealize.ShloMosaic.TcCoe Idealize.ShloMosaic.ValueIdx Idealize.ShloMosaic.StackMember Idealize.SL.Sem
open Cert.Proof.Proj (zeros2 zeros3)
open scoped BigOperators

namespace Cert.Proof.GmlpSample

open Cert.Proof.Gmlp
open Cert.Kernel11Ideal Cert.Kernel11Ideal.Gen

theorem layer_facts : LayerFacts 8 :=
  ⟨by decide, reduces_S8x2048_S8, shapeCasts_S8_S8x1, broadcasts_S8x1_S8x2048, shapeCasts_S1x2048_S1x2048, broadcasts_S1x2048_S8x2048⟩

theorem row_ok (s : Fin 8) : S8x2048.Slices ![s.val, 0] S1x2048 := ⟨rfl, by revert s; decide⟩
theorem weight_ok (s : Fin 8) : ∀ a, (![s.val, 0, 0] : Fin 3 → Nat) a + S1x8x2048.size a ≤ S8x8x2048.size a := by revert s; decide

/-- The weights of position `s` at each position and column. -/
abbrev weightRect (s : Fin 8) : Rect S8x8x2048 := Rect.unit (s := S8x8x2048) ![s.val, 0, 0] S1x8x2048.size (weight_ok s)

/-- Position `s`'s term: its weights times its row of values. -/
def term (w : Vec Ideal S8x8x2048 .f32) (V : FVec Ideal S8x2048 .f32) (s : Fin 8) : FVec Ideal S8x2048 .f32 :=
  mulf (extf .f32 (truncf .bf16 (shapeCast S8x2048 (View.ld (Val := Elt Ideal) (e' := .f32) w (weightRect s) : FVec Ideal S1x8x2048 .f32) shapeCasts_S1x8x2048_S8x2048) bitsLt_bf16_f32) bitsLt_bf16_f32)
    (broadcastTo S8x2048 (extf .f32 (truncf .bf16 (extractStridedSlice S1x2048 ![s.val, 0] V (row_ok s)) bitsLt_bf16_f32) bitsLt_bf16_f32) broadcasts_S1x2048_S8x2048)

theorem term_apply (w : Vec Ideal S8x8x2048 .f32) (V : FVec Ideal S8x2048 .f32) (s t : Fin 8) (j : Fin 2048) :
    (term w V s (ix2 t j) : EReal) = (show EReal from w (ix3 s t j)) * V (ix2 s j) := by
  refine congrArg₂ (fun a b : EReal => a * b) ?_ ?_
  · show (shapeCast S8x2048 (View.ld (Val := Elt Ideal) (e' := .f32) w (weightRect s) : FVec Ideal S1x8x2048 .f32) shapeCasts_S1x8x2048_S8x2048 (ix2 t j) : EReal) = w (ix3 s t j)
    refine (shapeCast_1ab_ab_apply _ _ t j).trans ?_
    exact View.ld_unit_apply_of w _ _ _ (ix3 0 t j) (ix3 s t j) fun a => by
      fin_cases a
      · rfl
      · exact (Nat.zero_add _).symm
      · exact (Nat.zero_add _).symm
  · refine (broadcastTo_apply _ _ (ix2 t j) (ix2 0 j) fun a => by fin_cases a <;> rfl).trans ?_
    exact extractStridedSlice_apply _ V (row_ok s) (ix2 0 j) (ix2 s j) fun a => by
      fin_cases a
      · rfl
      · exact (Nat.zero_add _).symm

/-- What the kernel stores: the gate's input times the bias and the eight terms. -/
def mixed (u V b : FVec Ideal S8x2048 .f32) (w : Vec Ideal S8x8x2048 .f32) : FVec Ideal S8x2048 .f32 :=
  mulf u (addf (addf (addf (addf (addf (addf (addf (addf (shapeCast S8x2048 b shapeCasts_S8x2048_S8x2048) (term w V 0)) (term w V 1)) (term w V 2)) (term w V 3))
    (term w V 4)) (term w V 5)) (term w V 6)) (term w V 7))

theorem mixed_apply (u V b : FVec Ideal S8x2048 .f32) (w : Vec Ideal S8x8x2048 .f32) (t : Fin 8) (j : Fin 2048) :
    (mixed u V b w (ix2 t j) : EReal)
      = (show EReal from u (ix2 t j)) * (∑ s : Fin 8, (show EReal from w (ix3 s t j)) * V (ix2 s j) + (show EReal from b (ix2 t j))) := by
  refine congrArg₂ (fun a b : EReal => a * b) rfl ?_
  rw [Fin.sum_univ_eight]
  have hb : (shapeCast S8x2048 b shapeCasts_S8x2048_S8x2048 (ix2 t j) : EReal) = b (ix2 t j) := shapeCast_apply _ _ (ix2 t j) (ix2 t j) rfl
  have h := fun s => term_apply w V s t j
  refine Eq.trans (congrArg₂ (fun a b : EReal => a + b) (congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b) (congrArg₂ (fun a b : EReal => a + b) hb (h 0)) (h 1)) (h 2))
    (h 3)) (h 4)) (h 5)) (h 6)) (h 7)) ?_
  simp only [add_assoc]
  rw [add_comm (show EReal from b (ix2 t j))]
  simp only [add_assoc]

/-- The first result's block at a row and a column. -/
theorem out_apply (x0 x1 : Vec Ideal S8x2048 .f32) (x2 x3 : Vec Ideal S1x2048 .f32) (x4 : Vec Ideal S8x8x2048 .f32) (x5 : Vec Ideal S8x2048 .f32)
    (t : Fin 8) (j : Fin 2048) :
    (out0_6 x0 x1 x2 x3 x4 x5 (ix2 t j) : EReal)
      = (show EReal from x0 (ix2 t j)) * (∑ s : Fin 8, (show EReal from x4 (ix3 s t j))
          * layerAt (fun u => x1 (ix2 s u)) (fun u => x2 (ix2 0 u)) (fun u => x3 (ix2 0 u)) j + (show EReal from x5 (ix2 t j))) := by
  have e0 : View.ld (Val := Elt Ideal) (e' := .f32) x0 r0_0 = x0 := View.ld_unit_zero (S := S8x2048) zeros2 _ x0
  have e1 : View.ld (Val := Elt Ideal) (e' := .f32) x1 r0_0 = x1 := View.ld_unit_zero (S := S8x2048) zeros2 _ x1
  have e2 : View.ld (Val := Elt Ideal) (e' := .f32) x2 r0_1 = x2 := View.ld_unit_zero (S := S1x2048) zeros2 _ x2
  have e3 : View.ld (Val := Elt Ideal) (e' := .f32) x3 r0_1 = x3 := View.ld_unit_zero (S := S1x2048) zeros2 _ x3
  have e5 : View.ld (Val := Elt Ideal) (e' := .f32) x5 r0_0 = x5 := View.ld_unit_zero (S := S8x2048) zeros2 _ x5
  have e : out0_6 x0 x1 x2 x3 x4 x5 = mixed x0 (layer layer_facts x1 x2 x3) x5 x4 := by
    unfold_out out0_6
    rw [e0, e1, e2, e3, e5]
    exact View.canon_unit_zero (Val := Elt Ideal) zeros2 _ _
  rw [e]
  refine (mixed_apply _ _ _ _ t j).trans ?_
  refine congrArg (fun q : EReal => (show EReal from x0 (ix2 t j)) * (q + (show EReal from x5 (ix2 t j)))) ?_
  exact Finset.sum_congr rfl fun s _ => congrArg (fun q : EReal => (show EReal from x4 (ix3 s t j)) * q) (layer_apply layer_facts x1 x2 x3 s j)

/-- The second result's block at a row and a column. -/
theorem value_apply (x0 x1 : Vec Ideal S8x2048 .f32) (x2 x3 : Vec Ideal S1x2048 .f32) (x4 : Vec Ideal S8x8x2048 .f32) (x5 : Vec Ideal S8x2048 .f32)
    (r : Fin 8) (j : Fin 2048) :
    (out0_7 x0 x1 x2 x3 x4 x5 (ix3 0 r j) : EReal) = layerAt (fun u => x1 (ix2 r u)) (fun u => x2 (ix2 0 u)) (fun u => x3 (ix2 0 u)) j := by
  have e1 : View.ld (Val := Elt Ideal) (e' := .f32) x1 r0_0 = x1 := View.ld_unit_zero (S := S8x2048) zeros2 _ x1
  have e2 : View.ld (Val := Elt Ideal) (e' := .f32) x2 r0_1 = x2 := View.ld_unit_zero (S := S1x2048) zeros2 _ x2
  have e3 : View.ld (Val := Elt Ideal) (e' := .f32) x3 r0_1 = x3 := View.ld_unit_zero (S := S1x2048) zeros2 _ x3
  have e : out0_7 x0 x1 x2 x3 x4 x5 = k0_pay3 x1 x2 x3 := by
    unfold_out out0_7
    rw [e1, e2, e3]
    exact View.canon_unit_zero (Val := Elt Ideal) zeros3 _ _
  rw [e]
  refine Eq.trans ?_ (layer_apply layer_facts x1 x2 x3 r j)
  refine shapeCast_apply (layer layer_facts x1 x2 x3) shapeCasts_S8x2048_S1x8x2048 (ix3 0 r j) (ix2 r j) ?_
  refine (Shape.rowMajor_val_two _).trans (Eq.trans ?_ (Shape.rowMajor_val_three _).symm)
  show r.val * 2048 + j.val = (0 * 8 + r.val) * 2048 + j.val
  omega

variable (m : (ℓ : Loc nD τ sig) → Buf (Elt Ideal) ℓ) (ρ : Dev nD → PrngReg)

/-- A run ends with each result's array as its window's points left it and the arguments unchanged. -/
theorem run_results : θ_run defs (onTc (τ := τ) (main (F := Ideal))) ⟨m, fun _ => 0, ρ⟩ fun r => ∀ c : Dev nD,
      r.2.mem ((c : Thread nD τ).loc main_v11_0) = (dats m 0 c).arrAt 6 cfg0.N
      ∧ r.2.mem ((c : Thread nD τ).loc main_v11_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 6, (h c).1 7,
    ((h c).1 1).trans (((dats m 0 c).arrAt_in 1 rfl _).trans ((A_eq m c 1).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m ρ)

end Cert.Proof.GmlpSample

end
-- ==== Proof.Gmlp.Sample.lean ====
/-
  The gated MLP over positions for the sample batch, on the extended reals: the kernel adds the eight positions of a batch to the bias one at a
  time, the reference takes all the batches' products at once, and both end at the gate's input times the causally mixed normalised rows. The
  second result is the normalised rows.
-/
module

public import proofs.«01_k».proof.Proof.Gmlp.SampleBody
public import proofs.«01_k».proof.Proof.Gen.Reference11Ideal.Run
public import proofs.«01_k».proof.Defs
public import Idealize.ShloMosaic.Lib.StackMember
public import Idealize.ShloMosaic.Lib.StableHlo.Run
public import Idealize.ShloMosaic.Lib.Pipeline.ValueKit.Geometry

@[expose] public section

noncomputable section

open Idealize.ShloMosaic Idealize.ShloMosaic.TcCoe Idealize.ShloMosaic.ValueIdx Idealize.ShloMosaic.StackMember Idealize.SL.Sem
open Idealize.ShloMosaic.Pipeline (Dat)
open scoped BigOperators

namespace Cert.Proof.GmlpSample

open Cert.Proof.Gmlp

/-- A position of a batch among the 128 the weights and the biases are given for. -/
def up (s : Fin 8) : Fin 128 := ⟨s.val, by omega⟩

/-- The batch of flat row `r` and its position in it. -/
def batch (r : Fin 64) : Fin 8 := ⟨r.val / 8, by omega⟩
def pos (r : Fin 64) : Fin 8 := ⟨r.val % 8, by omega⟩

/-- The flat row of position `s` of batch `b`. -/
def flat (b s : Fin 8) : Fin 64 := ⟨8 * b.val + s.val, by omega⟩

/-- The gated MLP's output at flat row `r` and column `j`. -/
def gated (z : (⟨2, ![64, 4096]⟩ : Shape).Idx → EReal) (lg lb : (⟨1, ![2048]⟩ : Shape).Idx → EReal) (ws : (⟨3, ![16, 128, 128]⟩ : Shape).Idx → EReal)
    (bs : (⟨2, ![16, 128]⟩ : Shape).Idx → EReal) (r : Fin 64) (j : Fin 2048) : EReal :=
  gatedAt (z (ix2 r (lo j))) (fun s => ws (ix3 (group j) (up (pos r)) (up s))) (fun s => valueOf z lg lb (flat (batch r) s) j) (pos r) (bs (ix2 (group j) (up (pos r))))

end Cert.Proof.GmlpSample

namespace Cert.Proof.GmlpSample

open Cert.Proof.Gmlp
open Cert.Kernel11Ideal Cert.Kernel11Ideal.Gen

variable (m : (ℓ : Loc nD τ sig) → Buf (Elt Ideal) ℓ)

/-- The windows' blocks at point `t`: batch `t`'s rows of the two halves of the columns, the other arrays whole. -/
theorem points : ∀ t : Fin cfg0.N, (win0_0.index t 0 = t.val ∧ win0_0.index t 1 = 0) ∧ (win0_1.index t 0 = t.val ∧ win0_1.index t 1 = 1)
    ∧ (win0_2.index t 0 = 0 ∧ win0_2.index t 1 = 0) ∧ (win0_3.index t 0 = 0 ∧ win0_3.index t 1 = 0)
    ∧ (win0_4.index t 0 = 0 ∧ win0_4.index t 1 = 0 ∧ win0_4.index t 2 = 0) ∧ (win0_5.index t 0 = 0 ∧ win0_5.index t 1 = 0)
    ∧ (win0_6.index t 0 = t.val ∧ win0_6.index t 1 = 0) ∧ (win0_7.index t 0 = t.val ∧ win0_7.index t 1 = 0 ∧ win0_7.index t 2 = 0) :=
  (by decide +kernel : ∀ t : Fin grid0.N, _)

/-- The scales and the shifts as the call reads them. -/
theorem V_scale (c : Dev nD) (u : Fin 2048) : (V m c main_v9 (ix2 0 u) : EReal) = m ((c : Thread nD τ).loc main_arg1) (ix1 u) := by
  have e : V m c main_v9 = shapeCast S1x2048 (m ((c : Thread nD τ).loc main_arg1)) shapeCasts_S2048_S1x2048 := by
    unfold_abbrev_sides
    simp only [StableHlo.after_cons, StableHlo.after_nil, List.flatten_cons, List.flatten_nil, List.append_nil, List.cons_append, List.nil_append,
      StableHlo.TRef.binary, StableHlo.TRef.nullary, StableHlo.TRef.ternary, StableHlo.TRef.unary, StableHlo.TRef.toBuf, StableHlo.TRef.ofBuf, cast_eq]
    after_results_simp <;> rfl
  rw [e]
  exact scaleRow_apply _ _ u

theorem V_shift (c : Dev nD) (u : Fin 2048) : (V m c main_v10 (ix2 0 u) : EReal) = m ((c : Thread nD τ).loc main_arg2) (ix1 u) := by
  have e : V m c main_v10 = shapeCast S1x2048 (m ((c : Thread nD τ).loc main_arg2)) shapeCasts_S2048_S1x2048 := by
    unfold_abbrev_sides
    simp only [StableHlo.after_cons, StableHlo.after_nil, List.flatten_cons, List.flatten_nil, List.append_nil, List.cons_append, List.nil_append,
      StableHlo.TRef.binary, StableHlo.TRef.nullary, StableHlo.TRef.ternary, StableHlo.TRef.unary, StableHlo.TRef.toBuf, StableHlo.TRef.ofBuf, cast_eq]
    after_results_simp <;> rfl
  rw [e]
  exact scaleRow_apply _ _ u

/-- The facts the lower triangle of the mixing weights states. -/
theorem lower_facts : LowerFacts 8 :=
  ⟨by decide, by decide, bcast_S_S8x8, bcast_S8x8_S16x8x8_1_2, bcast_S_S16x8x8⟩

/-- The first eight positions' mixing weights. -/
theorem first_apply (ws : FVec Ideal S16x128x128 .f32) (g : Fin 16) (t s : Fin 8) :
    (extractStridedSlice S16x8x8 ![0, 0, 0] ws slices_S16x128x128_S16x8x8_0_0_0 (ix3 g t s) : EReal) = ws (ix3 g (up t) (up s)) :=
  extractStridedSlice_apply _ ws _ (ix3 g t s) (ix3 g (up t) (up s)) fun a => by
    fin_cases a
    · exact (Nat.zero_add _).symm
    · exact (Nat.zero_add _).symm
    · exact (Nat.zero_add _).symm

/-- The mixing weights as the call reads them: those of position `s` at position `t`, for each column its group's. -/
theorem V_weight (c : Dev nD) (s t : Fin 8) (j : Fin 2048) :
    (V m c main_v4 (ix3 s t j) : EReal) = causal (fun s => m ((c : Thread nD τ).loc main_arg3) (ix3 (group j) (up t) (up s))) t s := by
  have e : V m c main_v4 = shapeCast S8x8x2048 (broadcastInDim S8x8x16x128 ![0, 1, 2] bcast_S8x8x16_S8x8x16x128_0_1_2
      (transpose S8x8x16 [2, 1, 0] (lower lower_facts (extractStridedSlice S16x8x8 ![0, 0, 0] (m ((c : Thread nD τ).loc main_arg3)) slices_S16x128x128_S16x8x8_0_0_0))
        transposes_S16x8x8_S8x8x16_2_1_0)) shapeCasts_S8x8x16x128_S8x8x2048 := by
    unfold_abbrev_sides
    after_results
    rfl
  rw [e]
  refine (shapeCast_apply _ _ (ix3 s t j) (ix4 s t (group j) (lane j)) ?_).trans ?_
  · refine (Shape.rowMajor_val_four _).trans (Eq.trans ?_ (Shape.rowMajor_val_three _).symm)
    show ((s.val * 8 + t.val) * 16 + j.val / 128) * 128 + j.val % 128 = (s.val * 8 + t.val) * 2048 + j.val
    omega
  refine (broadcastInDim_apply _ _ _ _ (ix3 s t (group j)) fun a => by fin_cases a <;> rfl).trans ?_
  refine (transpose_apply _ _ _ _ (ix3 (group j) t s) fun a => by fin_cases a <;> rfl).trans ?_
  refine (lower_apply lower_facts _ _ _ _).trans ?_
  exact congrArg (fun f => causal f t s) (funext fun s => first_apply _ _ t s)

/-- The biases as the call reads them: at each position, for each column its group's. -/
theorem V_bias (c : Dev nD) (t : Fin 8) (j : Fin 2048) : (V m c main_v8 (ix2 t j) : EReal) = m ((c : Thread nD τ).loc main_arg4) (ix2 (group j) (up t)) := by
  have e : V m c main_v8 = shapeCast S8x2048 (broadcastInDim S8x16x128 ![0, 1] bcast_S8x16_S8x16x128_0_1
      (transpose S8x16 [1, 0] (extractStridedSlice S16x8 ![0, 0] (m ((c : Thread nD τ).loc main_arg4)) slices_S16x128_S16x8_0_0) transposes_S16x8_S8x16_1_0))
        shapeCasts_S8x16x128_S8x2048 := by
    unfold_abbrev_sides
    after_results
    rfl
  rw [e]
  refine (shapeCast_apply _ _ (ix2 t j) (ix3 t (group j) (lane j)) ?_).trans ?_
  · refine (Shape.rowMajor_val_three _).trans (Eq.trans ?_ (Shape.rowMajor_val_two _).symm)
    show (t.val * 16 + j.val / 128) * 128 + j.val % 128 = t.val * 2048 + j.val
    omega
  refine (broadcastInDim_apply _ _ _ _ (ix2 t (group j)) fun a => by fin_cases a <;> rfl).trans ?_
  refine (transpose_apply _ _ _ _ (ix2 (group j) t) fun a => by fin_cases a <;> rfl).trans ?_
  exact extractStridedSlice_apply _ _ _ (ix2 (group j) t) (ix2 (group j) (up t)) fun a => by
    fin_cases a
    · exact (Nat.zero_add _).symm
    · exact (Nat.zero_add _).symm

/-- The gate's block at point `t`. -/
theorem gate_block (c : Dev nD) (t : Fin cfg0.N) (r : Fin 8) (j : Fin 2048) (R : Fin 64) (hR : R.val = 8 * t.val + r.val) :
    (iblk m c 0 t (ix2 r j) : EReal) = m ((c : Thread nD τ).loc main_arg0) (ix2 R (lo j)) := by
  obtain ⟨⟨a0, a1⟩, -⟩ := points t
  refine (congrFun (V_main_arg0 m c) _).trans (congrArg (m ((c : Thread nD τ).loc main_arg0)) ?_)
  funext a; apply Fin.ext; fin_cases a
  · show win0_0.index t 0 * 8 + 1 * r.val = R.val
    rw [a0]; omega
  · show win0_0.index t 1 * 2048 + 1 * j.val = j.val
    rw [a1]; omega

/-- The values' block at point `t`. -/
theorem value_block (c : Dev nD) (t : Fin cfg0.N) (r : Fin 8) (j : Fin 2048) (R : Fin 64) (hR : R.val = 8 * t.val + r.val) :
    (iblk m c 1 t (ix2 r j) : EReal) = m ((c : Thread nD τ).loc main_arg0) (ix2 R (hi j)) := by
  obtain ⟨-, ⟨a0, a1⟩, -⟩ := points t
  refine (congrFun (V_main_arg0 m c) _).trans (congrArg (m ((c : Thread nD τ).loc main_arg0)) ?_)
  funext a; apply Fin.ext; fin_cases a
  · show win0_1.index t 0 * 8 + 1 * r.val = R.val
    rw [a0]; omega
  · show win0_1.index t 1 * 2048 + 1 * j.val = 2048 + j.val
    rw [a1]; omega

/-- The scales' block, the shifts' block, the mixing weights' block and the biases' block, at every point. -/
theorem scale_block (c : Dev nD) (t : Fin cfg0.N) (u : Fin 2048) : (iblk m c 2 t (ix2 0 u) : EReal) = m ((c : Thread nD τ).loc main_arg1) (ix1 u) := by
  obtain ⟨-, -, ⟨a0, a1⟩, -⟩ := points t
  refine Eq.trans (congrArg (V m c main_v9) ?_) (V_scale m c u)
  funext a; apply Fin.ext; fin_cases a
  · show win0_2.index t 0 * 1 + 1 * 0 = 0
    rw [a0]
  · show win0_2.index t 1 * 2048 + 1 * u.val = u.val
    rw [a1]; omega

theorem shift_block (c : Dev nD) (t : Fin cfg0.N) (u : Fin 2048) : (iblk m c 3 t (ix2 0 u) : EReal) = m ((c : Thread nD τ).loc main_arg2) (ix1 u) := by
  obtain ⟨-, -, -, ⟨a0, a1⟩, -⟩ := points t
  refine Eq.trans (congrArg (V m c main_v10) ?_) (V_shift m c u)
  funext a; apply Fin.ext; fin_cases a
  · show win0_3.index t 0 * 1 + 1 * 0 = 0
    rw [a0]
  · show win0_3.index t 1 * 2048 + 1 * u.val = u.val
    rw [a1]; omega

theorem weight_block (c : Dev nD) (t : Fin cfg0.N) (s r : Fin 8) (j : Fin 2048) :
    (iblk m c 4 t (ix3 s r j) : EReal) = causal (fun s => m ((c : Thread nD τ).loc main_arg3) (ix3 (group j) (up r) (up s))) r s := by
  obtain ⟨-, -, -, -, ⟨a0, a1, a2⟩, -⟩ := points t
  refine Eq.trans (congrArg (V m c main_v4) ?_) (V_weight m c s r j)
  funext a; apply Fin.ext; fin_cases a
  · show win0_4.index t 0 * 8 + 1 * s.val = s.val
    rw [a0]; omega
  · show win0_4.index t 1 * 8 + 1 * r.val = r.val
    rw [a1]; omega
  · show win0_4.index t 2 * 2048 + 1 * j.val = j.val
    rw [a2]; omega

theorem bias_block (c : Dev nD) (t : Fin cfg0.N) (r : Fin 8) (j : Fin 2048) :
    (iblk m c 5 t (ix2 r j) : EReal) = m ((c : Thread nD τ).loc main_arg4) (ix2 (group j) (up r)) := by
  obtain ⟨-, -, -, -, -, ⟨a0, a1⟩, -⟩ := points t
  refine Eq.trans (congrArg (V m c main_v8) ?_) (V_bias m c r j)
  funext a; apply Fin.ext; fin_cases a
  · show win0_5.index t 0 * 8 + 1 * r.val = r.val
    rw [a0]; omega
  · show win0_5.index t 1 * 2048 + 1 * j.val = j.val
    rw [a1]; omega

/-- The normalised values of a row of the block at point `t`. -/
theorem values_block (c : Dev nD) (t : Fin cfg0.N) (r : Fin 8) (j : Fin 2048) (R : Fin 64) (hR : R.val = 8 * t.val + r.val) :
    layerAt (fun u => iblk m c 1 t (ix2 r u)) (fun u => iblk m c 2 t (ix2 0 u)) (fun u => iblk m c 3 t (ix2 0 u)) j
      = valueOf (m ((c : Thread nD τ).loc main_arg0)) (m ((c : Thread nD τ).loc main_arg1)) (m ((c : Thread nD τ).loc main_arg2)) R j := by
  have h1 : (fun u => (iblk m c 1 t (ix2 r u) : EReal)) = fun u => m ((c : Thread nD τ).loc main_arg0) (ix2 R (hi u)) := funext fun u => value_block m c t r u R hR
  have h2 : (fun u => (iblk m c 2 t (ix2 0 u) : EReal)) = fun u => m ((c : Thread nD τ).loc main_arg1) (ix1 u) := funext fun u => scale_block m c t u
  have h3 : (fun u => (iblk m c 3 t (ix2 0 u) : EReal)) = fun u => m ((c : Thread nD τ).loc main_arg2) (ix1 u) := funext fun u => shift_block m c t u
  exact congrFun (congr (congrArg₂ layerAt h1 h2) h3) j

/-- The first result after the run: the gated MLP's output. -/
theorem final_out (c : Dev nD) : (dats m 0 c).arrAt 6 cfg0.N
    = fun i : S64x2048.Idx => gated (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) := by
  refine (dats m 0 c).arrAt_eq_of_covers 6 _ (by decide +kernel) fun t hf (y : S8x2048.Idx) => ?_
  obtain ⟨-, -, -, -, -, -, ⟨e0, e1⟩, -⟩ := points t
  have hy0 : (y 0).val < 8 := (y 0).isLt
  show (dats m 0 c).after 6 t y = gated _ _ _ _ _ ((((cfg0.win 6).blk t).view.emb y) 0) ((((cfg0.win 6).blk t).view.emb y) 1)
  have r0 : ((((cfg0.win 6).blk t).view.emb y) 0).val = 8 * t.val + (y 0).val := by
    show win0_6.index t 0 * 8 + 1 * (y 0).val = _
    rw [e0]; omega
  have r1 : (((cfg0.win 6).blk t).view.emb y) 1 = y 1 := by
    apply Fin.ext
    show win0_6.index t 1 * 2048 + 1 * (y 1).val = (y 1).val
    rw [e1]; omega
  rw [r1]
  generalize (((cfg0.win 6).blk t).view.emb y) 0 = R at r0 ⊢
  change Fin 64 at R
  rw [after0_6]
  refine (congrArg (out0_6 (iblk m c 0 t) (iblk m c 1 t) (iblk m c 2 t) (iblk m c 3 t) (iblk m c 4 t) (iblk m c 5 t)) (eq_ix2 y)).trans ?_
  refine (out_apply _ _ _ _ _ _ (y 0) (y 1)).trans ?_
  have hp : y 0 = pos R := Fin.ext (by show (y 0).val = R.val % 8; omega)
  unfold gated gatedAt
  rw [← hp]
  refine congrArg₂ (fun a b : EReal => a * b) (gate_block m c t (y 0) (y 1) R r0) (congrArg₂ (fun a b : EReal => a + b) (Finset.sum_congr rfl fun s _ => ?_)
    (bias_block m c t (y 0) (y 1)))
  exact congrArg₂ (fun a b : EReal => a * b) (weight_block m c t s (y 0) (y 1))
    (values_block m c t s (y 1) (flat (batch R) s) (by show 8 * (R.val / 8) + s.val = _; omega))

/-- The second result after the run: the normalised values of each batch. -/
theorem final_values (c : Dev nD) : (dats m 0 c).arrAt 7 cfg0.N
    = fun i : S8x8x2048.Idx => valueOf (m ((c : Thread nD τ).loc main_arg0)) (m ((c : Thread nD τ).loc main_arg1)) (m ((c : Thread nD τ).loc main_arg2))
        (flat (i 0) (i 1)) (i 2) := by
  refine (dats m 0 c).arrAt_eq_of_covers 7 _ (by decide +kernel) fun t hf (y : S1x8x2048.Idx) => ?_
  obtain ⟨-, -, -, -, -, -, -, e0, e1, e2⟩ := points t
  have hy0 : (y 0).val < 1 := (y 0).isLt
  show (dats m 0 c).after 7 t y = valueOf _ _ _ (flat ((((cfg0.win 7).blk t).view.emb y) 0) ((((cfg0.win 7).blk t).view.emb y) 1)) ((((cfg0.win 7).blk t).view.emb y) 2)
  have r0 : ((((cfg0.win 7).blk t).view.emb y) 0).val = t.val := by
    show win0_7.index t 0 * 1 + 1 * (y 0).val = _
    rw [e0]; omega
  have r1 : (((cfg0.win 7).blk t).view.emb y) 1 = y 1 := by
    apply Fin.ext
    show win0_7.index t 1 * 8 + 1 * (y 1).val = (y 1).val
    rw [e1]; omega
  have r2 : (((cfg0.win 7).blk t).view.emb y) 2 = y 2 := by
    apply Fin.ext
    show win0_7.index t 2 * 2048 + 1 * (y 2).val = (y 2).val
    rw [e2]; omega
  rw [r1, r2]
  generalize (((cfg0.win 7).blk t).view.emb y) 0 = B at r0 ⊢
  change Fin 8 at B
  rw [after0_7]
  have ey : y = ix3 0 (y 1) (y 2) := by
    refine (eq_ix3 y).trans (congrArg (fun a => ix3 a (y 1) (y 2)) (Fin.ext ?_))
    show (y 0).val = 0
    omega
  refine (congrArg (out0_7 (iblk m c 0 t) (iblk m c 1 t) (iblk m c 2 t) (iblk m c 3 t) (iblk m c 4 t) (iblk m c 5 t)) ey).trans ?_
  refine (value_apply _ _ _ _ _ _ (y 1) (y 2)).trans ?_
  exact values_block m c t (y 1) (y 2) (flat B (y 1)) (by show 8 * B.val + (y 1).val = _; rw [r0])

end Cert.Proof.GmlpSample

namespace Cert.Proof.GmlpSample

open Cert.Proof.Gmlp
open Cert.Reference11Ideal Cert.Reference11Ideal.Gen

theorem token_facts : TokenFacts 8 8 :=
  ⟨by decide, by decide, reducesTo_S8x8x2048_S8x8_d2, by decide, h_S_, bcast_S8x8_S8x8x1_0_1, bcast_S_S8x8x1,
    bcast_S8x8x1_S8x8x2048_0_1_2, bcast_S2048_S1x1x2048_2, bcast_S1x1x2048_S8x8x2048_0_1_2⟩

/-- The normalised values of all the batches. -/
def values (z : FVec Ideal S64x4096 .f32) (lg lb : FVec Ideal S2048 .f32) : FVec Ideal S8x8x2048 .f32 :=
  tokenLayer token_facts (extractStridedSlice S8x8x2048 ![0, 0, 2048] (shapeCast S8x8x4096 z shapeCasts_S64x4096_S8x8x4096)
    slices_S8x8x4096_S8x8x2048_0_0_2048) lg lb

/-- The values of all the batches mixed over their positions. -/
def mix (V : FVec Ideal S8x8x2048 .f32) (ws : FVec Ideal S16x128x128 .f32) : FVec Ideal S16x8x1x128x8 .f32 :=
  Host.dotGeneral dot_S8x1x8x16x128_S16x8x8_S16x8x1x128x8_2_2_014_1_3_0 none (shapeCast S8x1x8x16x128 V shapeCasts_S8x8x2048_S8x1x8x16x128)
    (lower lower_facts (extractStridedSlice S16x8x8 ![0, 0, 0] ws slices_S16x128x128_S16x8x8_0_0_0))

/-- The biases spread over the batches and the columns of a group. -/
def biases (bs : FVec Ideal S16x128 .f32) : FVec Ideal S8x1x8x16x128 .f32 :=
  broadcastInDim S8x1x8x16x128 ![0, 1, 2, 3, 4] bcast_S1x1x8x16x1_S8x1x8x16x128_0_1_2_3_4
    (broadcastInDim S1x1x8x16x1 ![2, 3] bcast_S8x16_S1x1x8x16x1_2_3
      (transpose S8x16 [1, 0] (extractStridedSlice S16x8 ![0, 0] bs slices_S16x128_S16x8_0_0) transposes_S16x8_S8x16_1_0))

/-- The reference's output, batches of positions. -/
def product (z : FVec Ideal S64x4096 .f32) (lg lb : FVec Ideal S2048 .f32) (ws : FVec Ideal S16x128x128 .f32) (bs : FVec Ideal S16x128 .f32) : FVec Ideal S8x8x2048 .f32 :=
  mulf (extractStridedSlice S8x8x2048 ![0, 0, 0] (shapeCast S8x8x4096 z shapeCasts_S64x4096_S8x8x4096) slices_S8x8x4096_S8x8x2048_0_0_0)
    (shapeCast S8x8x2048 (addf (transpose S8x1x8x16x128 [1, 2, 4, 0, 3] (mix (values z lg lb) ws) transposes_S16x8x1x128x8_S8x1x8x16x128_1_2_4_0_3) (biases bs))
      shapeCasts_S8x1x8x16x128_S8x8x2048)

/-- The reference's output, flat rows. -/
def output (z : FVec Ideal S64x4096 .f32) (lg lb : FVec Ideal S2048 .f32) (ws : FVec Ideal S16x128x128 .f32) (bs : FVec Ideal S16x128 .f32) : FVec Ideal S64x2048 .f32 :=
  shapeCast S64x2048 (product z lg lb ws bs) shapeCasts_S8x8x2048_S64x2048

theorem split_apply (z : FVec Ideal S64x4096 .f32) (b t : Fin 8) (j : Fin 4096) :
    (shapeCast S8x8x4096 z shapeCasts_S64x4096_S8x8x4096 (ix3 b t j) : EReal) = z (ix2 (flat b t) j) := by
  refine shapeCast_apply _ _ _ _ ?_
  refine (Shape.rowMajor_val_two _).trans (Eq.trans ?_ (Shape.rowMajor_val_three _).symm)
  show (8 * b.val + t.val) * 4096 + j.val = (b.val * 8 + t.val) * 4096 + j.val
  omega

theorem values_apply (z : FVec Ideal S64x4096 .f32) (lg lb : FVec Ideal S2048 .f32) (b t : Fin 8) (j : Fin 2048) :
    (values z lg lb (ix3 b t j) : EReal) = valueOf z lg lb (flat b t) j := by
  refine (tokenLayer_apply token_facts _ lg lb b t j).trans ?_
  refine congrArg (fun f => layerAt f _ _ j) (funext fun u => ?_)
  refine (extractStridedSlice_apply _ _ _ (ix3 b t u) (ix3 b t (hi u)) fun a => ?_).trans (split_apply z b t (hi u))
  fin_cases a
  · exact (Nat.zero_add _).symm
  · exact (Nat.zero_add _).symm
  · rfl

theorem mix_apply (V : FVec Ideal S8x8x2048 .f32) (ws : FVec Ideal S16x128x128 .f32) (g : Fin 16) (b : Fin 8) (d : Fin 128) (t : Fin 8) :
    (mix V ws (ix5 g b 0 d t) : EReal)
      = ∑ s : Fin 8, causal (fun s => ws (ix3 g (up t) (up s))) t s * V (ix3 b s (groupCol g d)) := by
  show FloatOps.dotGeneral _ none _ _ _ (ix5 g b 0 d t) = _
  rw [Ideal.dotGeneral_apply, ← Equiv.sum_comp (contrEquiv1 dot_S8x1x8x16x128_S16x8x8_S16x8x1x128x8_2_2_014_1_3_0 8 rfl rfl).symm]
  refine Finset.sum_congr rfl fun s _ => ?_
  have e := contrEquiv1_symm_val dot_S8x1x8x16x128_S16x8x8_S16x8x1x128x8_2_2_014_1_3_0 8 rfl rfl s
  refine (congrArg₂ (fun a b : EReal => a * b) ((congrArg (shapeCast S8x1x8x16x128 V shapeCasts_S8x8x2048_S8x1x8x16x128) (?_ : _ = ix5 b 0 s g d)).trans ?_)
    ((congrArg (lower lower_facts _) (?_ : _ = ix3 g t s)).trans ((lower_apply lower_facts _ g t s).trans
      (congrArg (fun f => causal f t s) (funext fun s => first_apply ws g t s))))).trans (mul_comm _ _)
  · funext a; apply Fin.ext
    match a with
    | ⟨0, _⟩ => rfl
    | ⟨1, _⟩ => rfl
    | ⟨2, _⟩ => exact e
    | ⟨3, _⟩ => rfl
    | ⟨4, _⟩ => rfl
  · refine shapeCast_apply _ _ _ _ ?_
    refine (Shape.rowMajor_val_three _).trans (Eq.trans ?_ (Shape.rowMajor_val_five _).symm)
    show (b.val * 8 + s.val) * 2048 + (128 * g.val + d.val) = (((b.val * 1 + 0) * 8 + s.val) * 16 + g.val) * 128 + d.val
    omega
  · funext a; apply Fin.ext
    match a with
    | ⟨0, _⟩ => rfl
    | ⟨1, _⟩ => rfl
    | ⟨2, _⟩ => exact e

theorem biases_apply (bs : FVec Ideal S16x128 .f32) (b t : Fin 8) (g : Fin 16) (d : Fin 128) :
    (biases bs (ix5 b 0 t g d) : EReal) = bs (ix2 g (up t)) := by
  refine (broadcastInDim_apply _ _ _ _ (ix5 0 0 t g 0) fun a => by fin_cases a <;> rfl).trans ?_
  refine (broadcastInDim_apply _ _ _ _ (ix2 t g) fun a => by fin_cases a <;> rfl).trans ?_
  refine (transpose_apply _ _ _ _ (ix2 g t) fun a => by fin_cases a <;> rfl).trans ?_
  exact extractStridedSlice_apply _ bs _ (ix2 g t) (ix2 g (up t)) fun a => by
    fin_cases a
    · exact (Nat.zero_add _).symm
    · exact (Nat.zero_add _).symm

/-- The reference's output is the gated MLP's. -/
theorem output_apply (z : FVec Ideal S64x4096 .f32) (lg lb : FVec Ideal S2048 .f32) (ws : FVec Ideal S16x128x128 .f32) (bs : FVec Ideal S16x128 .f32)
    (r : Fin 64) (j : Fin 2048) : (output z lg lb ws bs (ix2 r j) : EReal) = gated z lg lb ws bs r j := by
  have hr : flat (batch r) (pos r) = r := Fin.ext (by show 8 * (r.val / 8) + r.val % 8 = r.val; omega)
  refine (shapeCast_apply (product z lg lb ws bs) shapeCasts_S8x8x2048_S64x2048 (ix2 r j) (ix3 (batch r) (pos r) j) ?_).trans ?_
  · refine (Shape.rowMajor_val_three _).trans (Eq.trans ?_ (Shape.rowMajor_val_two _).symm)
    show (r.val / 8 * 8 + r.val % 8) * 2048 + j.val = r.val * 2048 + j.val
    omega
  refine congrArg₂ (fun a b : EReal => a * b) ?_ ?_
  · refine (extractStridedSlice_apply _ _ _ _ (ix3 (batch r) (pos r) (lo j)) fun a => ?_).trans ((split_apply z _ _ _).trans (by rw [hr]))
    fin_cases a
    · exact (Nat.zero_add _).symm
    · exact (Nat.zero_add _).symm
    · exact (Nat.zero_add _).symm
  · refine (shapeCast_apply (α := EReal) _ shapeCasts_S8x1x8x16x128_S8x8x2048 _ (ix5 (batch r) 0 (pos r) (group j) (lane j)) ?_).trans ?_
    · refine (Shape.rowMajor_val_five _).trans (Eq.trans ?_ (Shape.rowMajor_val_three _).symm)
      show (((r.val / 8 * 1 + 0) * 8 + r.val % 8) * 16 + j.val / 128) * 128 + j.val % 128 = (r.val / 8 * 8 + r.val % 8) * 2048 + j.val
      omega
    refine congrArg₂ (fun a b : EReal => a + b) ?_ (biases_apply bs _ _ _ _)
    refine (transpose_apply _ _ _ _ (ix5 (group j) (batch r) 0 (lane j) (pos r)) fun a => by fin_cases a <;> rfl).trans ?_
    refine (mix_apply _ _ _ _ _ _).trans (Finset.sum_congr rfl fun s _ => congrArg₂ (fun a b : EReal => a * b) rfl ?_)
    refine (values_apply _ _ _ _ _ _).trans (congrArg (valueOf z lg lb _) (Fin.ext ?_))
    show 128 * (j.val / 128) + j.val % 128 = j.val
    omega

/-- The two programs compute the same function: from equal arguments the first results end at the gated MLP's output and the second at the
    normalised values of each batch. -/
theorem algebraic (hK : Cert.Kernel11Ideal.Facts) (hR : Cert.Reference11Ideal.Facts) :
    Cert.algebraic_Kernel11Ideal_Reference11Ideal (hKernel11Ideal := hK) (hReference11Ideal := hR) := by
  intro m g m' g' _ hm
  refine ⟨fun c => fun i : Cert.Kernel11Ideal.S64x2048.Idx => gated
      (m ((c.tc : Thread Cert.Kernel11Ideal.nD Cert.Kernel11Ideal.τ).loc Cert.Kernel11Ideal.main_arg0))
      (m ((c.tc : Thread Cert.Kernel11Ideal.nD Cert.Kernel11Ideal.τ).loc Cert.Kernel11Ideal.main_arg1))
      (m ((c.tc : Thread Cert.Kernel11Ideal.nD Cert.Kernel11Ideal.τ).loc Cert.Kernel11Ideal.main_arg2))
      (m ((c.tc : Thread Cert.Kernel11Ideal.nD Cert.Kernel11Ideal.τ).loc Cert.Kernel11Ideal.main_arg3))
      (m ((c.tc : Thread Cert.Kernel11Ideal.nD Cert.Kernel11Ideal.τ).loc Cert.Kernel11Ideal.main_arg4)) (i 0) (i 1),
    fun c => fun i : Cert.Kernel11Ideal.S8x8x2048.Idx => valueOf
      (m ((c.tc : Thread Cert.Kernel11Ideal.nD Cert.Kernel11Ideal.τ).loc Cert.Kernel11Ideal.main_arg0))
      (m ((c.tc : Thread Cert.Kernel11Ideal.nD Cert.Kernel11Ideal.τ).loc Cert.Kernel11Ideal.main_arg1))
      (m ((c.tc : Thread Cert.Kernel11Ideal.nD Cert.Kernel11Ideal.τ).loc Cert.Kernel11Ideal.main_arg2)) (flat (i 0) (i 1)) (i 2),
    (θ_run _ _ _).mono (fun r h c => ⟨(h c).1.trans (final_out m c), (h c).2.1.trans (final_values m c), (h c).2.2⟩) (run_results m g),
    (θ_run _ _ _).mono (fun r h c => ⟨(h c).1.trans ?_, (h c).2.1.trans ?_, (h c).2.2⟩) (Cert.Reference11Ideal.Value.run m' g')⟩
  · rw [(hm c).1, (hm c).2.1, (hm c).2.2.1, (hm c).2.2.2.1, (hm c).2.2.2.2]
    funext i
    rw [eq_ix2 i]
    exact output_apply _ _ _ _ _ (i 0) (i 1)
  · rw [(hm c).1, (hm c).2.1, (hm c).2.2.1]
    funext i
    rw [eq_ix3 i]
    exact values_apply _ _ _ _ _ _

end Cert.Proof.GmlpSample

end
-- ==== Proof.lean ====
/-
  The certificate's claims, put together: the stick-breaking attention over the prompt (Proof/Stick, Proof/StickBits), the MLP's
  two products (Proof/Mlp), the mixers' projections (Proof/Proj), the sample batch's products (Proof/Sample) and the gated MLP over positions (Proof/Gmlp),
  behind the witnesses of the facts the printed programs state.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Stick.Run
public import proofs.«01_k».proof.Proof.Stick.Algebraic
public import proofs.«01_k».proof.Proof.StickBits.Run
public import proofs.«01_k».proof.Proof.Mlp.Up
public import proofs.«01_k».proof.Proof.Mlp.Down
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Reference7Ideal.Run
public import proofs.«01_k».proof.Proof.Gen.Kernel8.Frame
public import proofs.«01_k».proof.Proof.Gen.Reference8Ideal.Run
public import proofs.«01_k».proof.Proof.Gen.Kernel9.Frame
public import proofs.«01_k».proof.Proof.Gen.Reference9Ideal.Run
public import proofs.«01_k».proof.Proof.Proj.Even
public import proofs.«01_k».proof.Proof.Proj.Odd
public import proofs.«01_k».proof.Proof.Proj.Out
public import proofs.«01_k».proof.Proof.Sample.Even
public import proofs.«01_k».proof.Proof.Sample.Odd
public import proofs.«01_k».proof.Proof.Sample.Down
public import proofs.«01_k».proof.Proof.Gen.Kernel10.Frame
public import proofs.«01_k».proof.Proof.Gen.Kernel11.Frame
public import proofs.«01_k».proof.Proof.Gen.Reference10Ideal.Run
public import proofs.«01_k».proof.Proof.Gen.Reference11Ideal.Run
public import proofs.«01_k».proof.Proof.Gmlp.Prompt
public import proofs.«01_k».proof.Proof.Gmlp.Sample
public import Idealize.ShloMosaic.Adequacy
public import Idealize.ShloMosaic.Init

@[expose] public section

noncomputable section

namespace Cert.Proof

open Idealize.ShloMosaic Idealize.SL.Sem

/-- The reference attention runs to its end, its arguments unchanged and every semaphore at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the attention's precondition, which the run does not need. -/
theorem frame_reference_finite : Cert.quiescent_ReferenceIdeal_pre_finite_scores (hReferenceIdeal := Cert.ReferenceIdeal.Gen.facts)
    (hPre_finite_scores := Stick.Ref.pre_facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference up-projection runs to its end, its arguments unchanged and every semaphore at zero. -/
theorem frame_reference_up : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference down-projection runs to its end, its arguments unchanged and every semaphore at zero. -/
theorem frame_reference_down : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference even projection runs to its end, its arguments unchanged and every semaphore at zero. -/
theorem frame_reference_even : Cert.quiescent_Reference4Ideal (hReference4Ideal := Cert.Reference4Ideal.Gen.facts) := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

/-- The reference odd projection runs to its end, its arguments unchanged and every semaphore at zero. -/
theorem frame_reference_odd : Cert.quiescent_Reference5Ideal (hReference5Ideal := Cert.Reference5Ideal.Gen.facts) := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

/-- The reference output projection runs to its end, its arguments unchanged and every semaphore at zero. -/
theorem frame_reference_out : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- The reference even projection of the sample batch runs to its end, its arguments unchanged and every semaphore at zero. -/
theorem frame_reference_even_sample : Cert.quiescent_Reference7Ideal (hReference7Ideal := Cert.Reference7Ideal.Gen.facts) := fun m ρ _ =>
  (θ_run Cert.Reference7Ideal.defs _ _).mono (fun r h => ⟨fun c => (h c).2.2.2.2, sem_eq_zero_of_no_sems (by decide) r.2⟩)
    (Cert.Reference7Ideal.Value.run (F := Ideal) m ρ)

/-- The reference odd projection of the sample batch runs to its end, its arguments unchanged and every semaphore at zero. -/
theorem frame_reference_odd_sample : Cert.quiescent_Reference8Ideal (hReference8Ideal := Cert.Reference8Ideal.Gen.facts) := fun m ρ _ =>
  (θ_run Cert.Reference8Ideal.defs _ _).mono (fun r h => ⟨fun c => (h c).2.2.2.2, sem_eq_zero_of_no_sems (by decide) r.2⟩)
    (Cert.Reference8Ideal.Value.run (F := Ideal) m ρ)

/-- The reference down-projection of the sample batch runs to its end, its arguments unchanged and every semaphore at zero. -/
theorem frame_reference_down_sample : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

/-- The reference gated MLP of the prompt runs to its end, its arguments unchanged and every semaphore at zero. -/
theorem frame_reference_gmlp : Cert.quiescent_Reference10Ideal (hReference10Ideal := Cert.Reference10Ideal.Gen.facts) := fun m ρ _ =>
  (θ_run Cert.Reference10Ideal.defs _ _).mono (fun r h => ⟨fun c => (h c).2.2, sem_eq_zero_of_no_sems (by decide) r.2⟩)
    (Cert.Reference10Ideal.Value.run (F := Ideal) m ρ)

/-- The reference gated MLP of the sample batch runs to its end, its arguments unchanged and every semaphore at zero. -/
theorem frame_reference_gmlp_sample : Cert.quiescent_Reference11Ideal (hReference11Ideal := Cert.Reference11Ideal.Gen.facts) := fun m ρ _ =>
  (θ_run Cert.Reference11Ideal.defs _ _).mono (fun r h => ⟨fun c => (h c).2.2, sem_eq_zero_of_no_sems (by decide) r.2⟩)
    (Cert.Reference11Ideal.Value.run (F := Ideal) m ρ)

/-- Everything the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Stick.Ref.pre_facts,
    fun m ρ _ => StickBits.frame m ρ, fun m ρ _ => Stick.frame m ρ, fun m ρ _ => Stick.frame m ρ, frame_reference, frame_reference_finite,
    fun m ρ _ => Cert.Kernel2.Gen.frame m ρ, fun m ρ _ => Cert.Kernel2Ideal.Gen.frame m ρ, frame_reference_up,
    fun m ρ _ => Cert.Kernel3.Gen.frame m ρ, fun m ρ _ => Cert.Kernel3Ideal.Gen.frame m ρ, frame_reference_down,
    fun m ρ _ => Cert.Kernel4.Gen.frame m ρ, fun m ρ _ => Cert.Kernel4Ideal.Gen.frame m ρ, frame_reference_even,
    fun m ρ _ => Cert.Kernel5.Gen.frame m ρ, fun m ρ _ => Cert.Kernel5Ideal.Gen.frame m ρ, frame_reference_odd,
    fun m ρ _ => Cert.Kernel6.Gen.frame m ρ, fun m ρ _ => Cert.Kernel6Ideal.Gen.frame m ρ, frame_reference_out,
    fun m ρ _ => Cert.Kernel7.Gen.frame m ρ, fun m ρ _ => Cert.Kernel7Ideal.Gen.frame m ρ, frame_reference_even_sample,
    fun m ρ _ => Cert.Kernel8.Gen.frame m ρ, fun m ρ _ => Cert.Kernel8Ideal.Gen.frame m ρ, frame_reference_odd_sample,
    fun m ρ _ => Cert.Kernel9.Gen.frame m ρ, fun m ρ _ => Cert.Kernel9Ideal.Gen.frame m ρ, frame_reference_down_sample,
    fun m ρ _ => Cert.Kernel10.Gen.frame m ρ, fun m ρ _ => Cert.Kernel10Ideal.Gen.frame m ρ, frame_reference_gmlp,
    fun m ρ _ => Cert.Kernel11.Gen.frame m ρ, fun m ρ _ => Cert.Kernel11Ideal.Gen.frame m ρ, frame_reference_gmlp_sample,
    IdealRules.named_const.statement Cert.KernelIdeal.κ "sb_exit" .f32 0xC2D00000#32 ⊥ rfl,
    Stick.algebraic _ _ _,
    trivial, Up.algebraic _ _, trivial, Down.algebraic _ _,
    trivial, Even.algebraic _ _, trivial, Odd.algebraic _ _, trivial, Out.algebraic _ _,
    trivial, EvenSample.algebraic _ _, trivial, OddSample.algebraic _ _, trivial, DownSample.algebraic _ _,
    trivial, GmlpPrompt.algebraic _ _, trivial, GmlpSample.algebraic _ _⟩

end Cert.Proof

end
